-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v14)) (v6 : (c : Dev Cert.KernelIdeal.nD) → Buf (Elt Ideal) ((c.tc : Thread Cert.KernelIdeal.nD Cert.KernelIdeal.τ).loc Cert.KernelIdeal.main_v15)) (v7 : (c : Dev Cert.KernelIdeal.nD) → Buf (Elt Ideal) ((c.tc : Thread Cert.KernelIdeal.nD Cert.KernelIdeal.τ).loc Cert.KernelIdeal.main_v16)) (v8 : (c : Dev Cert.KernelIdeal.nD) → Buf (Elt Ideal) ((c.tc : Thread Cert.KernelIdeal.nD Cert.KernelIdeal.τ).loc Cert.KernelIdeal.main_v17)) (v9 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v14) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_v16) = v7 c
          ∧ r.2.mem ((c.tc : Thread Cert.KernelIdeal.nD Cert.KernelIdeal.τ).loc Cert.KernelIdeal.main_v17) = v8 c
          ∧ r.2.mem ((c.tc : Thread Cert.KernelIdeal.nD Cert.KernelIdeal.τ).loc Cert.KernelIdeal.main_v18) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v571) = v0 c
          ∧ r.2.mem ((c.tc : Thread Cert.ReferenceIdeal.nD Cert.ReferenceIdeal.τ).loc Cert.ReferenceIdeal.main_v585) = v1 c
          ∧ r.2.mem ((c.tc : Thread Cert.ReferenceIdeal.nD Cert.ReferenceIdeal.τ).loc Cert.ReferenceIdeal.main_v411) = v2 c
          ∧ r.2.mem ((c.tc : Thread Cert.ReferenceIdeal.nD Cert.ReferenceIdeal.τ).loc Cert.ReferenceIdeal.main_v465) = v3 c
          ∧ r.2.mem ((c.tc : Thread Cert.ReferenceIdeal.nD Cert.ReferenceIdeal.τ).loc Cert.ReferenceIdeal.main_v519) = v4 c
          ∧ r.2.mem ((c.tc : Thread Cert.ReferenceIdeal.nD Cert.ReferenceIdeal.τ).loc Cert.ReferenceIdeal.main_v573) = v5 c
          ∧ r.2.mem ((c.tc : Thread Cert.ReferenceIdeal.nD Cert.ReferenceIdeal.τ).loc Cert.ReferenceIdeal.main_v400) = v6 c
          ∧ r.2.mem ((c.tc : Thread Cert.ReferenceIdeal.nD Cert.ReferenceIdeal.τ).loc Cert.ReferenceIdeal.main_v454) = v7 c
          ∧ r.2.mem ((c.tc : Thread Cert.ReferenceIdeal.nD Cert.ReferenceIdeal.τ).loc Cert.ReferenceIdeal.main_v508) = v8 c
          ∧ r.2.mem ((c.tc : Thread Cert.ReferenceIdeal.nD Cert.ReferenceIdeal.τ).loc Cert.ReferenceIdeal.main_v562) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x64x24x24 : Shape := ⟨4, ![4, 64, 24, 24]⟩
abbrev S8192x64 : Shape := ⟨2, ![8192, 64]⟩
abbrev S4x2 : Shape := ⟨2, ![4, 2]⟩
abbrev S4x24x24x64 : Shape := ⟨4, ![4, 24, 24, 64]⟩
abbrev S2304x64 : Shape := ⟨2, ![2304, 64]⟩
abbrev S_ : Shape := ⟨0, ![]⟩
abbrev S8192 : Shape := ⟨1, ![8192]⟩
abbrev S1x8192 : Shape := ⟨2, ![1, 8192]⟩
abbrev S2304x8192 : Shape := ⟨2, ![2304, 8192]⟩
abbrev S2304x1 : Shape := ⟨2, ![2304, 1]⟩
abbrev S18x1x1 : Shape := ⟨3, ![18, 1, 1]⟩
abbrev S128x64 : Shape := ⟨2, ![128, 64]⟩
abbrev S128x8192 : Shape := ⟨2, ![128, 8192]⟩
abbrev S128x1 : Shape := ⟨2, ![128, 1]⟩
abbrev S1x1x1 : Shape := ⟨3, ![1, 1, 1]⟩
abbrev S1x1 : Shape := ⟨2, ![1, 1]⟩
abbrev S128 : Shape := ⟨1, ![128]⟩
abbrev S1x128x64 : Shape := ⟨3, ![1, 128, 64]⟩
abbrev S1 : Shape := ⟨1, ![1]⟩
abbrev S4x24x24 : Shape := ⟨3, ![4, 24, 24]⟩
abbrev S4x24x24x8192 : Shape := ⟨4, ![4, 24, 24, 8192]⟩

abbrev nBuf : Space → Nat
  | .hbm => 35
  | .vmem => 26
  | .smem => 1
  | _ => 0

abbrev bufTy : (tb : Table) → Fin (tcTables nBuf tb) → BufTy
  | .hbm, ⟨0, _⟩ => ⟨S4x64x24x24, .f32⟩
  | .hbm, ⟨1, _⟩ => ⟨S8192x64, .f32⟩
  | .hbm, ⟨2, _⟩ => ⟨S4x2, .i32⟩
  | .hbm, ⟨3, _⟩ => ⟨S4x24x24x64, .f32⟩
  | .hbm, ⟨4, _⟩ => ⟨S2304x64, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S1x8192, .f32⟩
  | .hbm, ⟨9, _⟩ => ⟨S2304x64, .f32⟩
  | .hbm, ⟨10, _⟩ => ⟨S2304x8192, .f32⟩
  | .hbm, ⟨11, _⟩ => ⟨S2304x8192, .f32⟩
  | .hbm, ⟨12, _⟩ => ⟨S2304x8192, .f32⟩
  | .hbm, ⟨13, _⟩ => ⟨S2304x8192, .f32⟩
  | .hbm, ⟨14, _⟩ => ⟨S2304x1, .i32⟩
  | .hbm, ⟨15, _⟩ => ⟨S2304x1, .i32⟩
  | .hbm, ⟨16, _⟩ => ⟨S2304x1, .i32⟩
  | .hbm, ⟨17, _⟩ => ⟨S2304x1, .i32⟩
  | .hbm, ⟨18, _⟩ => ⟨S18x1x1, .f32⟩
  | .hbm, ⟨19, _⟩ => ⟨S4x24x24x64, .f32⟩
  | .hbm, ⟨20, _⟩ => ⟨S4x64x24x24, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x24x24, .i32⟩
  | .hbm, ⟨28, _⟩ => ⟨S4x24x24, .i32⟩
  | .hbm, ⟨29, _⟩ => ⟨S4x24x24, .i32⟩
  | .hbm, ⟨30, _⟩ => ⟨S4x24x24, .i32⟩
  | .hbm, ⟨31, _⟩ => ⟨S4x24x24x8192, .f32⟩
  | .hbm, ⟨32, _⟩ => ⟨S4x24x24x8192, .f32⟩
  | .hbm, ⟨33, _⟩ => ⟨S4x24x24x8192, .f32⟩
  | .hbm, ⟨34, _⟩ => ⟨S4x24x24x8192, .f32⟩
  | .local _ .vmem, ⟨0, _⟩ => ⟨S128x64, .f32⟩
  | .local _ .vmem, ⟨1, _⟩ => ⟨S128x64, .f32⟩
  | .local _ .vmem, ⟨2, _⟩ => ⟨S8192x64, .f32⟩
  | .local _ .vmem, ⟨3, _⟩ => ⟨S1x8192, .f32⟩
  | .local _ .vmem, ⟨4, _⟩ => ⟨S128x64, .f32⟩
  | .local _ .vmem, ⟨5, _⟩ => ⟨S128x64, .f32⟩
  | .local _ .vmem, ⟨6, _⟩ => ⟨S128x8192, .f32⟩
  | .local _ .vmem, ⟨7, _⟩ => ⟨S128x8192, .f32⟩
  | .local _ .vmem, ⟨8, _⟩ => ⟨S128x8192, .f32⟩
  | .local _ .vmem, ⟨9, _⟩ => ⟨S128x8192, .f32⟩
  | .local _ .vmem, ⟨10, _⟩ => ⟨S128x8192, .f32⟩
  | .local _ .vmem, ⟨11, _⟩ => ⟨S128x8192, .f32⟩
  | .local _ .vmem, ⟨12, _⟩ => ⟨S128x8192, .f32⟩
  | .local _ .vmem, ⟨13, _⟩ => ⟨S128x8192, .f32⟩
  | .local _ .vmem, ⟨14, _⟩ => ⟨S128x1, .i32⟩
  | .local _ .vmem, ⟨15, _⟩ => ⟨S128x1, .i32⟩
  | .local _ .vmem, ⟨16, _⟩ => ⟨S128x1, .i32⟩
  | .local _ .vmem, ⟨17, _⟩ => ⟨S128x1, .i32⟩
  | .local _ .vmem, ⟨18, _⟩ => ⟨S128x1, .i32⟩
  | .local _ .vmem, ⟨19, _⟩ => ⟨S128x1, .i32⟩
  | .local _ .vmem, ⟨20, _⟩ => ⟨S128x1, .i32⟩
  | .local _ .vmem, ⟨21, _⟩ => ⟨S128x1, .i32⟩
  | .local _ .vmem, ⟨22, _⟩ => ⟨S1x1x1, .f32⟩
  | .local _ .vmem, ⟨23, _⟩ => ⟨S1x1x1, .f32⟩
  | .local _ .vmem, ⟨24, _⟩ => ⟨S128x64, .f32⟩
  | .local _ .vmem, ⟨25, _⟩ => ⟨S128x64, .f32⟩
  | .local _ .smem, ⟨0, _⟩ => ⟨S4x2, .i32⟩
  | _, _ => ⟨S4x64x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev main_v5_6 : Ref sig .tc := ⟨.hbm, 15, rfl⟩
abbrev main_v5_7 : Ref sig .tc := ⟨.hbm, 16, rfl⟩
abbrev main_v5_8 : Ref sig .tc := ⟨.hbm, 17, rfl⟩
abbrev main_v5_9 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![18, 4], ![false, false]⟩

def k0_off1 (i : grid0.Coords) : Fin 2 → Nat :=
  let arg1 : BitVec 32 := BitVec.ofNat 32 (i 1).val
  let v7 : Index := Scalar.indexCast arg1
  let c0_6 : Index := 0#32
  ![v7.toNat, 0]
def k0_off2 (i : grid0.Coords) : Fin 2 → Nat :=
  let arg1 : BitVec 32 := BitVec.ofNat 32 (i 1).val
  let v9 : Index := Scalar.indexCast arg1
  let c1 : Index := 1#32
  ![v9.toNat, 1]
def k0_cond8 (i : grid0.Coords) : BitVec 1 :=
  let arg1 : BitVec 32 := BitVec.ofNat 32 (i 1).val
  let c3_i32_68 : BitVec 32 := 3#32
  let v273 : BitVec 1 := Scalar.cmpi .eq arg1 c3_i32_68
  let v274 : BitVec 32 := Scalar.extui v273
  let c0_i32_69 : BitVec 32 := 0#32
  let v275 : BitVec 1 := Scalar.cmpi .ne v274 c0_i32_69
  v275

def k0_cond2 (i : grid0.Coords) : BitVec 1 :=
  let arg1 : BitVec 32 := BitVec.ofNat 32 (i 1).val
  let c0_i32_48 : BitVec 32 := 0#32
  let v234 : BitVec 1 := Scalar.cmpi .eq arg1 c0_i32_48
  let v235 : BitVec 32 := Scalar.extui v234
  let c0_i32_49 : BitVec 32 := 0#32
  let v236 : BitVec 1 := Scalar.cmpi .ne v235 c0_i32_49
  v236

def k0_cond3 (i : grid0.Coords) : BitVec 1 :=
  let arg1 : BitVec 32 := BitVec.ofNat 32 (i 1).val
  let c1_i32_50 : BitVec 32 := 1#32
  let v237 : BitVec 1 := Scalar.cmpi .eq arg1 c1_i32_50
  let v238 : BitVec 32 := Scalar.extui v237
  let c0_i32_51 : BitVec 32 := 0#32
  let v239 : BitVec 1 := Scalar.cmpi .ne v238 c0_i32_51
  v239

def k0_cond4 (i : grid0.Coords) : BitVec 1 :=
  let arg1 : BitVec 32 := BitVec.ofNat 32 (i 1).val
  let c2_i32_52 : BitVec 32 := 2#32
  let v240 : BitVec 1 := Scalar.cmpi .eq arg1 c2_i32_52
  let v241 : BitVec 32 := Scalar.extui v240
  let c0_i32_53 : BitVec 32 := 0#32
  let v242 : BitVec 1 := Scalar.cmpi .ne v241 c0_i32_53
  v242

def k0_cond5 (i : grid0.Coords) : BitVec 1 :=
  let arg1 : BitVec 32 := BitVec.ofNat 32 (i 1).val
  let c3_i32_54 : BitVec 32 := 3#32
  let v243 : BitVec 1 := Scalar.cmpi .eq arg1 c3_i32_54
  let v244 : BitVec 32 := Scalar.extui v243
  let c0_i32_55 : BitVec 32 := 0#32
  let v245 : BitVec 1 := Scalar.cmpi .ne v244 c0_i32_55
  v245

def k0_cond6 (i : grid0.Coords) : BitVec 1 :=
  let arg1 : BitVec 32 := BitVec.ofNat 32 (i 1).val
  let c0_i32_64 : BitVec 32 := 0#32
  let v267 : BitVec 1 := Scalar.cmpi .eq arg1 c0_i32_64
  let v268 : BitVec 32 := Scalar.extui v267
  let c0_i32_65 : BitVec 32 := 0#32
  let v269 : BitVec 1 := Scalar.cmpi .ne v268 c0_i32_65
  v269

def k0_cond7 (i : grid0.Coords) : BitVec 1 :=
  let arg1 : BitVec 32 := BitVec.ofNat 32 (i 1).val
  let c0_i32_66 : BitVec 32 := 0#32
  let v270 : BitVec 1 := Scalar.cmpi .ne arg1 c0_i32_66
  let v271 : BitVec 32 := Scalar.extui v270
  let c0_i32_67 : BitVec 32 := 0#32
  let v272 : BitVec 1 := Scalar.cmpi .ne v271 c0_i32_67
  v272

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x1 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x1 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4x64x24x24 : Shape := ⟨4, ![4, 64, 24, 24]⟩
abbrev S8192x64 : Shape := ⟨2, ![8192, 64]⟩
abbrev S_ : Shape := ⟨0, ![]⟩
abbrev S4 : Shape := ⟨1, ![4]⟩
abbrev S18874368 : Shape := ⟨1, ![18874368]⟩
abbrev S1x2304x8192 : Shape := ⟨3, ![1, 2304, 8192]⟩
abbrev S4x1x1 : Shape := ⟨3, ![4, 1, 1]⟩
abbrev S4x2304x8192 : Shape := ⟨3, ![4, 2304, 8192]⟩
abbrev S4x24x24x64 : Shape := ⟨4, ![4, 24, 24, 64]⟩
abbrev S2304x64 : Shape := ⟨2, ![2304, 64]⟩
abbrev S2304 : Shape := ⟨1, ![2304]⟩
abbrev S2304x1 : Shape := ⟨2, ![2304, 1]⟩
abbrev S8192 : Shape := ⟨1, ![8192]⟩
abbrev S1x8192 : Shape := ⟨2, ![1, 8192]⟩
abbrev S2304x8192 : Shape := ⟨2, ![2304, 8192]⟩
abbrev S64x8192 : Shape := ⟨2, ![64, 8192]⟩
abbrev S4x24x24x8192 : Shape := ⟨4, ![4, 24, 24, 8192]⟩
abbrev S4x24x24 : Shape := ⟨3, ![4, 24, 24]⟩

abbrev nBuf : Space → Nat
  | .hbm => 766
  | .vmem => 0
  | .smem => 0
  | _ => 0

abbrev hbmTy0_0 (i : Nat) : BufTy := match i % 128 with
  | 0 => ⟨S4x64x24x24, .f32⟩
  | 1 => ⟨S8192x64, .f32⟩
  | 2 => ⟨S_, .f32⟩
  | 3 => ⟨S4x64x24x24, .f32⟩
  | 4 => ⟨S_, .i32⟩
  | 5 => ⟨S4, .i32⟩
  | 6 => ⟨S_, .i32⟩
  | 7 => ⟨S4, .i32⟩
  | 8 => ⟨S4, .i32⟩
  | 9 => ⟨S4, .i32⟩
  | 10 => ⟨S4, .i32⟩
  | 11 => ⟨S_, .i32⟩
  | 12 => ⟨S4, .i32⟩
  | 13 => ⟨S4, .i32⟩
  | 14 => ⟨S4, .i32⟩
  | 15 => ⟨S4, .i32⟩
  | 16 => ⟨S4, .i32⟩
  | 17 => ⟨S_, .i32⟩
  | 18 => ⟨S4, .i32⟩
  | 19 => ⟨S4, .i32⟩
  | 20 => ⟨S_, .i32⟩
  | 21 => ⟨S4, .i32⟩
  | 22 => ⟨S4, .i32⟩
  | 23 => ⟨S4, .i32⟩
  | 24 => ⟨S4, .i32⟩
  | 25 => ⟨S4, .i32⟩
  | 26 => ⟨S_, .i32⟩
  | 27 => ⟨S4, .i32⟩
  | 28 => ⟨S4, .i32⟩
  | 29 => ⟨S_, .i32⟩
  | 30 => ⟨S4, .i32⟩
  | 31 => ⟨S4, .i32⟩
  | 32 => ⟨S4, .i32⟩
  | 33 => ⟨S4, .i32⟩
  | 34 => ⟨S4, .i32⟩
  | 35 => ⟨S_, .i32⟩
  | 36 => ⟨S4, .i32⟩
  | 37 => ⟨S4, .i32⟩
  | 38 => ⟨S_, .i32⟩
  | 39 => ⟨S4, .i32⟩
  | 40 => ⟨S4, .i32⟩
  | 41 => ⟨S4, .i32⟩
  | 42 => ⟨S4, .i32⟩
  | 43 => ⟨S4, .i32⟩
  | 44 => ⟨S_, .i32⟩
  | 45 => ⟨S4, .i32⟩
  | 46 => ⟨S4, .i32⟩
  | 47 => ⟨S_, .i32⟩
  | 48 => ⟨S4, .i32⟩
  | 49 => ⟨S4, .i32⟩
  | 50 => ⟨S4, .i32⟩
  | 51 => ⟨S4, .i32⟩
  | 52 => ⟨S4, .i32⟩
  | 53 => ⟨S4, .i32⟩
  | 54 => ⟨S_, .i32⟩
  | 55 => ⟨S4, .i32⟩
  | 56 => ⟨S4, .i32⟩
  | 57 => ⟨S4, .i32⟩
  | 58 => ⟨S_, .i32⟩
  | 59 => ⟨S4, .i32⟩
  | 60 => ⟨S4, .i32⟩
  | 61 => ⟨S_, .i32⟩
  | 62 => ⟨S4, .i32⟩
  | 63 => ⟨S4, .i32⟩
  | 64 => ⟨S4, .i32⟩
  | 65 => ⟨S4, .i32⟩
  | 66 => ⟨S4, .i32⟩
  | 67 => ⟨S_, .i32⟩
  | 68 => ⟨S4, .i32⟩
  | 69 => ⟨S4, .i32⟩
  | 70 => ⟨S_, .i32⟩
  | 71 => ⟨S4, .i32⟩
  | 72 => ⟨S4, .i32⟩
  | 73 => ⟨S4, .i32⟩
  | 74 => ⟨S4, .i32⟩
  | 75 => ⟨S4, .i32⟩
  | 76 => ⟨S_, .i32⟩
  | 77 => ⟨S4, .i32⟩
  | 78 => ⟨S4, .i32⟩
  | 79 => ⟨S_, .i32⟩
  | 80 => ⟨S4, .i32⟩
  | 81 => ⟨S4, .i32⟩
  | 82 => ⟨S4, .i32⟩
  | 83 => ⟨S4, .i32⟩
  | 84 => ⟨S4, .i32⟩
  | 85 => ⟨S_, .i32⟩
  | 86 => ⟨S4, .i32⟩
  | 87 => ⟨S4, .i32⟩
  | 88 => ⟨S_, .i32⟩
  | 89 => ⟨S4, .i32⟩
  | 90 => ⟨S4, .i32⟩
  | 91 => ⟨S4, .i32⟩
  | 92 => ⟨S4, .i32⟩
  | 93 => ⟨S4, .i32⟩
  | 94 => ⟨S4, .i32⟩
  | 95 => ⟨S_, .i32⟩
  | 96 => ⟨S4, .i32⟩
  | 97 => ⟨S4, .i32⟩
  | 98 => ⟨S4, .i32⟩
  | 99 => ⟨S_, .i32⟩
  | 100 => ⟨S4, .i32⟩
  | 101 => ⟨S4, .i32⟩
  | 102 => ⟨S_, .i32⟩
  | 103 => ⟨S4, .i32⟩
  | 104 => ⟨S4, .i32⟩
  | 105 => ⟨S4, .i32⟩
  | 106 => ⟨S4, .i32⟩
  | 107 => ⟨S4, .i32⟩
  | 108 => ⟨S_, .i32⟩
  | 109 => ⟨S4, .i32⟩
  | 110 => ⟨S4, .i32⟩
  | 111 => ⟨S_, .i32⟩
  | 112 => ⟨S4, .i32⟩
  | 113 => ⟨S4, .i32⟩
  | 114 => ⟨S4, .i32⟩
  | 115 => ⟨S4, .i32⟩
  | 116 => ⟨S4, .i32⟩
  | 117 => ⟨S_, .i32⟩
  | 118 => ⟨S4, .i32⟩
  | 119 => ⟨S4, .i32⟩
  | 120 => ⟨S_, .i32⟩
  | 121 => ⟨S4, .i32⟩
  | 122 => ⟨S4, .i32⟩
  | 123 => ⟨S4, .i32⟩
  | 124 => ⟨S4, .i32⟩
  | 125 => ⟨S4, .i32⟩
  | 126 => ⟨S_, .i32⟩
  | 127 => ⟨S4, .i32⟩
  | _ => ⟨S4x64x24x24, .f32⟩

abbrev hbmTy0_1 (i : Nat) : BufTy := match i % 128 with
  | 0 => ⟨S4, .i32⟩
  | 1 => ⟨S_, .i32⟩
  | 2 => ⟨S4, .i32⟩
  | 3 => ⟨S4, .i32⟩
  | 4 => ⟨S4, .i32⟩
  | 5 => ⟨S4, .i32⟩
  | 6 => ⟨S4, .i32⟩
  | 7 => ⟨S4, .i32⟩
  | 8 => ⟨S_, .i32⟩
  | 9 => ⟨S4, .i32⟩
  | 10 => ⟨S4, .i32⟩
  | 11 => ⟨S4, .i32⟩
  | 12 => ⟨S_, .i32⟩
  | 13 => ⟨S4, .i32⟩
  | 14 => ⟨S4, .i32⟩
  | 15 => ⟨S_, .i32⟩
  | 16 => ⟨S4, .i32⟩
  | 17 => ⟨S4, .i32⟩
  | 18 => ⟨S4, .i32⟩
  | 19 => ⟨S4, .i32⟩
  | 20 => ⟨S4, .i32⟩
  | 21 => ⟨S_, .i32⟩
  | 22 => ⟨S4, .i32⟩
  | 23 => ⟨S4, .i32⟩
  | 24 => ⟨S_, .i32⟩
  | 25 => ⟨S4, .i32⟩
  | 26 => ⟨S4, .i32⟩
  | 27 => ⟨S4, .i32⟩
  | 28 => ⟨S4, .i32⟩
  | 29 => ⟨S4, .i32⟩
  | 30 => ⟨S_, .i32⟩
  | 31 => ⟨S4, .i32⟩
  | 32 => ⟨S4, .i32⟩
  | 33 => ⟨S_, .i32⟩
  | 34 => ⟨S4, .i32⟩
  | 35 => ⟨S4, .i32⟩
  | 36 => ⟨S4, .i32⟩
  | 37 => ⟨S4, .i32⟩
  | 38 => ⟨S4, .i32⟩
  | 39 => ⟨S_, .i32⟩
  | 40 => ⟨S4, .i32⟩
  | 41 => ⟨S4, .i32⟩
  | 42 => ⟨S_, .i32⟩
  | 43 => ⟨S4, .i32⟩
  | 44 => ⟨S4, .i32⟩
  | 45 => ⟨S4, .i32⟩
  | 46 => ⟨S4, .i32⟩
  | 47 => ⟨S4, .i32⟩
  | 48 => ⟨S4, .i32⟩
  | 49 => ⟨S_, .i32⟩
  | 50 => ⟨S4, .i32⟩
  | 51 => ⟨S4, .i32⟩
  | 52 => ⟨S4, .i32⟩
  | 53 => ⟨S_, .i32⟩
  | 54 => ⟨S4, .i32⟩
  | 55 => ⟨S4, .i32⟩
  | 56 => ⟨S_, .i32⟩
  | 57 => ⟨S4, .i32⟩
  | 58 => ⟨S4, .i32⟩
  | 59 => ⟨S4, .i32⟩
  | 60 => ⟨S4, .i32⟩
  | 61 => ⟨S4, .i32⟩
  | 62 => ⟨S_, .i32⟩
  | 63 => ⟨S4, .i32⟩
  | 64 => ⟨S4, .i32⟩
  | 65 => ⟨S_, .i32⟩
  | 66 => ⟨S4, .i32⟩
  | 67 => ⟨S4, .i32⟩
  | 68 => ⟨S4, .i32⟩
  | 69 => ⟨S4, .i32⟩
  | 70 => ⟨S4, .i32⟩
  | 71 => ⟨S_, .i32⟩
  | 72 => ⟨S4, .i32⟩
  | 73 => ⟨S4, .i32⟩
  | 74 => ⟨S_, .i32⟩
  | 75 => ⟨S4, .i32⟩
  | 76 => ⟨S4, .i32⟩
  | 77 => ⟨S4, .i32⟩
  | 78 => ⟨S4, .i32⟩
  | 79 => ⟨S4, .i32⟩
  | 80 => ⟨S_, .i32⟩
  | 81 => ⟨S4, .i32⟩
  | 82 => ⟨S4, .i32⟩
  | 83 => ⟨S_, .i32⟩
  | 84 => ⟨S4, .i32⟩
  | 85 => ⟨S4, .i32⟩
  | 86 => ⟨S4, .i32⟩
  | 87 => ⟨S4, .i32⟩
  | 88 => ⟨S4, .i32⟩
  | 89 => ⟨S4, .i32⟩
  | 90 => ⟨S_, .i32⟩
  | 91 => ⟨S4, .i32⟩
  | 92 => ⟨S4, .i32⟩
  | 93 => ⟨S18874368, .i32⟩
  | 94 => ⟨S1x2304x8192, .i32⟩
  | 95 => ⟨S_, .i32⟩
  | 96 => ⟨S4x1x1, .i32⟩
  | 97 => ⟨S4x2304x8192, .i32⟩
  | 98 => ⟨S4x2304x8192, .i32⟩
  | 99 => ⟨S4x2304x8192, .i32⟩
  | 100 => ⟨S4x1x1, .i32⟩
  | 101 => ⟨S4x1x1, .i32⟩
  | 102 => ⟨S_, .i32⟩
  | 103 => ⟨S4x2304x8192, .i32⟩
  | 104 => ⟨S4x1x1, .i32⟩
  | 105 => ⟨S_, .i32⟩
  | 106 => ⟨S4x1x1, .i32⟩
  | 107 => ⟨S4x1x1, .i32⟩
  | 108 => ⟨S4x2304x8192, .i32⟩
  | 109 => ⟨S4x2304x8192, .i32⟩
  | 110 => ⟨S4x2304x8192, .i32⟩
  | 111 => ⟨S4x2304x8192, .i32⟩
  | 112 => ⟨S4x2304x8192, .i32⟩
  | 113 => ⟨S_, .i32⟩
  | 114 => ⟨S4x2304x8192, .i32⟩
  | 115 => ⟨S4x2304x8192, .i32⟩
  | 116 => ⟨S_, .i32⟩
  | 117 => ⟨S4x2304x8192, .i32⟩
  | 118 => ⟨S4x2304x8192, .i32⟩
  | 119 => ⟨S4x2304x8192, .i32⟩
  | 120 => ⟨S4x2304x8192, .i32⟩
  | 121 => ⟨S4x2304x8192, .i32⟩
  | 122 => ⟨S_, .i32⟩
  | 123 => ⟨S4x2304x8192, .i32⟩
  | 124 => ⟨S4x2304x8192, .i32⟩
  | 125 => ⟨S_, .i32⟩
  | 126 => ⟨S4x2304x8192, .i32⟩
  | 127 => ⟨S4x2304x8192, .i32⟩
  | _ => ⟨S4x64x24x24, .f32⟩

abbrev hbmTy0_2 (i : Nat) : BufTy := match i % 128 with
  | 0 => ⟨S4x2304x8192, .i32⟩
  | 1 => ⟨S4x2304x8192, .i32⟩
  | 2 => ⟨S4x2304x8192, .i32⟩
  | 3 => ⟨S_, .i32⟩
  | 4 => ⟨S4x2304x8192, .i32⟩
  | 5 => ⟨S4x2304x8192, .i32⟩
  | 6 => ⟨S_, .i32⟩
  | 7 => ⟨S4x2304x8192, .i32⟩
  | 8 => ⟨S4x2304x8192, .i32⟩
  | 9 => ⟨S4x2304x8192, .i32⟩
  | 10 => ⟨S4x2304x8192, .i32⟩
  | 11 => ⟨S4x2304x8192, .i32⟩
  | 12 => ⟨S_, .i32⟩
  | 13 => ⟨S4x2304x8192, .i32⟩
  | 14 => ⟨S4x2304x8192, .i32⟩
  | 15 => ⟨S_, .i32⟩
  | 16 => ⟨S4x2304x8192, .i32⟩
  | 17 => ⟨S4x2304x8192, .i32⟩
  | 18 => ⟨S4x2304x8192, .i32⟩
  | 19 => ⟨S4x2304x8192, .i32⟩
  | 20 => ⟨S4x2304x8192, .i32⟩
  | 21 => ⟨S4x2304x8192, .i32⟩
  | 22 => ⟨S4x2304x8192, .i32⟩
  | 23 => ⟨S4x2304x8192, .i32⟩
  | 24 => ⟨S_, .i32⟩
  | 25 => ⟨S4x2304x8192, .i32⟩
  | 26 => ⟨S4x2304x8192, .i32⟩
  | 27 => ⟨S4x2304x8192, .i32⟩
  | 28 => ⟨S_, .i32⟩
  | 29 => ⟨S4x2304x8192, .i32⟩
  | 30 => ⟨S4x2304x8192, .i32⟩
  | 31 => ⟨S_, .i32⟩
  | 32 => ⟨S4x2304x8192, .i32⟩
  | 33 => ⟨S4x2304x8192, .i32⟩
  | 34 => ⟨S4x2304x8192, .i32⟩
  | 35 => ⟨S4x2304x8192, .i32⟩
  | 36 => ⟨S4x2304x8192, .i32⟩
  | 37 => ⟨S_, .i32⟩
  | 38 => ⟨S4x2304x8192, .i32⟩
  | 39 => ⟨S4x2304x8192, .i32⟩
  | 40 => ⟨S_, .i32⟩
  | 41 => ⟨S4x2304x8192, .i32⟩
  | 42 => ⟨S4x2304x8192, .i32⟩
  | 43 => ⟨S4x2304x8192, .i32⟩
  | 44 => ⟨S4x2304x8192, .i32⟩
  | 45 => ⟨S4x2304x8192, .i32⟩
  | 46 => ⟨S_, .i32⟩
  | 47 => ⟨S4x2304x8192, .i32⟩
  | 48 => ⟨S4x2304x8192, .i32⟩
  | 49 => ⟨S_, .i32⟩
  | 50 => ⟨S4x2304x8192, .i32⟩
  | 51 => ⟨S4x2304x8192, .i32⟩
  | 52 => ⟨S4x2304x8192, .i32⟩
  | 53 => ⟨S4x2304x8192, .i32⟩
  | 54 => ⟨S4x2304x8192, .i32⟩
  | 55 => ⟨S_, .i32⟩
  | 56 => ⟨S4x2304x8192, .i32⟩
  | 57 => ⟨S4x2304x8192, .i32⟩
  | 58 => ⟨S_, .i32⟩
  | 59 => ⟨S4x2304x8192, .i32⟩
  | 60 => ⟨S4x2304x8192, .i32⟩
  | 61 => ⟨S4x2304x8192, .i32⟩
  | 62 => ⟨S4x2304x8192, .i32⟩
  | 63 => ⟨S4x2304x8192, .i32⟩
  | 64 => ⟨S4x2304x8192, .i32⟩
  | 65 => ⟨S4x2304x8192, .i32⟩
  | 66 => ⟨S4x2304x8192, .i32⟩
  | 67 => ⟨S_, .i32⟩
  | 68 => ⟨S4x2304x8192, .i32⟩
  | 69 => ⟨S4x2304x8192, .i32⟩
  | 70 => ⟨S4x2304x8192, .i32⟩
  | 71 => ⟨S_, .i32⟩
  | 72 => ⟨S4x2304x8192, .i32⟩
  | 73 => ⟨S4x2304x8192, .i32⟩
  | 74 => ⟨S_, .i32⟩
  | 75 => ⟨S4x2304x8192, .i32⟩
  | 76 => ⟨S4x2304x8192, .i32⟩
  | 77 => ⟨S4x2304x8192, .i32⟩
  | 78 => ⟨S4x2304x8192, .i32⟩
  | 79 => ⟨S4x2304x8192, .i32⟩
  | 80 => ⟨S_, .i32⟩
  | 81 => ⟨S4x2304x8192, .i32⟩
  | 82 => ⟨S4x2304x8192, .i32⟩
  | 83 => ⟨S_, .i32⟩
  | 84 => ⟨S4x2304x8192, .i32⟩
  | 85 => ⟨S4x2304x8192, .i32⟩
  | 86 => ⟨S4x2304x8192, .i32⟩
  | 87 => ⟨S4x2304x8192, .i32⟩
  | 88 => ⟨S4x2304x8192, .i32⟩
  | 89 => ⟨S_, .i32⟩
  | 90 => ⟨S4x2304x8192, .i32⟩
  | 91 => ⟨S4x2304x8192, .i32⟩
  | 92 => ⟨S_, .i32⟩
  | 93 => ⟨S4x2304x8192, .i32⟩
  | 94 => ⟨S4x2304x8192, .i32⟩
  | 95 => ⟨S4x2304x8192, .i32⟩
  | 96 => ⟨S4x2304x8192, .i32⟩
  | 97 => ⟨S4x2304x8192, .i32⟩
  | 98 => ⟨S_, .i32⟩
  | 99 => ⟨S4x2304x8192, .i32⟩
  | 100 => ⟨S4x2304x8192, .i32⟩
  | 101 => ⟨S_, .i32⟩
  | 102 => ⟨S4x2304x8192, .i32⟩
  | 103 => ⟨S4x2304x8192, .i32⟩
  | 104 => ⟨S4x2304x8192, .i32⟩
  | 105 => ⟨S4x2304x8192, .i32⟩
  | 106 => ⟨S4x2304x8192, .i32⟩
  | 107 => ⟨S4x2304x8192, .i32⟩
  | 108 => ⟨S4x2304x8192, .i32⟩
  | 109 => ⟨S4x2304x8192, .i32⟩
  | 110 => ⟨S_, .i32⟩
  | 111 => ⟨S4x2304x8192, .i32⟩
  | 112 => ⟨S4x2304x8192, .i32⟩
  | 113 => ⟨S4x2304x8192, .i32⟩
  | 114 => ⟨S_, .i32⟩
  | 115 => ⟨S4x2304x8192, .i32⟩
  | 116 => ⟨S4x2304x8192, .i32⟩
  | 117 => ⟨S_, .i32⟩
  | 118 => ⟨S4x2304x8192, .i32⟩
  | 119 => ⟨S4x2304x8192, .i32⟩
  | 120 => ⟨S4x2304x8192, .i32⟩
  | 121 => ⟨S4x2304x8192, .i32⟩
  | 122 => ⟨S4x2304x8192, .i32⟩
  | 123 => ⟨S_, .i32⟩
  | 124 => ⟨S4x2304x8192, .i32⟩
  | 125 => ⟨S4x2304x8192, .i32⟩
  | 126 => ⟨S_, .i32⟩
  | 127 => ⟨S4x2304x8192, .i32⟩
  | _ => ⟨S4x64x24x24, .f32⟩

abbrev hbmTy0_3 (i : Nat) : BufTy := match i % 128 with
  | 0 => ⟨S4x2304x8192, .i32⟩
  | 1 => ⟨S4x2304x8192, .i32⟩
  | 2 => ⟨S4x2304x8192, .i32⟩
  | 3 => ⟨S4x2304x8192, .i32⟩
  | 4 => ⟨S_, .i32⟩
  | 5 => ⟨S4x2304x8192, .i32⟩
  | 6 => ⟨S4x2304x8192, .i32⟩
  | 7 => ⟨S_, .i32⟩
  | 8 => ⟨S4x2304x8192, .i32⟩
  | 9 => ⟨S4x2304x8192, .i32⟩
  | 10 => ⟨S4x2304x8192, .i32⟩
  | 11 => ⟨S4x2304x8192, .i32⟩
  | 12 => ⟨S4x2304x8192, .i32⟩
  | 13 => ⟨S_, .i32⟩
  | 14 => ⟨S4x2304x8192, .i32⟩
  | 15 => ⟨S4x2304x8192, .i32⟩
  | 16 => ⟨S_, .i32⟩
  | 17 => ⟨S4x2304x8192, .i32⟩
  | 18 => ⟨S4x2304x8192, .i32⟩
  | 19 => ⟨S4x2304x8192, .i32⟩
  | 20 => ⟨S4x2304x8192, .i32⟩
  | 21 => ⟨S4x2304x8192, .i32⟩
  | 22 => ⟨S4x2304x8192, .i32⟩
  | 23 => ⟨S4x2304x8192, .i32⟩
  | 24 => ⟨S4x2304x8192, .i32⟩
  | 25 => ⟨S_, .i32⟩
  | 26 => ⟨S4x2304x8192, .i32⟩
  | 27 => ⟨S4x2304x8192, .i32⟩
  | 28 => ⟨S4x2304x8192, .i32⟩
  | 29 => ⟨S_, .i32⟩
  | 30 => ⟨S4x2304x8192, .i32⟩
  | 31 => ⟨S4x2304x8192, .i32⟩
  | 32 => ⟨S_, .i32⟩
  | 33 => ⟨S4x2304x8192, .i32⟩
  | 34 => ⟨S4x2304x8192, .i32⟩
  | 35 => ⟨S4x2304x8192, .i32⟩
  | 36 => ⟨S4x2304x8192, .i32⟩
  | 37 => ⟨S4x2304x8192, .i32⟩
  | 38 => ⟨S_, .i32⟩
  | 39 => ⟨S4x2304x8192, .i32⟩
  | 40 => ⟨S4x2304x8192, .i32⟩
  | 41 => ⟨S_, .i32⟩
  | 42 => ⟨S4x2304x8192, .i32⟩
  | 43 => ⟨S4x2304x8192, .i32⟩
  | 44 => ⟨S4x2304x8192, .i32⟩
  | 45 => ⟨S4x2304x8192, .i32⟩
  | 46 => ⟨S4x2304x8192, .i32⟩
  | 47 => ⟨S_, .i32⟩
  | 48 => ⟨S4x2304x8192, .i32⟩
  | 49 => ⟨S4x2304x8192, .i32⟩
  | 50 => ⟨S_, .i32⟩
  | 51 => ⟨S4x2304x8192, .i32⟩
  | 52 => ⟨S4x2304x8192, .i32⟩
  | 53 => ⟨S4x2304x8192, .i32⟩
  | 54 => ⟨S4x2304x8192, .i32⟩
  | 55 => ⟨S4x2304x8192, .i32⟩
  | 56 => ⟨S_, .i32⟩
  | 57 => ⟨S4x2304x8192, .i32⟩
  | 58 => ⟨S4x2304x8192, .i32⟩
  | 59 => ⟨S_, .i32⟩
  | 60 => ⟨S4x2304x8192, .i32⟩
  | 61 => ⟨S4x2304x8192, .i32⟩
  | 62 => ⟨S4x2304x8192, .i32⟩
  | 63 => ⟨S4x2304x8192, .i32⟩
  | 64 => ⟨S4x2304x8192, .i32⟩
  | 65 => ⟨S4x2304x8192, .i32⟩
  | 66 => ⟨S4x2304x8192, .i32⟩
  | 67 => ⟨S4x2304x8192, .i32⟩
  | 68 => ⟨S_, .i32⟩
  | 69 => ⟨S4x2304x8192, .i32⟩
  | 70 => ⟨S4x2304x8192, .i32⟩
  | 71 => ⟨S4x2304x8192, .i32⟩
  | 72 => ⟨S_, .i32⟩
  | 73 => ⟨S4x2304x8192, .i32⟩
  | 74 => ⟨S4x2304x8192, .i32⟩
  | 75 => ⟨S_, .i32⟩
  | 76 => ⟨S4x2304x8192, .i32⟩
  | 77 => ⟨S4x2304x8192, .i32⟩
  | 78 => ⟨S4x2304x8192, .f32⟩
  | 79 => ⟨S_, .f32⟩
  | 80 => ⟨S4x2304x8192, .f32⟩
  | 81 => ⟨S4x2304x8192, .f32⟩
  | 82 => ⟨S_, .f32⟩
  | 83 => ⟨S4x2304x8192, .f32⟩
  | 84 => ⟨S4x2304x8192, .f32⟩
  | 85 => ⟨S4x2304x8192, .f32⟩
  | 86 => ⟨S4x2304x8192, .f32⟩
  | 87 => ⟨S4x2304x8192, .f32⟩
  | 88 => ⟨S4x2304x8192, .f32⟩
  | 89 => ⟨S4x24x24x64, .f32⟩
  | 90 => ⟨S2304x64, .f32⟩
  | 91 => ⟨S2304x64, .f32⟩
  | 92 => ⟨S_, .f32⟩
  | 93 => ⟨S2304, .f32⟩
  | 94 => ⟨S2304x1, .f32⟩
  | 95 => ⟨S8192x64, .f32⟩
  | 96 => ⟨S_, .f32⟩
  | 97 => ⟨S8192, .f32⟩
  | 98 => ⟨S1x8192, .f32⟩
  | 99 => ⟨S2304x8192, .f32⟩
  | 100 => ⟨S2304x8192, .f32⟩
  | 101 => ⟨S2304x8192, .f32⟩
  | 102 => ⟨S64x8192, .f32⟩
  | 103 => ⟨S2304x8192, .f32⟩
  | 104 => ⟨S_, .f32⟩
  | 105 => ⟨S2304x8192, .f32⟩
  | 106 => ⟨S2304x8192, .f32⟩
  | 107 => ⟨S2304x8192, .f32⟩
  | 108 => ⟨S2304x8192, .f32⟩
  | 109 => ⟨S_, .f32⟩
  | 110 => ⟨S2304x8192, .f32⟩
  | 111 => ⟨S2304x8192, .f32⟩
  | 112 => ⟨S_, .f32⟩
  | 113 => ⟨S2304, .f32⟩
  | 114 => ⟨S_, .f32⟩
  | 115 => ⟨S2304, .f32⟩
  | 116 => ⟨S2304, .f32⟩
  | 117 => ⟨S2304x1, .f32⟩
  | 118 => ⟨S2304x8192, .f32⟩
  | 119 => ⟨S2304x8192, .f32⟩
  | 120 => ⟨S2304x8192, .f32⟩
  | 121 => ⟨S_, .f32⟩
  | 122 => ⟨S2304, .f32⟩
  | 123 => ⟨S2304x1, .f32⟩
  | 124 => ⟨S2304x8192, .f32⟩
  | 125 => ⟨S2304x8192, .f32⟩
  | 126 => ⟨S4x24x24x8192, .f32⟩
  | 127 => ⟨S1x2304x8192, .f32⟩
  | _ => ⟨S4x64x24x24, .f32⟩

abbrev hbmTy0_4 (i : Nat) : BufTy := match i % 128 with
  | 0 => ⟨S2304x8192, .f32⟩
  | 1 => ⟨S2304x8192, .f32⟩
  | 2 => ⟨S2304x1, .f32⟩
  | 3 => ⟨S2304x1, .i32⟩
  | 4 => ⟨S2304, .i32⟩
  | 5 => ⟨S2304x1, .i32⟩
  | 6 => ⟨S1x8192, .i32⟩
  | 7 => ⟨S2304x8192, .i32⟩
  | 8 => ⟨S2304x8192, .i32⟩
  | 9 => ⟨S2304x8192, .i1⟩
  | 10 => ⟨S2304x8192, .f32⟩
  | 11 => ⟨S2304x64, .f32⟩
  | 12 => ⟨S4x24x24x64, .f32⟩
  | 13 => ⟨S4x64x24x24, .f32⟩
  | 14 => ⟨S4x64x24x24, .f32⟩
  | 15 => ⟨S4x64x24x24, .f32⟩
  | 16 => ⟨S4x24x24, .i32⟩
  | 17 => ⟨S4x64x24x24, .f32⟩
  | 18 => ⟨S4x64x24x24, .f32⟩
  | 19 => ⟨S4x64x24x24, .f32⟩
  | 20 => ⟨S_, .f32⟩
  | 21 => ⟨S_, .f32⟩
  | 22 => ⟨S_, .f32⟩
  | 23 => ⟨S_, .f32⟩
  | 24 => ⟨S4x64x24x24, .f32⟩
  | 25 => ⟨S4x64x24x24, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4x24x24x64, .f32⟩
  | 36 => ⟨S2304x64, .f32⟩
  | 37 => ⟨S2304x64, .f32⟩
  | 38 => ⟨S_, .f32⟩
  | 39 => ⟨S2304, .f32⟩
  | 40 => ⟨S2304x1, .f32⟩
  | 41 => ⟨S8192x64, .f32⟩
  | 42 => ⟨S_, .f32⟩
  | 43 => ⟨S8192, .f32⟩
  | 44 => ⟨S1x8192, .f32⟩
  | 45 => ⟨S2304x8192, .f32⟩
  | 46 => ⟨S2304x8192, .f32⟩
  | 47 => ⟨S2304x8192, .f32⟩
  | 48 => ⟨S64x8192, .f32⟩
  | 49 => ⟨S2304x8192, .f32⟩
  | 50 => ⟨S_, .f32⟩
  | 51 => ⟨S2304x8192, .f32⟩
  | 52 => ⟨S2304x8192, .f32⟩
  | 53 => ⟨S2304x8192, .f32⟩
  | 54 => ⟨S2304x8192, .f32⟩
  | 55 => ⟨S_, .f32⟩
  | 56 => ⟨S2304x8192, .f32⟩
  | 57 => ⟨S2304x8192, .f32⟩
  | 58 => ⟨S_, .f32⟩
  | 59 => ⟨S2304, .f32⟩
  | 60 => ⟨S_, .f32⟩
  | 61 => ⟨S2304, .f32⟩
  | 62 => ⟨S2304, .f32⟩
  | 63 => ⟨S2304x1, .f32⟩
  | 64 => ⟨S2304x8192, .f32⟩
  | 65 => ⟨S2304x8192, .f32⟩
  | 66 => ⟨S2304x8192, .f32⟩
  | 67 => ⟨S_, .f32⟩
  | 68 => ⟨S2304, .f32⟩
  | 69 => ⟨S2304x1, .f32⟩
  | 70 => ⟨S2304x8192, .f32⟩
  | 71 => ⟨S2304x8192, .f32⟩
  | 72 => ⟨S4x24x24x8192, .f32⟩
  | 73 => ⟨S1x2304x8192, .f32⟩
  | 74 => ⟨S2304x8192, .f32⟩
  | 75 => ⟨S2304x8192, .f32⟩
  | 76 => ⟨S2304x1, .f32⟩
  | 77 => ⟨S2304x1, .i32⟩
  | 78 => ⟨S2304, .i32⟩
  | 79 => ⟨S2304x1, .i32⟩
  | 80 => ⟨S1x8192, .i32⟩
  | 81 => ⟨S2304x8192, .i32⟩
  | 82 => ⟨S2304x8192, .i32⟩
  | 83 => ⟨S2304x8192, .i1⟩
  | 84 => ⟨S2304x8192, .f32⟩
  | 85 => ⟨S2304x64, .f32⟩
  | 86 => ⟨S4x24x24x64, .f32⟩
  | 87 => ⟨S4x64x24x24, .f32⟩
  | 88 => ⟨S4x64x24x24, .f32⟩
  | 89 => ⟨S4x64x24x24, .f32⟩
  | 90 => ⟨S4x24x24, .i32⟩
  | 91 => ⟨S4x64x24x24, .f32⟩
  | 92 => ⟨S4x64x24x24, .f32⟩
  | 93 => ⟨S4x64x24x24, .f32⟩
  | 94 => ⟨S_, .f32⟩
  | 95 => ⟨S_, .f32⟩
  | 96 => ⟨S_, .f32⟩
  | 97 => ⟨S_, .f32⟩
  | 98 => ⟨S4x64x24x24, .f32⟩
  | 99 => ⟨S4x64x24x24, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S4x24x24x64, .f32⟩
  | 109 => ⟨S2304x64, .f32⟩
  | 110 => ⟨S2304x64, .f32⟩
  | 111 => ⟨S_, .f32⟩
  | 112 => ⟨S2304, .f32⟩
  | 113 => ⟨S2304x1, .f32⟩
  | 114 => ⟨S8192x64, .f32⟩
  | 115 => ⟨S_, .f32⟩
  | 116 => ⟨S8192, .f32⟩
  | 117 => ⟨S1x8192, .f32⟩
  | 118 => ⟨S2304x8192, .f32⟩
  | 119 => ⟨S2304x8192, .f32⟩
  | 120 => ⟨S2304x8192, .f32⟩
  | 121 => ⟨S64x8192, .f32⟩
  | 122 => ⟨S2304x8192, .f32⟩
  | 123 => ⟨S_, .f32⟩
  | 124 => ⟨S2304x8192, .f32⟩
  | 125 => ⟨S2304x8192, .f32⟩
  | 126 => ⟨S2304x8192, .f32⟩
  | 127 => ⟨S2304x8192, .f32⟩
  | _ => ⟨S4x64x24x24, .f32⟩

abbrev hbmTy0_5 (i : Nat) : BufTy := match i % 128 with
  | 0 => ⟨S_, .f32⟩
  | 1 => ⟨S2304x8192, .f32⟩
  | 2 => ⟨S2304x8192, .f32⟩
  | 3 => ⟨S_, .f32⟩
  | 4 => ⟨S2304, .f32⟩
  | 5 => ⟨S_, .f32⟩
  | 6 => ⟨S2304, .f32⟩
  | 7 => ⟨S2304, .f32⟩
  | 8 => ⟨S2304x1, .f32⟩
  | 9 => ⟨S2304x8192, .f32⟩
  | 10 => ⟨S2304x8192, .f32⟩
  | 11 => ⟨S2304x8192, .f32⟩
  | 12 => ⟨S_, .f32⟩
  | 13 => ⟨S2304, .f32⟩
  | 14 => ⟨S2304x1, .f32⟩
  | 15 => ⟨S2304x8192, .f32⟩
  | 16 => ⟨S2304x8192, .f32⟩
  | 17 => ⟨S4x24x24x8192, .f32⟩
  | 18 => ⟨S1x2304x8192, .f32⟩
  | 19 => ⟨S2304x8192, .f32⟩
  | 20 => ⟨S2304x8192, .f32⟩
  | 21 => ⟨S2304x1, .f32⟩
  | 22 => ⟨S2304x1, .i32⟩
  | 23 => ⟨S2304, .i32⟩
  | 24 => ⟨S2304x1, .i32⟩
  | 25 => ⟨S1x8192, .i32⟩
  | 26 => ⟨S2304x8192, .i32⟩
  | 27 => ⟨S2304x8192, .i32⟩
  | 28 => ⟨S2304x8192, .i1⟩
  | 29 => ⟨S2304x8192, .f32⟩
  | 30 => ⟨S2304x64, .f32⟩
  | 31 => ⟨S4x24x24x64, .f32⟩
  | 32 => ⟨S4x64x24x24, .f32⟩
  | 33 => ⟨S4x64x24x24, .f32⟩
  | 34 => ⟨S4x64x24x24, .f32⟩
  | 35 => ⟨S4x24x24, .i32⟩
  | 36 => ⟨S4x64x24x24, .f32⟩
  | 37 => ⟨S4x64x24x24, .f32⟩
  | 38 => ⟨S4x64x24x24, .f32⟩
  | 39 => ⟨S_, .f32⟩
  | 40 => ⟨S_, .f32⟩
  | 41 => ⟨S_, .f32⟩
  | 42 => ⟨S_, .f32⟩
  | 43 => ⟨S4x64x24x24, .f32⟩
  | 44 => ⟨S4x64x24x24, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S4x24x24x64, .f32⟩
  | 54 => ⟨S2304x64, .f32⟩
  | 55 => ⟨S2304x64, .f32⟩
  | 56 => ⟨S_, .f32⟩
  | 57 => ⟨S2304, .f32⟩
  | 58 => ⟨S2304x1, .f32⟩
  | 59 => ⟨S8192x64, .f32⟩
  | 60 => ⟨S_, .f32⟩
  | 61 => ⟨S8192, .f32⟩
  | 62 => ⟨S1x8192, .f32⟩
  | 63 => ⟨S2304x8192, .f32⟩
  | 64 => ⟨S2304x8192, .f32⟩
  | 65 => ⟨S2304x8192, .f32⟩
  | 66 => ⟨S64x8192, .f32⟩
  | 67 => ⟨S2304x8192, .f32⟩
  | 68 => ⟨S_, .f32⟩
  | 69 => ⟨S2304x8192, .f32⟩
  | 70 => ⟨S2304x8192, .f32⟩
  | 71 => ⟨S2304x8192, .f32⟩
  | 72 => ⟨S2304x8192, .f32⟩
  | 73 => ⟨S_, .f32⟩
  | 74 => ⟨S2304x8192, .f32⟩
  | 75 => ⟨S2304x8192, .f32⟩
  | 76 => ⟨S_, .f32⟩
  | 77 => ⟨S2304, .f32⟩
  | 78 => ⟨S_, .f32⟩
  | 79 => ⟨S2304, .f32⟩
  | 80 => ⟨S2304, .f32⟩
  | 81 => ⟨S2304x1, .f32⟩
  | 82 => ⟨S2304x8192, .f32⟩
  | 83 => ⟨S2304x8192, .f32⟩
  | 84 => ⟨S2304x8192, .f32⟩
  | 85 => ⟨S_, .f32⟩
  | 86 => ⟨S2304, .f32⟩
  | 87 => ⟨S2304x1, .f32⟩
  | 88 => ⟨S2304x8192, .f32⟩
  | 89 => ⟨S2304x8192, .f32⟩
  | 90 => ⟨S4x24x24x8192, .f32⟩
  | 91 => ⟨S1x2304x8192, .f32⟩
  | 92 => ⟨S2304x8192, .f32⟩
  | 93 => ⟨S2304x8192, .f32⟩
  | 94 => ⟨S2304x1, .f32⟩
  | 95 => ⟨S2304x1, .i32⟩
  | 96 => ⟨S2304, .i32⟩
  | 97 => ⟨S2304x1, .i32⟩
  | 98 => ⟨S1x8192, .i32⟩
  | 99 => ⟨S2304x8192, .i32⟩
  | 100 => ⟨S2304x8192, .i32⟩
  | 101 => ⟨S2304x8192, .i1⟩
  | 102 => ⟨S2304x8192, .f32⟩
  | 103 => ⟨S2304x64, .f32⟩
  | 104 => ⟨S4x24x24x64, .f32⟩
  | 105 => ⟨S4x64x24x24, .f32⟩
  | 106 => ⟨S4x64x24x24, .f32⟩
  | 107 => ⟨S4x64x24x24, .f32⟩
  | 108 => ⟨S4x24x24, .i32⟩
  | 109 => ⟨S4x64x24x24, .f32⟩
  | 110 => ⟨S4x64x24x24, .f32⟩
  | 111 => ⟨S4x64x24x24, .f32⟩
  | 112 => ⟨S_, .f32⟩
  | 113 => ⟨S_, .f32⟩
  | 114 => ⟨S_, .f32⟩
  | 115 => ⟨S_, .f32⟩
  | 116 => ⟨S4x64x24x24, .f32⟩
  | 117 => ⟨S4x64x24x24, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | _ => ⟨S4x64x24x24, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x64x24x24, .f32⟩

abbrev bufTy : (tb : Table) → Fin (tcTables nBuf tb) → BufTy
  | .hbm, ⟨i, _⟩ => hbmTy i
  | _, _ => ⟨S4x64x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_8 : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_11 : Ref sig .tc := ⟨.hbm, 58, rfl⟩
abbrev main_v43 : Ref sig .tc := ⟨.hbm, 59, rfl⟩
abbrev main_v44 : Ref sig .tc := ⟨.hbm, 60, rfl⟩
abbrev main_c_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_13 : Ref sig .tc := ⟨.hbm, 67, rfl⟩
abbrev main_v50 : Ref sig .tc := ⟨.hbm, 68, rfl⟩
abbrev main_v51 : Ref sig .tc := ⟨.hbm, 69, rfl⟩
abbrev main_c_14 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_15 : Ref sig .tc := ⟨.hbm, 76, rfl⟩
abbrev main_v57 : Ref sig .tc := ⟨.hbm, 77, rfl⟩
abbrev main_v58 : Ref sig .tc := ⟨.hbm, 78, rfl⟩
abbrev main_c_16 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_17 : Ref sig .tc := ⟨.hbm, 85, rfl⟩
abbrev main_v64 : Ref sig .tc := ⟨.hbm, 86, rfl⟩
abbrev main_v65 : Ref sig .tc := ⟨.hbm, 87, rfl⟩
abbrev main_c_18 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_19 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_20 : Ref sig .tc := ⟨.hbm, 99, rfl⟩
abbrev main_v75 : Ref sig .tc := ⟨.hbm, 100, rfl⟩
abbrev main_v76 : Ref sig .tc := ⟨.hbm, 101, rfl⟩
abbrev main_c_21 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_22 : Ref sig .tc := ⟨.hbm, 108, rfl⟩
abbrev main_v82 : Ref sig .tc := ⟨.hbm, 109, rfl⟩
abbrev main_v83 : Ref sig .tc := ⟨.hbm, 110, rfl⟩
abbrev main_c_23 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_24 : Ref sig .tc := ⟨.hbm, 117, rfl⟩
abbrev main_v89 : Ref sig .tc := ⟨.hbm, 118, rfl⟩
abbrev main_v90 : Ref sig .tc := ⟨.hbm, 119, rfl⟩
abbrev main_c_25 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_26 : Ref sig .tc := ⟨.hbm, 126, rfl⟩
abbrev main_v96 : Ref sig .tc := ⟨.hbm, 127, rfl⟩
abbrev main_v97 : Ref sig .tc := ⟨.hbm, 128, rfl⟩
abbrev main_c_27 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_c_28 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_29 : Ref sig .tc := ⟨.hbm, 140, rfl⟩
abbrev main_v107 : Ref sig .tc := ⟨.hbm, 141, rfl⟩
abbrev main_v108 : Ref sig .tc := ⟨.hbm, 142, rfl⟩
abbrev main_c_30 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_31 : Ref sig .tc := ⟨.hbm, 149, rfl⟩
abbrev main_v114 : Ref sig .tc := ⟨.hbm, 150, rfl⟩
abbrev main_v115 : Ref sig .tc := ⟨.hbm, 151, rfl⟩
abbrev main_c_32 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_c_33 : Ref sig .tc := ⟨.hbm, 158, rfl⟩
abbrev main_v121 : Ref sig .tc := ⟨.hbm, 159, rfl⟩
abbrev main_v122 : Ref sig .tc := ⟨.hbm, 160, rfl⟩
abbrev main_c_34 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_c_35 : Ref sig .tc := ⟨.hbm, 167, rfl⟩
abbrev main_v128 : Ref sig .tc := ⟨.hbm, 168, rfl⟩
abbrev main_v129 : Ref sig .tc := ⟨.hbm, 169, rfl⟩
abbrev main_c_36 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_c_37 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_c_38 : Ref sig .tc := ⟨.hbm, 181, rfl⟩
abbrev main_v139 : Ref sig .tc := ⟨.hbm, 182, rfl⟩
abbrev main_v140 : Ref sig .tc := ⟨.hbm, 183, rfl⟩
abbrev main_c_39 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_c_40 : Ref sig .tc := ⟨.hbm, 190, rfl⟩
abbrev main_v146 : Ref sig .tc := ⟨.hbm, 191, rfl⟩
abbrev main_v147 : Ref sig .tc := ⟨.hbm, 192, rfl⟩
abbrev main_c_41 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_c_42 : Ref sig .tc := ⟨.hbm, 199, rfl⟩
abbrev main_v153 : Ref sig .tc := ⟨.hbm, 200, rfl⟩
abbrev main_v154 : Ref sig .tc := ⟨.hbm, 201, rfl⟩
abbrev main_c_43 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_c_44 : Ref sig .tc := ⟨.hbm, 208, rfl⟩
abbrev main_v160 : Ref sig .tc := ⟨.hbm, 209, rfl⟩
abbrev main_v161 : Ref sig .tc := ⟨.hbm, 210, rfl⟩
abbrev main_c_45 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_c_46 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_c_47 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_c_48 : Ref sig .tc := ⟨.hbm, 230, rfl⟩
abbrev main_v178 : Ref sig .tc := ⟨.hbm, 231, rfl⟩
abbrev main_v179 : Ref sig .tc := ⟨.hbm, 232, rfl⟩
abbrev main_c_49 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_c_50 : Ref sig .tc := ⟨.hbm, 241, rfl⟩
abbrev main_v187 : Ref sig .tc := ⟨.hbm, 242, rfl⟩
abbrev main_v188 : Ref sig .tc := ⟨.hbm, 243, rfl⟩
abbrev main_c_51 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_c_52 : Ref sig .tc := ⟨.hbm, 250, rfl⟩
abbrev main_v194 : Ref sig .tc := ⟨.hbm, 251, rfl⟩
abbrev main_v195 : Ref sig .tc := ⟨.hbm, 252, rfl⟩
abbrev main_c_53 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_c_54 : Ref sig .tc := ⟨.hbm, 259, rfl⟩
abbrev main_v201 : Ref sig .tc := ⟨.hbm, 260, rfl⟩
abbrev main_v202 : Ref sig .tc := ⟨.hbm, 261, rfl⟩
abbrev main_c_55 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_c_56 : Ref sig .tc := ⟨.hbm, 268, rfl⟩
abbrev main_v208 : Ref sig .tc := ⟨.hbm, 269, rfl⟩
abbrev main_v209 : Ref sig .tc := ⟨.hbm, 270, rfl⟩
abbrev main_c_57 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_c_58 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_c_59 : Ref sig .tc := ⟨.hbm, 284, rfl⟩
abbrev main_v221 : Ref sig .tc := ⟨.hbm, 285, rfl⟩
abbrev main_v222 : Ref sig .tc := ⟨.hbm, 286, rfl⟩
abbrev main_c_60 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_c_61 : Ref sig .tc := ⟨.hbm, 293, rfl⟩
abbrev main_v228 : Ref sig .tc := ⟨.hbm, 294, rfl⟩
abbrev main_v229 : Ref sig .tc := ⟨.hbm, 295, rfl⟩
abbrev main_c_62 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_c_63 : Ref sig .tc := ⟨.hbm, 302, rfl⟩
abbrev main_v235 : Ref sig .tc := ⟨.hbm, 303, rfl⟩
abbrev main_v236 : Ref sig .tc := ⟨.hbm, 304, rfl⟩
abbrev main_c_64 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_c_65 : Ref sig .tc := ⟨.hbm, 311, rfl⟩
abbrev main_v242 : Ref sig .tc := ⟨.hbm, 312, rfl⟩
abbrev main_v243 : Ref sig .tc := ⟨.hbm, 313, rfl⟩
abbrev main_c_66 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_c_67 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_c_68 : Ref sig .tc := ⟨.hbm, 327, rfl⟩
abbrev main_v255 : Ref sig .tc := ⟨.hbm, 328, rfl⟩
abbrev main_v256 : Ref sig .tc := ⟨.hbm, 329, rfl⟩
abbrev main_c_69 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_c_70 : Ref sig .tc := ⟨.hbm, 336, rfl⟩
abbrev main_v262 : Ref sig .tc := ⟨.hbm, 337, rfl⟩
abbrev main_v263 : Ref sig .tc := ⟨.hbm, 338, rfl⟩
abbrev main_c_71 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_c_72 : Ref sig .tc := ⟨.hbm, 345, rfl⟩
abbrev main_v269 : Ref sig .tc := ⟨.hbm, 346, rfl⟩
abbrev main_v270 : Ref sig .tc := ⟨.hbm, 347, rfl⟩
abbrev main_c_73 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_c_74 : Ref sig .tc := ⟨.hbm, 354, rfl⟩
abbrev main_v276 : Ref sig .tc := ⟨.hbm, 355, rfl⟩
abbrev main_v277 : Ref sig .tc := ⟨.hbm, 356, rfl⟩
abbrev main_c_75 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_c_76 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_c_77 : Ref sig .tc := ⟨.hbm, 370, rfl⟩
abbrev main_v289 : Ref sig .tc := ⟨.hbm, 371, rfl⟩
abbrev main_v290 : Ref sig .tc := ⟨.hbm, 372, rfl⟩
abbrev main_c_78 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩
abbrev main_c_79 : Ref sig .tc := ⟨.hbm, 379, rfl⟩
abbrev main_v296 : Ref sig .tc := ⟨.hbm, 380, rfl⟩
abbrev main_v297 : Ref sig .tc := ⟨.hbm, 381, rfl⟩
abbrev main_c_80 : Ref sig .tc := ⟨.hbm, 382, rfl⟩
abbrev main_v298 : Ref sig .tc := ⟨.hbm, 383, rfl⟩
abbrev main_v299 : Ref sig .tc := ⟨.hbm, 384, rfl⟩
abbrev main_v300 : Ref sig .tc := ⟨.hbm, 385, rfl⟩
abbrev main_v301 : Ref sig .tc := ⟨.hbm, 386, rfl⟩
abbrev main_v302 : Ref sig .tc := ⟨.hbm, 387, rfl⟩
abbrev main_c_81 : Ref sig .tc := ⟨.hbm, 388, rfl⟩
abbrev main_v303 : Ref sig .tc := ⟨.hbm, 389, rfl⟩
abbrev main_v304 : Ref sig .tc := ⟨.hbm, 390, rfl⟩
abbrev main_c_82 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_c_83 : Ref sig .tc := ⟨.hbm, 397, rfl⟩
abbrev main_v310 : Ref sig .tc := ⟨.hbm, 398, rfl⟩
abbrev main_v311 : Ref sig .tc := ⟨.hbm, 399, rfl⟩
abbrev main_c_84 : Ref sig .tc := ⟨.hbm, 400, rfl⟩
abbrev main_v312 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_c_85 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_c_86 : Ref sig .tc := ⟨.hbm, 413, rfl⟩
abbrev main_v323 : Ref sig .tc := ⟨.hbm, 414, rfl⟩
abbrev main_v324 : Ref sig .tc := ⟨.hbm, 415, rfl⟩
abbrev main_c_87 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_c_88 : Ref sig .tc := ⟨.hbm, 422, rfl⟩
abbrev main_v330 : Ref sig .tc := ⟨.hbm, 423, rfl⟩
abbrev main_v331 : Ref sig .tc := ⟨.hbm, 424, rfl⟩
abbrev main_c_89 : Ref sig .tc := ⟨.hbm, 425, rfl⟩
abbrev main_v332 : Ref sig .tc := ⟨.hbm, 426, rfl⟩
abbrev main_v333 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_c_90 : Ref sig .tc := ⟨.hbm, 431, rfl⟩
abbrev main_v337 : Ref sig .tc := ⟨.hbm, 432, rfl⟩
abbrev main_v338 : Ref sig .tc := ⟨.hbm, 433, rfl⟩
abbrev main_c_91 : Ref sig .tc := ⟨.hbm, 434, rfl⟩
abbrev main_v339 : Ref sig .tc := ⟨.hbm, 435, rfl⟩
abbrev main_v340 : Ref sig .tc := ⟨.hbm, 436, rfl⟩
abbrev main_v341 : Ref sig .tc := ⟨.hbm, 437, rfl⟩
abbrev main_v342 : Ref sig .tc := ⟨.hbm, 438, rfl⟩
abbrev main_v343 : Ref sig .tc := ⟨.hbm, 439, rfl⟩
abbrev main_c_92 : Ref sig .tc := ⟨.hbm, 440, rfl⟩
abbrev main_v344 : Ref sig .tc := ⟨.hbm, 441, rfl⟩
abbrev main_v345 : Ref sig .tc := ⟨.hbm, 442, rfl⟩
abbrev main_c_93 : Ref sig .tc := ⟨.hbm, 443, rfl⟩
abbrev main_v346 : Ref sig .tc := ⟨.hbm, 444, rfl⟩
abbrev main_v347 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩
abbrev main_v351 : Ref sig .tc := ⟨.hbm, 449, rfl⟩
abbrev main_v352 : Ref sig .tc := ⟨.hbm, 450, rfl⟩
abbrev main_v353 : Ref sig .tc := ⟨.hbm, 451, rfl⟩
abbrev main_c_94 : Ref sig .tc := ⟨.hbm, 452, rfl⟩
abbrev main_v354 : Ref sig .tc := ⟨.hbm, 453, rfl⟩
abbrev main_v355 : Ref sig .tc := ⟨.hbm, 454, rfl⟩
abbrev main_v356 : Ref sig .tc := ⟨.hbm, 455, rfl⟩
abbrev main_c_95 : Ref sig .tc := ⟨.hbm, 456, rfl⟩
abbrev main_v357 : Ref sig .tc := ⟨.hbm, 457, rfl⟩
abbrev main_v358 : Ref sig .tc := ⟨.hbm, 458, rfl⟩
abbrev main_c_96 : Ref sig .tc := ⟨.hbm, 459, rfl⟩
abbrev main_v359 : Ref sig .tc := ⟨.hbm, 460, rfl⟩
abbrev main_v360 : Ref sig .tc := ⟨.hbm, 461, rfl⟩
abbrev main_v361 : Ref sig .tc := ⟨.hbm, 462, rfl⟩
abbrev main_cst_97 : Ref sig .tc := ⟨.hbm, 463, rfl⟩
abbrev main_v362 : Ref sig .tc := ⟨.hbm, 464, rfl⟩
abbrev main_v363 : Ref sig .tc := ⟨.hbm, 465, rfl⟩
abbrev main_cst_98 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_v370 : Ref sig .tc := ⟨.hbm, 473, rfl⟩
abbrev main_v371 : Ref sig .tc := ⟨.hbm, 474, rfl⟩
abbrev main_v372 : Ref sig .tc := ⟨.hbm, 475, rfl⟩
abbrev main_cst_99 : Ref sig .tc := ⟨.hbm, 476, rfl⟩
abbrev main_v373 : Ref sig .tc := ⟨.hbm, 477, rfl⟩
abbrev main_v374 : Ref sig .tc := ⟨.hbm, 478, rfl⟩
abbrev main_v375 : Ref sig .tc := ⟨.hbm, 479, rfl⟩
abbrev main_cst_100 : Ref sig .tc := ⟨.hbm, 480, rfl⟩
abbrev main_v376 : Ref sig .tc := ⟨.hbm, 481, rfl⟩
abbrev main_v377 : Ref sig .tc := ⟨.hbm, 482, rfl⟩
abbrev main_v378 : Ref sig .tc := ⟨.hbm, 483, rfl⟩
abbrev main_v379 : Ref sig .tc := ⟨.hbm, 484, rfl⟩
abbrev main_v380 : Ref sig .tc := ⟨.hbm, 485, rfl⟩
abbrev main_v381 : Ref sig .tc := ⟨.hbm, 486, rfl⟩
abbrev main_v382 : Ref sig .tc := ⟨.hbm, 487, rfl⟩
abbrev main_cst_101 : Ref sig .tc := ⟨.hbm, 488, rfl⟩
abbrev main_v383 : Ref sig .tc := ⟨.hbm, 489, rfl⟩
abbrev main_v384 : Ref sig .tc := ⟨.hbm, 490, rfl⟩
abbrev main_v385 : Ref sig .tc := ⟨.hbm, 491, rfl⟩
abbrev main_v386 : Ref sig .tc := ⟨.hbm, 492, rfl⟩
abbrev main_cst_102 : Ref sig .tc := ⟨.hbm, 493, rfl⟩
abbrev main_v387 : Ref sig .tc := ⟨.hbm, 494, rfl⟩
abbrev main_v388 : Ref sig .tc := ⟨.hbm, 495, rfl⟩
abbrev main_cst_103 : Ref sig .tc := ⟨.hbm, 496, rfl⟩
abbrev main_v389 : Ref sig .tc := ⟨.hbm, 497, rfl⟩
abbrev main_cst_104 : Ref sig .tc := ⟨.hbm, 498, rfl⟩
abbrev main_v390 : Ref sig .tc := ⟨.hbm, 499, rfl⟩
abbrev main_v391 : Ref sig .tc := ⟨.hbm, 500, rfl⟩
abbrev main_v392 : Ref sig .tc := ⟨.hbm, 501, rfl⟩
abbrev main_v393 : Ref sig .tc := ⟨.hbm, 502, rfl⟩
abbrev main_v394 : Ref sig .tc := ⟨.hbm, 503, rfl⟩
abbrev main_v395 : Ref sig .tc := ⟨.hbm, 504, rfl⟩
abbrev main_cst_105 : Ref sig .tc := ⟨.hbm, 505, rfl⟩
abbrev main_v396 : Ref sig .tc := ⟨.hbm, 506, rfl⟩
abbrev main_v397 : Ref sig .tc := ⟨.hbm, 507, rfl⟩
abbrev main_v398 : Ref sig .tc := ⟨.hbm, 508, rfl⟩
abbrev main_v399 : Ref sig .tc := ⟨.hbm, 509, rfl⟩
abbrev main_v400 : Ref sig .tc := ⟨.hbm, 510, rfl⟩
abbrev main_v401 : Ref sig .tc := ⟨.hbm, 511, rfl⟩
abbrev main_v402 : Ref sig .tc := ⟨.hbm, 512, rfl⟩
abbrev main_v403 : Ref sig .tc := ⟨.hbm, 513, rfl⟩
abbrev main_values : Ref sig .tc := ⟨.hbm, 514, rfl⟩
abbrev main_indices : Ref sig .tc := ⟨.hbm, 515, rfl⟩
abbrev main_v404 : Ref sig .tc := ⟨.hbm, 516, rfl⟩
abbrev main_call0_v0 : Ref sig .tc := ⟨.hbm, 517, rfl⟩
abbrev main_call0_v1 : Ref sig .tc := ⟨.hbm, 518, rfl⟩
abbrev main_call0_v2 : Ref sig .tc := ⟨.hbm, 519, rfl⟩
abbrev main_call0_v3 : Ref sig .tc := ⟨.hbm, 520, rfl⟩
abbrev main_call0_v4 : Ref sig .tc := ⟨.hbm, 521, rfl⟩
abbrev main_v405 : Ref sig .tc := ⟨.hbm, 522, rfl⟩
abbrev main_v406 : Ref sig .tc := ⟨.hbm, 523, rfl⟩
abbrev main_v407 : Ref sig .tc := ⟨.hbm, 524, rfl⟩
abbrev main_v408 : Ref sig .tc := ⟨.hbm, 525, rfl⟩
abbrev main_v409 : Ref sig .tc := ⟨.hbm, 526, rfl⟩
abbrev main_v410 : Ref sig .tc := ⟨.hbm, 527, rfl⟩
abbrev main_v411 : Ref sig .tc := ⟨.hbm, 528, rfl⟩
abbrev main_v412 : Ref sig .tc := ⟨.hbm, 529, rfl⟩
abbrev main_v413 : Ref sig .tc := ⟨.hbm, 530, rfl⟩
abbrev main_v414 : Ref sig .tc := ⟨.hbm, 531, rfl⟩
abbrev main_cst_106 : Ref sig .tc := ⟨.hbm, 532, rfl⟩
abbrev main_v415 : Ref sig .tc := ⟨.hbm, 533, rfl⟩
abbrev main_cst_107 : Ref sig .tc := ⟨.hbm, 534, rfl⟩
abbrev main_v416 : Ref sig .tc := ⟨.hbm, 535, rfl⟩
abbrev main_v417 : Ref sig .tc := ⟨.hbm, 536, rfl⟩
abbrev main_v418 : Ref sig .tc := ⟨.hbm, 537, rfl⟩
abbrev main_cst_108 : Ref sig .tc := ⟨.hbm, 538, rfl⟩
abbrev main_v419 : Ref sig .tc := ⟨.hbm, 539, rfl⟩
abbrev main_cst_109 : Ref sig .tc := ⟨.hbm, 540, rfl⟩
abbrev main_v420 : Ref sig .tc := ⟨.hbm, 541, rfl⟩
abbrev main_cst_110 : Ref sig .tc := ⟨.hbm, 542, rfl⟩
abbrev main_v421 : Ref sig .tc := ⟨.hbm, 543, rfl⟩
abbrev main_cst_111 : Ref sig .tc := ⟨.hbm, 544, rfl⟩
abbrev main_v422 : Ref sig .tc := ⟨.hbm, 545, rfl⟩
abbrev main_v423 : Ref sig .tc := ⟨.hbm, 546, rfl⟩
abbrev main_v424 : Ref sig .tc := ⟨.hbm, 547, rfl⟩
abbrev main_v425 : Ref sig .tc := ⟨.hbm, 548, rfl⟩
abbrev main_v426 : Ref sig .tc := ⟨.hbm, 549, rfl⟩
abbrev main_cst_112 : Ref sig .tc := ⟨.hbm, 550, rfl⟩
abbrev main_v427 : Ref sig .tc := ⟨.hbm, 551, rfl⟩
abbrev main_v428 : Ref sig .tc := ⟨.hbm, 552, rfl⟩
abbrev main_v429 : Ref sig .tc := ⟨.hbm, 553, rfl⟩
abbrev main_cst_113 : Ref sig .tc := ⟨.hbm, 554, rfl⟩
abbrev main_v430 : Ref sig .tc := ⟨.hbm, 555, rfl⟩
abbrev main_v431 : Ref sig .tc := ⟨.hbm, 556, rfl⟩
abbrev main_v432 : Ref sig .tc := ⟨.hbm, 557, rfl⟩
abbrev main_v433 : Ref sig .tc := ⟨.hbm, 558, rfl⟩
abbrev main_v434 : Ref sig .tc := ⟨.hbm, 559, rfl⟩
abbrev main_v435 : Ref sig .tc := ⟨.hbm, 560, rfl⟩
abbrev main_v436 : Ref sig .tc := ⟨.hbm, 561, rfl⟩
abbrev main_cst_114 : Ref sig .tc := ⟨.hbm, 562, rfl⟩
abbrev main_v437 : Ref sig .tc := ⟨.hbm, 563, rfl⟩
abbrev main_v438 : Ref sig .tc := ⟨.hbm, 564, rfl⟩
abbrev main_v439 : Ref sig .tc := ⟨.hbm, 565, rfl⟩
abbrev main_v440 : Ref sig .tc := ⟨.hbm, 566, rfl⟩
abbrev main_cst_115 : Ref sig .tc := ⟨.hbm, 567, rfl⟩
abbrev main_v441 : Ref sig .tc := ⟨.hbm, 568, rfl⟩
abbrev main_v442 : Ref sig .tc := ⟨.hbm, 569, rfl⟩
abbrev main_cst_116 : Ref sig .tc := ⟨.hbm, 570, rfl⟩
abbrev main_v443 : Ref sig .tc := ⟨.hbm, 571, rfl⟩
abbrev main_cst_117 : Ref sig .tc := ⟨.hbm, 572, rfl⟩
abbrev main_v444 : Ref sig .tc := ⟨.hbm, 573, rfl⟩
abbrev main_v445 : Ref sig .tc := ⟨.hbm, 574, rfl⟩
abbrev main_v446 : Ref sig .tc := ⟨.hbm, 575, rfl⟩
abbrev main_v447 : Ref sig .tc := ⟨.hbm, 576, rfl⟩
abbrev main_v448 : Ref sig .tc := ⟨.hbm, 577, rfl⟩
abbrev main_v449 : Ref sig .tc := ⟨.hbm, 578, rfl⟩
abbrev main_cst_118 : Ref sig .tc := ⟨.hbm, 579, rfl⟩
abbrev main_v450 : Ref sig .tc := ⟨.hbm, 580, rfl⟩
abbrev main_v451 : Ref sig .tc := ⟨.hbm, 581, rfl⟩
abbrev main_v452 : Ref sig .tc := ⟨.hbm, 582, rfl⟩
abbrev main_v453 : Ref sig .tc := ⟨.hbm, 583, rfl⟩
abbrev main_v454 : Ref sig .tc := ⟨.hbm, 584, rfl⟩
abbrev main_v455 : Ref sig .tc := ⟨.hbm, 585, rfl⟩
abbrev main_v456 : Ref sig .tc := ⟨.hbm, 586, rfl⟩
abbrev main_v457 : Ref sig .tc := ⟨.hbm, 587, rfl⟩
abbrev main_values_119 : Ref sig .tc := ⟨.hbm, 588, rfl⟩
abbrev main_indices_120 : Ref sig .tc := ⟨.hbm, 589, rfl⟩
abbrev main_v458 : Ref sig .tc := ⟨.hbm, 590, rfl⟩
abbrev main_call1_v0 : Ref sig .tc := ⟨.hbm, 591, rfl⟩
abbrev main_call1_v1 : Ref sig .tc := ⟨.hbm, 592, rfl⟩
abbrev main_call1_v2 : Ref sig .tc := ⟨.hbm, 593, rfl⟩
abbrev main_call1_v3 : Ref sig .tc := ⟨.hbm, 594, rfl⟩
abbrev main_call1_v4 : Ref sig .tc := ⟨.hbm, 595, rfl⟩
abbrev main_v459 : Ref sig .tc := ⟨.hbm, 596, rfl⟩
abbrev main_v460 : Ref sig .tc := ⟨.hbm, 597, rfl⟩
abbrev main_v461 : Ref sig .tc := ⟨.hbm, 598, rfl⟩
abbrev main_v462 : Ref sig .tc := ⟨.hbm, 599, rfl⟩
abbrev main_v463 : Ref sig .tc := ⟨.hbm, 600, rfl⟩
abbrev main_v464 : Ref sig .tc := ⟨.hbm, 601, rfl⟩
abbrev main_v465 : Ref sig .tc := ⟨.hbm, 602, rfl⟩
abbrev main_v466 : Ref sig .tc := ⟨.hbm, 603, rfl⟩
abbrev main_v467 : Ref sig .tc := ⟨.hbm, 604, rfl⟩
abbrev main_v468 : Ref sig .tc := ⟨.hbm, 605, rfl⟩
abbrev main_cst_121 : Ref sig .tc := ⟨.hbm, 606, rfl⟩
abbrev main_v469 : Ref sig .tc := ⟨.hbm, 607, rfl⟩
abbrev main_cst_122 : Ref sig .tc := ⟨.hbm, 608, rfl⟩
abbrev main_v470 : Ref sig .tc := ⟨.hbm, 609, rfl⟩
abbrev main_v471 : Ref sig .tc := ⟨.hbm, 610, rfl⟩
abbrev main_v472 : Ref sig .tc := ⟨.hbm, 611, rfl⟩
abbrev main_cst_123 : Ref sig .tc := ⟨.hbm, 612, rfl⟩
abbrev main_v473 : Ref sig .tc := ⟨.hbm, 613, rfl⟩
abbrev main_cst_124 : Ref sig .tc := ⟨.hbm, 614, rfl⟩
abbrev main_v474 : Ref sig .tc := ⟨.hbm, 615, rfl⟩
abbrev main_v475 : Ref sig .tc := ⟨.hbm, 616, rfl⟩
abbrev main_cst_125 : Ref sig .tc := ⟨.hbm, 617, rfl⟩
abbrev main_v476 : Ref sig .tc := ⟨.hbm, 618, rfl⟩
abbrev main_v477 : Ref sig .tc := ⟨.hbm, 619, rfl⟩
abbrev main_v478 : Ref sig .tc := ⟨.hbm, 620, rfl⟩
abbrev main_v479 : Ref sig .tc := ⟨.hbm, 621, rfl⟩
abbrev main_v480 : Ref sig .tc := ⟨.hbm, 622, rfl⟩
abbrev main_cst_126 : Ref sig .tc := ⟨.hbm, 623, rfl⟩
abbrev main_v481 : Ref sig .tc := ⟨.hbm, 624, rfl⟩
abbrev main_v482 : Ref sig .tc := ⟨.hbm, 625, rfl⟩
abbrev main_v483 : Ref sig .tc := ⟨.hbm, 626, rfl⟩
abbrev main_cst_127 : Ref sig .tc := ⟨.hbm, 627, rfl⟩
abbrev main_v484 : Ref sig .tc := ⟨.hbm, 628, rfl⟩
abbrev main_v485 : Ref sig .tc := ⟨.hbm, 629, rfl⟩
abbrev main_v486 : Ref sig .tc := ⟨.hbm, 630, rfl⟩
abbrev main_v487 : Ref sig .tc := ⟨.hbm, 631, rfl⟩
abbrev main_v488 : Ref sig .tc := ⟨.hbm, 632, rfl⟩
abbrev main_v489 : Ref sig .tc := ⟨.hbm, 633, rfl⟩
abbrev main_v490 : Ref sig .tc := ⟨.hbm, 634, rfl⟩
abbrev main_cst_128 : Ref sig .tc := ⟨.hbm, 635, rfl⟩
abbrev main_v491 : Ref sig .tc := ⟨.hbm, 636, rfl⟩
abbrev main_v492 : Ref sig .tc := ⟨.hbm, 637, rfl⟩
abbrev main_v493 : Ref sig .tc := ⟨.hbm, 638, rfl⟩
abbrev main_v494 : Ref sig .tc := ⟨.hbm, 639, rfl⟩
abbrev main_cst_129 : Ref sig .tc := ⟨.hbm, 640, rfl⟩
abbrev main_v495 : Ref sig .tc := ⟨.hbm, 641, rfl⟩
abbrev main_v496 : Ref sig .tc := ⟨.hbm, 642, rfl⟩
abbrev main_cst_130 : Ref sig .tc := ⟨.hbm, 643, rfl⟩
abbrev main_v497 : Ref sig .tc := ⟨.hbm, 644, rfl⟩
abbrev main_cst_131 : Ref sig .tc := ⟨.hbm, 645, rfl⟩
abbrev main_v498 : Ref sig .tc := ⟨.hbm, 646, rfl⟩
abbrev main_v499 : Ref sig .tc := ⟨.hbm, 647, rfl⟩
abbrev main_v500 : Ref sig .tc := ⟨.hbm, 648, rfl⟩
abbrev main_v501 : Ref sig .tc := ⟨.hbm, 649, rfl⟩
abbrev main_v502 : Ref sig .tc := ⟨.hbm, 650, rfl⟩
abbrev main_v503 : Ref sig .tc := ⟨.hbm, 651, rfl⟩
abbrev main_cst_132 : Ref sig .tc := ⟨.hbm, 652, rfl⟩
abbrev main_v504 : Ref sig .tc := ⟨.hbm, 653, rfl⟩
abbrev main_v505 : Ref sig .tc := ⟨.hbm, 654, rfl⟩
abbrev main_v506 : Ref sig .tc := ⟨.hbm, 655, rfl⟩
abbrev main_v507 : Ref sig .tc := ⟨.hbm, 656, rfl⟩
abbrev main_v508 : Ref sig .tc := ⟨.hbm, 657, rfl⟩
abbrev main_v509 : Ref sig .tc := ⟨.hbm, 658, rfl⟩
abbrev main_v510 : Ref sig .tc := ⟨.hbm, 659, rfl⟩
abbrev main_v511 : Ref sig .tc := ⟨.hbm, 660, rfl⟩
abbrev main_values_133 : Ref sig .tc := ⟨.hbm, 661, rfl⟩
abbrev main_indices_134 : Ref sig .tc := ⟨.hbm, 662, rfl⟩
abbrev main_v512 : Ref sig .tc := ⟨.hbm, 663, rfl⟩
abbrev main_call2_v0 : Ref sig .tc := ⟨.hbm, 664, rfl⟩
abbrev main_call2_v1 : Ref sig .tc := ⟨.hbm, 665, rfl⟩
abbrev main_call2_v2 : Ref sig .tc := ⟨.hbm, 666, rfl⟩
abbrev main_call2_v3 : Ref sig .tc := ⟨.hbm, 667, rfl⟩
abbrev main_call2_v4 : Ref sig .tc := ⟨.hbm, 668, rfl⟩
abbrev main_v513 : Ref sig .tc := ⟨.hbm, 669, rfl⟩
abbrev main_v514 : Ref sig .tc := ⟨.hbm, 670, rfl⟩
abbrev main_v515 : Ref sig .tc := ⟨.hbm, 671, rfl⟩
abbrev main_v516 : Ref sig .tc := ⟨.hbm, 672, rfl⟩
abbrev main_v517 : Ref sig .tc := ⟨.hbm, 673, rfl⟩
abbrev main_v518 : Ref sig .tc := ⟨.hbm, 674, rfl⟩
abbrev main_v519 : Ref sig .tc := ⟨.hbm, 675, rfl⟩
abbrev main_v520 : Ref sig .tc := ⟨.hbm, 676, rfl⟩
abbrev main_v521 : Ref sig .tc := ⟨.hbm, 677, rfl⟩
abbrev main_v522 : Ref sig .tc := ⟨.hbm, 678, rfl⟩
abbrev main_cst_135 : Ref sig .tc := ⟨.hbm, 679, rfl⟩
abbrev main_v523 : Ref sig .tc := ⟨.hbm, 680, rfl⟩
abbrev main_cst_136 : Ref sig .tc := ⟨.hbm, 681, rfl⟩
abbrev main_v524 : Ref sig .tc := ⟨.hbm, 682, rfl⟩
abbrev main_v525 : Ref sig .tc := ⟨.hbm, 683, rfl⟩
abbrev main_v526 : Ref sig .tc := ⟨.hbm, 684, rfl⟩
abbrev main_cst_137 : Ref sig .tc := ⟨.hbm, 685, rfl⟩
abbrev main_v527 : Ref sig .tc := ⟨.hbm, 686, rfl⟩
abbrev main_cst_138 : Ref sig .tc := ⟨.hbm, 687, rfl⟩
abbrev main_v528 : Ref sig .tc := ⟨.hbm, 688, rfl⟩
abbrev main_v529 : Ref sig .tc := ⟨.hbm, 689, rfl⟩
abbrev main_cst_139 : Ref sig .tc := ⟨.hbm, 690, rfl⟩
abbrev main_v530 : Ref sig .tc := ⟨.hbm, 691, rfl⟩
abbrev main_v531 : Ref sig .tc := ⟨.hbm, 692, rfl⟩
abbrev main_v532 : Ref sig .tc := ⟨.hbm, 693, rfl⟩
abbrev main_v533 : Ref sig .tc := ⟨.hbm, 694, rfl⟩
abbrev main_v534 : Ref sig .tc := ⟨.hbm, 695, rfl⟩
abbrev main_cst_140 : Ref sig .tc := ⟨.hbm, 696, rfl⟩
abbrev main_v535 : Ref sig .tc := ⟨.hbm, 697, rfl⟩
abbrev main_v536 : Ref sig .tc := ⟨.hbm, 698, rfl⟩
abbrev main_v537 : Ref sig .tc := ⟨.hbm, 699, rfl⟩
abbrev main_cst_141 : Ref sig .tc := ⟨.hbm, 700, rfl⟩
abbrev main_v538 : Ref sig .tc := ⟨.hbm, 701, rfl⟩
abbrev main_v539 : Ref sig .tc := ⟨.hbm, 702, rfl⟩
abbrev main_v540 : Ref sig .tc := ⟨.hbm, 703, rfl⟩
abbrev main_v541 : Ref sig .tc := ⟨.hbm, 704, rfl⟩
abbrev main_v542 : Ref sig .tc := ⟨.hbm, 705, rfl⟩
abbrev main_v543 : Ref sig .tc := ⟨.hbm, 706, rfl⟩
abbrev main_v544 : Ref sig .tc := ⟨.hbm, 707, rfl⟩
abbrev main_cst_142 : Ref sig .tc := ⟨.hbm, 708, rfl⟩
abbrev main_v545 : Ref sig .tc := ⟨.hbm, 709, rfl⟩
abbrev main_v546 : Ref sig .tc := ⟨.hbm, 710, rfl⟩
abbrev main_v547 : Ref sig .tc := ⟨.hbm, 711, rfl⟩
abbrev main_v548 : Ref sig .tc := ⟨.hbm, 712, rfl⟩
abbrev main_cst_143 : Ref sig .tc := ⟨.hbm, 713, rfl⟩
abbrev main_v549 : Ref sig .tc := ⟨.hbm, 714, rfl⟩
abbrev main_v550 : Ref sig .tc := ⟨.hbm, 715, rfl⟩
abbrev main_cst_144 : Ref sig .tc := ⟨.hbm, 716, rfl⟩
abbrev main_v551 : Ref sig .tc := ⟨.hbm, 717, rfl⟩
abbrev main_cst_145 : Ref sig .tc := ⟨.hbm, 718, rfl⟩
abbrev main_v552 : Ref sig .tc := ⟨.hbm, 719, rfl⟩
abbrev main_v553 : Ref sig .tc := ⟨.hbm, 720, rfl⟩
abbrev main_v554 : Ref sig .tc := ⟨.hbm, 721, rfl⟩
abbrev main_v555 : Ref sig .tc := ⟨.hbm, 722, rfl⟩
abbrev main_v556 : Ref sig .tc := ⟨.hbm, 723, rfl⟩
abbrev main_v557 : Ref sig .tc := ⟨.hbm, 724, rfl⟩
abbrev main_cst_146 : Ref sig .tc := ⟨.hbm, 725, rfl⟩
abbrev main_v558 : Ref sig .tc := ⟨.hbm, 726, rfl⟩
abbrev main_v559 : Ref sig .tc := ⟨.hbm, 727, rfl⟩
abbrev main_v560 : Ref sig .tc := ⟨.hbm, 728, rfl⟩
abbrev main_v561 : Ref sig .tc := ⟨.hbm, 729, rfl⟩
abbrev main_v562 : Ref sig .tc := ⟨.hbm, 730, rfl⟩
abbrev main_v563 : Ref sig .tc := ⟨.hbm, 731, rfl⟩
abbrev main_v564 : Ref sig .tc := ⟨.hbm, 732, rfl⟩
abbrev main_v565 : Ref sig .tc := ⟨.hbm, 733, rfl⟩
abbrev main_values_147 : Ref sig .tc := ⟨.hbm, 734, rfl⟩
abbrev main_indices_148 : Ref sig .tc := ⟨.hbm, 735, rfl⟩
abbrev main_v566 : Ref sig .tc := ⟨.hbm, 736, rfl⟩
abbrev main_call3_v0 : Ref sig .tc := ⟨.hbm, 737, rfl⟩
abbrev main_call3_v1 : Ref sig .tc := ⟨.hbm, 738, rfl⟩
abbrev main_call3_v2 : Ref sig .tc := ⟨.hbm, 739, rfl⟩
abbrev main_call3_v3 : Ref sig .tc := ⟨.hbm, 740, rfl⟩
abbrev main_call3_v4 : Ref sig .tc := ⟨.hbm, 741, rfl⟩
abbrev main_v567 : Ref sig .tc := ⟨.hbm, 742, rfl⟩
abbrev main_v568 : Ref sig .tc := ⟨.hbm, 743, rfl⟩
abbrev main_v569 : Ref sig .tc := ⟨.hbm, 744, rfl⟩
abbrev main_v570 : Ref sig .tc := ⟨.hbm, 745, rfl⟩
abbrev main_v571 : Ref sig .tc := ⟨.hbm, 746, rfl⟩
abbrev main_v572 : Ref sig .tc := ⟨.hbm, 747, rfl⟩
abbrev main_v573 : Ref sig .tc := ⟨.hbm, 748, rfl⟩
abbrev main_v574 : Ref sig .tc := ⟨.hbm, 749, rfl⟩
abbrev main_v575 : Ref sig .tc := ⟨.hbm, 750, rfl⟩
abbrev main_v576 : Ref sig .tc := ⟨.hbm, 751, rfl⟩
abbrev main_cst_149 : Ref sig .tc := ⟨.hbm, 752, rfl⟩
abbrev main_v577 : Ref sig .tc := ⟨.hbm, 753, rfl⟩
abbrev main_cst_150 : Ref sig .tc := ⟨.hbm, 754, rfl⟩
abbrev main_v578 : Ref sig .tc := ⟨.hbm, 755, rfl⟩
abbrev main_v579 : Ref sig .tc := ⟨.hbm, 756, rfl⟩
abbrev main_v580 : Ref sig .tc := ⟨.hbm, 757, rfl⟩
abbrev main_cst_151 : Ref sig .tc := ⟨.hbm, 758, rfl⟩
abbrev main_v581 : Ref sig .tc := ⟨.hbm, 759, rfl⟩
abbrev main_cst_152 : Ref sig .tc := ⟨.hbm, 760, rfl⟩
abbrev main_v582 : Ref sig .tc := ⟨.hbm, 761, rfl⟩
abbrev main_v583 : Ref sig .tc := ⟨.hbm, 762, rfl⟩
abbrev main_cst_153 : Ref sig .tc := ⟨.hbm, 763, rfl⟩
abbrev main_v584 : Ref sig .tc := ⟨.hbm, 764, rfl⟩
abbrev main_v585 : Ref sig .tc := ⟨.hbm, 765, rfl⟩

abbrev nD : Nat := 1
abbrev τ : Topo := Topo.v7x

variable {F : FTy → Type} [FloatOps F]
-- ==== Proof.Kit.lean ====
/- The schedule of the kernel's branches: which conditional stores run at which point, and where an output is idle. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.WordCmp
public import Idealize.ShloMosaic.Lib.VecWindow

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Branch 0 of the body is taken at the grid position `i`. -/
abbrev cnd0 (i : grid0.Coords) : Prop := (Scalar.cmpi .ne (Scalar.extui (Scalar.cmpi .eq (BitVec.ofNat 32 (i 1).val) 0#32)) 0#32) = 1#1
/-- Branch 0 is taken exactly at the points with `t.val % 4 = 0`. -/
theorem cnd0_iff (t : Fin cfg0.N) : cnd0 (grid0.coords t) ↔ t.val % 4 = 0 := by
  have ht : t.val < 72 := Nat.lt_of_lt_of_eq t.isLt N_0
  have e0 : (grid0.coords t 0).val = t.val / 4 % 18 := Pipeline.Grid.coords_val t 0 (by decide) rfl
  have e1 : (grid0.coords t 1).val = t.val / 1 % 4 := Pipeline.Grid.coords_val t 1 (by decide) rfl
  simp only [cnd0, e0, e1]
  word_cmp

/-- Branch 1 of the body is taken at the grid position `i`. -/
abbrev cnd1 (i : grid0.Coords) : Prop := k0_cond2 i = 1#1
/-- Branch 1 is taken exactly at the points with `t.val % 4 = 0`. -/
theorem cnd1_iff (t : Fin cfg0.N) : cnd1 (grid0.coords t) ↔ t.val % 4 = 0 := by
  have ht : t.val < 72 := Nat.lt_of_lt_of_eq t.isLt N_0
  have e0 : (grid0.coords t 0).val = t.val / 4 % 18 := Pipeline.Grid.coords_val t 0 (by decide) rfl
  have e1 : (grid0.coords t 1).val = t.val / 1 % 4 := Pipeline.Grid.coords_val t 1 (by decide) rfl
  simp only [cnd1, k0_cond2, e0, e1]
  word_cmp

/-- Branch 2 of the body is taken at the grid position `i`. -/
abbrev cnd2 (i : grid0.Coords) : Prop := k0_cond3 i = 1#1
/-- Branch 2 is taken exactly at the points with `t.val % 4 = 1`. -/
theorem cnd2_iff (t : Fin cfg0.N) : cnd2 (grid0.coords t) ↔ t.val % 4 = 1 := by
  have ht : t.val < 72 := Nat.lt_of_lt_of_eq t.isLt N_0
  have e0 : (grid0.coords t 0).val = t.val / 4 % 18 := Pipeline.Grid.coords_val t 0 (by decide) rfl
  have e1 : (grid0.coords t 1).val = t.val / 1 % 4 := Pipeline.Grid.coords_val t 1 (by decide) rfl
  simp only [cnd2, k0_cond3, e0, e1]
  word_cmp

/-- Branch 3 of the body is taken at the grid position `i`. -/
abbrev cnd3 (i : grid0.Coords) : Prop := k0_cond4 i = 1#1
/-- Branch 3 is taken exactly at the points with `t.val % 4 = 2`. -/
theorem cnd3_iff (t : Fin cfg0.N) : cnd3 (grid0.coords t) ↔ t.val % 4 = 2 := by
  have ht : t.val < 72 := Nat.lt_of_lt_of_eq t.isLt N_0
  have e0 : (grid0.coords t 0).val = t.val / 4 % 18 := Pipeline.Grid.coords_val t 0 (by decide) rfl
  have e1 : (grid0.coords t 1).val = t.val / 1 % 4 := Pipeline.Grid.coords_val t 1 (by decide) rfl
  simp only [cnd3, k0_cond4, e0, e1]
  word_cmp

/-- Branch 4 of the body is taken at the grid position `i`. -/
abbrev cnd4 (i : grid0.Coords) : Prop := k0_cond5 i = 1#1
/-- Branch 4 is taken exactly at the points with `t.val % 4 = 3`. -/
theorem cnd4_iff (t : Fin cfg0.N) : cnd4 (grid0.coords t) ↔ t.val % 4 = 3 := by
  have ht : t.val < 72 := Nat.lt_of_lt_of_eq t.isLt N_0
  have e0 : (grid0.coords t 0).val = t.val / 4 % 18 := Pipeline.Grid.coords_val t 0 (by decide) rfl
  have e1 : (grid0.coords t 1).val = t.val / 1 % 4 := Pipeline.Grid.coords_val t 1 (by decide) rfl
  simp only [cnd4, k0_cond5, e0, e1]
  word_cmp

/-- Branch 5 of the body is taken at the grid position `i`. -/
abbrev cnd5 (i : grid0.Coords) : Prop := k0_cond6 i = 1#1
/-- Branch 5 is taken exactly at the points with `t.val % 4 = 0`. -/
theorem cnd5_iff (t : Fin cfg0.N) : cnd5 (grid0.coords t) ↔ t.val % 4 = 0 := by
  have ht : t.val < 72 := Nat.lt_of_lt_of_eq t.isLt N_0
  have e0 : (grid0.coords t 0).val = t.val / 4 % 18 := Pipeline.Grid.coords_val t 0 (by decide) rfl
  have e1 : (grid0.coords t 1).val = t.val / 1 % 4 := Pipeline.Grid.coords_val t 1 (by decide) rfl
  simp only [cnd5, k0_cond6, e0, e1]
  word_cmp

/-- Branch 6 of the body is taken at the grid position `i`. -/
abbrev cnd6 (i : grid0.Coords) : Prop := k0_cond7 i = 1#1
/-- Branch 6 is taken exactly at the points with `1 ≤ t.val % 4`. -/
theorem cnd6_iff (t : Fin cfg0.N) : cnd6 (grid0.coords t) ↔ 1 ≤ t.val % 4 := by
  have ht : t.val < 72 := Nat.lt_of_lt_of_eq t.isLt N_0
  have e0 : (grid0.coords t 0).val = t.val / 4 % 18 := Pipeline.Grid.coords_val t 0 (by decide) rfl
  have e1 : (grid0.coords t 1).val = t.val / 1 % 4 := Pipeline.Grid.coords_val t 1 (by decide) rfl
  simp only [cnd6, k0_cond7, e0, e1]
  word_cmp

/-- Branch 7 of the body is taken at the grid position `i`. -/
abbrev cnd7 (i : grid0.Coords) : Prop := k0_cond8 i = 1#1
/-- Branch 7 is taken exactly at the points with `t.val % 4 = 3`. -/
theorem cnd7_iff (t : Fin cfg0.N) : cnd7 (grid0.coords t) ↔ t.val % 4 = 3 := by
  have ht : t.val < 72 := Nat.lt_of_lt_of_eq t.isLt N_0
  have e0 : (grid0.coords t 0).val = t.val / 4 % 18 := Pipeline.Grid.coords_val t 0 (by decide) rfl
  have e1 : (grid0.coords t 1).val = t.val / 1 % 4 := Pipeline.Grid.coords_val t 1 (by decide) rfl
  simp only [cnd7, k0_cond8, e0, e1]
  word_cmp

/-- Window 4 is idle exactly where branch 7 is not taken. -/
theorem idle4_of_not (t : Fin cfg0.N) (h : ¬ t.val % 4 = 3) : cfg0.idle 4 (grid0.coords t) = true := by
  have : ¬ cnd7 (grid0.coords t) := fun h' => h ((cnd7_iff t).mp h')
  show (!(k0_cond8 (grid0.coords t) == 1#1)) = true
  simpa using this
/-- Window 4 is written at the points of its step. -/
theorem live4_of (t : Fin cfg0.N) (h : t.val % 4 = 3) : cfg0.idle 4 (grid0.coords t) = false := by
  have : cnd7 (grid0.coords t) := (cnd7_iff t).mpr h
  show (!(k0_cond8 (grid0.coords t) == 1#1)) = false
  simpa using this

/-- Window 5 is idle exactly where branch 1 is not taken. -/
theorem idle5_of_not (t : Fin cfg0.N) (h : ¬ t.val % 4 = 0) : cfg0.idle 5 (grid0.coords t) = true := by
  have : ¬ cnd1 (grid0.coords t) := fun h' => h ((cnd1_iff t).mp h')
  show (!(k0_cond2 (grid0.coords t) == 1#1)) = true
  simpa using this
/-- Window 5 is written at the points of its step. -/
theorem live5_of (t : Fin cfg0.N) (h : t.val % 4 = 0) : cfg0.idle 5 (grid0.coords t) = false := by
  have : cnd1 (grid0.coords t) := (cnd1_iff t).mpr h
  show (!(k0_cond2 (grid0.coords t) == 1#1)) = false
  simpa using this

/-- Window 6 is idle exactly where branch 2 is not taken. -/
theorem idle6_of_not (t : Fin cfg0.N) (h : ¬ t.val % 4 = 1) : cfg0.idle 6 (grid0.coords t) = true := by
  have : ¬ cnd2 (grid0.coords t) := fun h' => h ((cnd2_iff t).mp h')
  show (!(k0_cond3 (grid0.coords t) == 1#1)) = true
  simpa using this
/-- Window 6 is written at the points of its step. -/
theorem live6_of (t : Fin cfg0.N) (h : t.val % 4 = 1) : cfg0.idle 6 (grid0.coords t) = false := by
  have : cnd2 (grid0.coords t) := (cnd2_iff t).mpr h
  show (!(k0_cond3 (grid0.coords t) == 1#1)) = false
  simpa using this

/-- Window 7 is idle exactly where branch 3 is not taken. -/
theorem idle7_of_not (t : Fin cfg0.N) (h : ¬ t.val % 4 = 2) : cfg0.idle 7 (grid0.coords t) = true := by
  have : ¬ cnd3 (grid0.coords t) := fun h' => h ((cnd3_iff t).mp h')
  show (!(k0_cond4 (grid0.coords t) == 1#1)) = true
  simpa using this
/-- Window 7 is written at the points of its step. -/
theorem live7_of (t : Fin cfg0.N) (h : t.val % 4 = 2) : cfg0.idle 7 (grid0.coords t) = false := by
  have : cnd3 (grid0.coords t) := (cnd3_iff t).mpr h
  show (!(k0_cond4 (grid0.coords t) == 1#1)) = false
  simpa using this

/-- Window 8 is idle exactly where branch 4 is not taken. -/
theorem idle8_of_not (t : Fin cfg0.N) (h : ¬ t.val % 4 = 3) : cfg0.idle 8 (grid0.coords t) = true := by
  have : ¬ cnd4 (grid0.coords t) := fun h' => h ((cnd4_iff t).mp h')
  show (!(k0_cond5 (grid0.coords t) == 1#1)) = true
  simpa using this
/-- Window 8 is written at the points of its step. -/
theorem live8_of (t : Fin cfg0.N) (h : t.val % 4 = 3) : cfg0.idle 8 (grid0.coords t) = false := by
  have : cnd4 (grid0.coords t) := (cnd4_iff t).mpr h
  show (!(k0_cond5 (grid0.coords t) == 1#1)) = false
  simpa using this

/-- Window 9 is idle exactly where branch 1 is not taken. -/
theorem idle9_of_not (t : Fin cfg0.N) (h : ¬ t.val % 4 = 0) : cfg0.idle 9 (grid0.coords t) = true := by
  have : ¬ cnd1 (grid0.coords t) := fun h' => h ((cnd1_iff t).mp h')
  show (!(k0_cond2 (grid0.coords t) == 1#1)) = true
  simpa using this
/-- Window 9 is written at the points of its step. -/
theorem live9_of (t : Fin cfg0.N) (h : t.val % 4 = 0) : cfg0.idle 9 (grid0.coords t) = false := by
  have : cnd1 (grid0.coords t) := (cnd1_iff t).mpr h
  show (!(k0_cond2 (grid0.coords t) == 1#1)) = false
  simpa using this

/-- Window 10 is idle exactly where branch 2 is not taken. -/
theorem idle10_of_not (t : Fin cfg0.N) (h : ¬ t.val % 4 = 1) : cfg0.idle 10 (grid0.coords t) = true := by
  have : ¬ cnd2 (grid0.coords t) := fun h' => h ((cnd2_iff t).mp h')
  show (!(k0_cond3 (grid0.coords t) == 1#1)) = true
  simpa using this
/-- Window 10 is written at the points of its step. -/
theorem live10_of (t : Fin cfg0.N) (h : t.val % 4 = 1) : cfg0.idle 10 (grid0.coords t) = false := by
  have : cnd2 (grid0.coords t) := (cnd2_iff t).mpr h
  show (!(k0_cond3 (grid0.coords t) == 1#1)) = false
  simpa using this

/-- Window 11 is idle exactly where branch 3 is not taken. -/
theorem idle11_of_not (t : Fin cfg0.N) (h : ¬ t.val % 4 = 2) : cfg0.idle 11 (grid0.coords t) = true := by
  have : ¬ cnd3 (grid0.coords t) := fun h' => h ((cnd3_iff t).mp h')
  show (!(k0_cond4 (grid0.coords t) == 1#1)) = true
  simpa using this
/-- Window 11 is written at the points of its step. -/
theorem live11_of (t : Fin cfg0.N) (h : t.val % 4 = 2) : cfg0.idle 11 (grid0.coords t) = false := by
  have : cnd3 (grid0.coords t) := (cnd3_iff t).mpr h
  show (!(k0_cond4 (grid0.coords t) == 1#1)) = false
  simpa using this

/-- Window 12 is idle exactly where branch 4 is not taken. -/
theorem idle12_of_not (t : Fin cfg0.N) (h : ¬ t.val % 4 = 3) : cfg0.idle 12 (grid0.coords t) = true := by
  have : ¬ cnd4 (grid0.coords t) := fun h' => h ((cnd4_iff t).mp h')
  show (!(k0_cond5 (grid0.coords t) == 1#1)) = true
  simpa using this
/-- Window 12 is written at the points of its step. -/
theorem live12_of (t : Fin cfg0.N) (h : t.val % 4 = 3) : cfg0.idle 12 (grid0.coords t) = false := by
  have : cnd4 (grid0.coords t) := (cnd4_iff t).mpr h
  show (!(k0_cond5 (grid0.coords t) == 1#1)) = false
  simpa using this

/-- Window 13 is never idle: every point stores the loss. -/
theorem live13 (t : Fin cfg0.N) : cfg0.idle 13 (grid0.coords t) = false := by
  show (!(k0_cond6 (grid0.coords t) == 1#1) && !(k0_cond7 (grid0.coords t) == 1#1)) = false
  by_cases h : t.val % 4 = 0
  · have : cnd5 (grid0.coords t) := (cnd5_iff t).mpr h
    simp [this]
  · have : cnd6 (grid0.coords t) := (cnd6_iff t).mpr (by omega)
    simp [this]

/-! The staging buffer of each window at a point, and its wholeness. -/

/-- Window 0's memory reference at a point. -/
abbrev mst0 (t : Fin cfg0.N) : Memref sig .tc .smem S4x2 .i32 := win0_0.stage (cfg0.slots t 0)
/-- Window 0's memory reference spans its buffer. -/
abbrev wst0 (t : Fin cfg0.N) : (mst0 t).IsWhole := hstage0_0 ((cfg0.slots t 0).cast nbuf0_0)
/-- Window 1's memory reference at a point. -/
abbrev mst1 (t : Fin cfg0.N) : Memref sig .tc .vmem S128x64 .f32 := win0_1.stage (cfg0.slots t 1)
/-- Window 1's memory reference spans its buffer. -/
abbrev wst1 (t : Fin cfg0.N) : (mst1 t).IsWhole := hstage0_1 ((cfg0.slots t 1).cast nbuf0_1)
/-- Window 2's memory reference at a point. -/
abbrev mst2 (t : Fin cfg0.N) : Memref sig .tc .vmem S8192x64 .f32 := win0_2.stage (cfg0.slots t 2)
/-- Window 2's memory reference spans its buffer. -/
abbrev wst2 (t : Fin cfg0.N) : (mst2 t).IsWhole := hstage0_2 ((cfg0.slots t 2).cast nbuf0_2)
/-- Window 3's memory reference at a point. -/
abbrev mst3 (t : Fin cfg0.N) : Memref sig .tc .vmem S1x8192 .f32 := win0_3.stage (cfg0.slots t 3)
/-- Window 3's memory reference spans its buffer. -/
abbrev wst3 (t : Fin cfg0.N) : (mst3 t).IsWhole := hstage0_3 ((cfg0.slots t 3).cast nbuf0_3)
/-- Window 4's memory reference at a point. -/
abbrev mst4 (t : Fin cfg0.N) : Memref sig .tc .vmem S128x64 .f32 := win0_4.stage (cfg0.slots t 4)
/-- Window 4's memory reference spans its buffer. -/
abbrev wst4 (t : Fin cfg0.N) : (mst4 t).IsWhole := hstage0_4 ((cfg0.slots t 4).cast nbuf0_4)
/-- Window 5's memory reference at a point. -/
abbrev mst5 (t : Fin cfg0.N) : Memref sig .tc .vmem S128x8192 .f32 := win0_5.stage (cfg0.slots t 5)
/-- Window 5's memory reference spans its buffer. -/
abbrev wst5 (t : Fin cfg0.N) : (mst5 t).IsWhole := hstage0_5 ((cfg0.slots t 5).cast nbuf0_5)
/-- Window 6's memory reference at a point. -/
abbrev mst6 (t : Fin cfg0.N) : Memref sig .tc .vmem S128x8192 .f32 := win0_6.stage (cfg0.slots t 6)
/-- Window 6's memory reference spans its buffer. -/
abbrev wst6 (t : Fin cfg0.N) : (mst6 t).IsWhole := hstage0_6 ((cfg0.slots t 6).cast nbuf0_6)
/-- Window 7's memory reference at a point. -/
abbrev mst7 (t : Fin cfg0.N) : Memref sig .tc .vmem S128x8192 .f32 := win0_7.stage (cfg0.slots t 7)
/-- Window 7's memory reference spans its buffer. -/
abbrev wst7 (t : Fin cfg0.N) : (mst7 t).IsWhole := hstage0_7 ((cfg0.slots t 7).cast nbuf0_7)
/-- Window 8's memory reference at a point. -/
abbrev mst8 (t : Fin cfg0.N) : Memref sig .tc .vmem S128x8192 .f32 := win0_8.stage (cfg0.slots t 8)
/-- Window 8's memory reference spans its buffer. -/
abbrev wst8 (t : Fin cfg0.N) : (mst8 t).IsWhole := hstage0_8 ((cfg0.slots t 8).cast nbuf0_8)
/-- Window 9's memory reference at a point. -/
abbrev mst9 (t : Fin cfg0.N) : Memref sig .tc .vmem S128x1 .i32 := win0_9.stage (cfg0.slots t 9)
/-- Window 9's memory reference spans its buffer. -/
abbrev wst9 (t : Fin cfg0.N) : (mst9 t).IsWhole := hstage0_9 ((cfg0.slots t 9).cast nbuf0_9)
/-- Window 10's memory reference at a point. -/
abbrev mst10 (t : Fin cfg0.N) : Memref sig .tc .vmem S128x1 .i32 := win0_10.stage (cfg0.slots t 10)
/-- Window 10's memory reference spans its buffer. -/
abbrev wst10 (t : Fin cfg0.N) : (mst10 t).IsWhole := hstage0_10 ((cfg0.slots t 10).cast nbuf0_10)
/-- Window 11's memory reference at a point. -/
abbrev mst11 (t : Fin cfg0.N) : Memref sig .tc .vmem S128x1 .i32 := win0_11.stage (cfg0.slots t 11)
/-- Window 11's memory reference spans its buffer. -/
abbrev wst11 (t : Fin cfg0.N) : (mst11 t).IsWhole := hstage0_11 ((cfg0.slots t 11).cast nbuf0_11)
/-- Window 12's memory reference at a point. -/
abbrev mst12 (t : Fin cfg0.N) : Memref sig .tc .vmem S128x1 .i32 := win0_12.stage (cfg0.slots t 12)
/-- Window 12's memory reference spans its buffer. -/
abbrev wst12 (t : Fin cfg0.N) : (mst12 t).IsWhole := hstage0_12 ((cfg0.slots t 12).cast nbuf0_12)
/-- Window 13's memory reference at a point. -/
abbrev mst13 (t : Fin cfg0.N) : Memref sig .tc .vmem S1x1x1 .f32 := win0_13.stage (cfg0.slots t 13)
/-- Window 13's memory reference spans its buffer. -/
abbrev wst13 (t : Fin cfg0.N) : (mst13 t).IsWhole := hstage0_13 ((cfg0.slots t 13).cast nbuf0_13)

/-- The scratch that carries the residual rows. -/
abbrev scFr : Memref sig .tc .vmem S128x64 .f32 := Memref.whole cc0_scratch0
/-- The scratch that carries the running sum of the chosen codewords. -/
abbrev scQ : Memref sig .tc .vmem S128x64 .f32 := Memref.whole cc0_scratch1

/-- The class invariant: the two scratches at some contents, and the generator register. -/
theorem ΦA_scratch (c : Dev nD) :
    (Pipeline.ΦA spec0 c : sProp 𝕄)
      = iprop(iprop((∃ d, owns (c : Thread nD τ) scFr fullShare d) ∗ (∃ d, owns (c : Thread nD τ) scQ fullShare d)) ∗ (∃ r, prngReg c r)) := by
  unfold Pipeline.ΦA; rw [scopedRest0_eq]; simp only [scFr, scQ, owns_whole]; try rfl

end Cert.KernelIdeal.Val

end
-- ==== Proof.Step.lean ====
/- One quantisation step of the kernel as functions of what the body reads: the chain of the printed payloads. -/
module

public import proofs.«01_k».proof.Proof.Kit

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The generator's bits before the last group of rounds: the three carried arrays. -/
def key (k1 k2 : BitVec 32) : BitVec 32 := Scalar.xori (Scalar.xori k1 k2) 466688986#32
/-- Intermediate words of the generator, part A, number 1. -/
def rA1 (i : grid0.Coords) (k1 k2 : Elt F .i32) : IVec S128x8192 32 := k0_pay21 (F := F) k2 (key k1 k2) (k0_pay10 (F := F) i k1 k2) (k0_pay11 (F := F) i k1 k2)
/-- Intermediate words of the generator, part A, number 2. -/
def rA2 (i : grid0.Coords) (k1 k2 : Elt F .i32) : IVec S128x8192 32 := k0_pay22 (F := F) k2 (key k1 k2) (k0_pay10 (F := F) i k1 k2) (k0_pay11 (F := F) i k1 k2)
/-- Intermediate words of the generator, part B, number 1. -/
def rB1 (i : grid0.Coords) (k1 k2 : Elt F .i32) : IVec S128x8192 32 := k0_pay34 (F := F) k1 k2 (rA1 (F := F) i k1 k2) (rA2 (F := F) i k1 k2) (k0_pay23 (key k1 k2))
/-- Intermediate words of the generator, part B, number 2. -/
def rB2 (i : grid0.Coords) (k1 k2 : Elt F .i32) : IVec S128x8192 32 := k0_pay35 (F := F) k1 k2 (rA1 (F := F) i k1 k2) (rA2 (F := F) i k1 k2) (k0_pay23 (key k1 k2))
/-- Intermediate words of the generator, part B, number 3. -/
def rB3 (i : grid0.Coords) (k1 k2 : Elt F .i32) : IVec S128x8192 32 := k0_pay36 (F := F) k1 k2 (rA1 (F := F) i k1 k2) (rA2 (F := F) i k1 k2) (k0_pay23 (key k1 k2))
/-- Intermediate words of the generator, part C, number 1. -/
def rC1 (i : grid0.Coords) (k1 k2 : Elt F .i32) : IVec S128x8192 32 := k0_pay47 (F := F) k2 (key k1 k2) (rB1 (F := F) i k1 k2) (rB2 (F := F) i k1 k2) (rB3 (F := F) i k1 k2)
/-- Intermediate words of the generator, part C, number 2. -/
def rC2 (i : grid0.Coords) (k1 k2 : Elt F .i32) : IVec S128x8192 32 := k0_pay48 (F := F) k2 (key k1 k2) (rB1 (F := F) i k1 k2) (rB2 (F := F) i k1 k2) (rB3 (F := F) i k1 k2)
/-- Intermediate words of the generator, part C, number 3. -/
def rC3 (i : grid0.Coords) (k1 k2 : Elt F .i32) : IVec S128x8192 32 := k0_pay49 (F := F) k2 (key k1 k2) (rB1 (F := F) i k1 k2) (rB2 (F := F) i k1 k2) (rB3 (F := F) i k1 k2)
/-- The column numbers `0 … 8191` of every row. -/
def cols : IVec S128x8192 32 := iota .tc S128x8192 32 [1] iota_S128x8192_d1_w32
/-- The perturbed scores of a block of residual rows. -/
def sScore (i : grid0.Coords) (k1 k2 : Elt F .i32) (fr : Vec F S128x64 .f32) (cw : Vec F S8192x64 .f32) (cn : Vec F S1x8192 .f32) : FVec F S128x8192 .f32 :=
  k0_pay52 fr cw (k0_pay5 cn) k1 (key k1 k2) (rC1 (F := F) i k1 k2) (rC2 (F := F) i k1 k2) (rC3 (F := F) i k1 k2)
/-- Their row maxima. -/
def sMax (i : grid0.Coords) (k1 k2 : Elt F .i32) (fr : Vec F S128x64 .f32) (cw : Vec F S8192x64 .f32) (cn : Vec F S1x8192 .f32) : FVec F S128 .f32 :=
  k0_pay53 fr cw (k0_pay5 cn) k1 (key k1 k2) (rC1 (F := F) i k1 k2) (rC2 (F := F) i k1 k2) (rC3 (F := F) i k1 k2)
/-- The soft targets of the block. -/
def sProbs (fr : Vec F S128x64 .f32) (cw : Vec F S8192x64 .f32) (cn : Vec F S1x8192 .f32) : Vec F S128x8192 .f32 := k0_pay51 fr cw (k0_pay5 cn)
/-- The chosen codeword of each row. -/
def sIdx (i : grid0.Coords) (k1 k2 : Elt F .i32) (fr : Vec F S128x64 .f32) (cw : Vec F S8192x64 .f32) (cn : Vec F S1x8192 .f32) : Vec F S128x1 .i32 :=
  k0_pay54 cols (sScore i k1 k2 fr cw cn) (sMax i k1 k2 fr cw cn)
/-- The running sum after the step. -/
def sQ (i : grid0.Coords) (k1 k2 : Elt F .i32) (fr : Vec F S128x64 .f32) (cw : Vec F S8192x64 .f32) (cn : Vec F S1x8192 .f32) (q : Vec F S128x64 .f32) : Vec F S128x64 .f32 :=
  k0_pay56 cw cols (sScore i k1 k2 fr cw cn) (sMax i k1 k2 fr cw cn) q
/-- The block's summed squared error of the step. -/
def sLoss (i : grid0.Coords) (k1 k2 : Elt F .i32) (fr : Vec F S128x64 .f32) (cw : Vec F S8192x64 .f32) (cn : Vec F S1x8192 .f32) : Vec F S1x1x1 .f32 :=
  k0_pay57 fr cw cols (sScore i k1 k2 fr cw cn) (sMax i k1 k2 fr cw cn)
/-- The residual rows after the step. -/
def sFr (i : grid0.Coords) (k1 k2 : Elt F .i32) (fr : Vec F S128x64 .f32) (cw : Vec F S8192x64 .f32) (cn : Vec F S1x8192 .f32) : Vec F S128x64 .f32 :=
  k0_pay1 (k0_pay58 fr cw cols (sScore i k1 k2 fr cw cn) (sMax i k1 k2 fr cw cn))

/-- The two key words of the grid position, read off the table. -/
def kw1 (i : grid0.Coords) (x0 : Vec F S4x2 .i32) : Elt F .i32 :=
  View.ld x0 (Rect.unit (s := S4x2) (k0_off1 i) S1x1.size (k0_off1_inb i)) (Shape.Idx.first (numel1_S1x1.symm ▸ Nat.one_pos))
/-- The second key word of a point. -/
def kw2 (i : grid0.Coords) (x0 : Vec F S4x2 .i32) : Elt F .i32 :=
  View.ld x0 (Rect.unit (s := S4x2) (k0_off2 i) S1x1.size (k0_off2_inb i)) (Shape.Idx.first (numel1_S1x1.symm ▸ Nat.one_pos))
/-- The loss block of a tile after a further step. -/
def lossNext (i : grid0.Coords) (k1 k2 : Elt F .i32) (fr : Vec F S128x64 .f32) (cw : Vec F S8192x64 .f32) (cn : Vec F S1x8192 .f32) (l : Vec F S1x1x1 .f32) : Vec F S1x1x1 .f32 :=
  k0_pay2 (sLoss i k1 k2 fr cw cn) l

variable {i : grid0.Coords} {a a' b b' : Elt F .i32} {fr fr' : Vec F S128x64 .f32} {cw cw' : Vec F S8192x64 .f32} {cn cn' : Vec F S1x8192 .f32}
  {q q' : Vec F S128x64 .f32} {l l' : Vec F S1x1x1 .f32}
/-! Each step function at equal operands. -/
theorem sProbs_congr (hf : fr = fr') (hw : cw = cw') (hn : cn = cn') : sProbs fr cw cn = sProbs fr' cw' cn' := by subst hf hw hn; rfl
/-- Equal arguments give equal values of `sIdx`. -/
theorem sIdx_congr (ha : a = a') (hb : b = b') (hf : fr = fr') (hw : cw = cw') (hn : cn = cn') : sIdx i a b fr cw cn = sIdx i a' b' fr' cw' cn' := by
  subst ha hb hf hw hn; rfl
/-- Equal arguments give equal values of `sLoss`. -/
theorem sLoss_congr (ha : a = a') (hb : b = b') (hf : fr = fr') (hw : cw = cw') (hn : cn = cn') : sLoss i a b fr cw cn = sLoss i a' b' fr' cw' cn' := by
  subst ha hb hf hw hn; rfl
/-- Equal arguments give equal next losses. -/
theorem lossNext_congr (ha : a = a') (hb : b = b') (hf : fr = fr') (hw : cw = cw') (hn : cn = cn') (hl : l = l') :
    lossNext i a b fr cw cn l = lossNext i a' b' fr' cw' cn' l' := by subst ha hb hf hw hn hl; rfl
/-- Equal arguments give equal values of `sFr`. -/
theorem sFr_congr (ha : a = a') (hb : b = b') (hf : fr = fr') (hw : cw = cw') (hn : cn = cn') : sFr i a b fr cw cn = sFr i a' b' fr' cw' cn' := by
  subst ha hb hf hw hn; rfl
/-- Equal arguments give equal values of `sQ`. -/
theorem sQ_congr (ha : a = a') (hb : b = b') (hf : fr = fr') (hw : cw = cw') (hn : cn = cn') (hq : q = q') :
    sQ i a b fr cw cn q = sQ i a' b' fr' cw' cn' q' := by subst ha hb hf hw hn hq; rfl

end Cert.KernelIdeal.Val

end
-- ==== Proof.Spec.lean ====
/-
  The mathematics of residual vector quantisation, row by row over the extended reals: the squared
  distances of a residual row to every codeword, the soft targets, the perturbed scores, the chosen
  codeword, the chain of residuals; and the counter-based generator that perturbs the scores.
-/
module

public import Idealize.ShloMosaic.PureOps
public import Idealize.ShloMosaic.PureOps.Ideal.Laws
public import Idealize.ShloMosaic.Lib.Pipeline
public import Idealize.ShloMosaic.Lib.Pointwise
public import Idealize.ShloMosaic.Lib.SortFacts
public import Idealize.ShloMosaic.Lib.SortNet.Extract

@[expose] public section

noncomputable section

namespace Cert.Rvq

open Idealize.ShloMosaic

/-! ### The generator -/

/-- A word rotated left. -/
def rot (r : Nat) (x : BitVec 32) : BitVec 32 := (x <<< r) ||| (x >>> (32 - r))
/-- One round on a pair of words. -/
def rnd (r : Nat) (p : BitVec 32 × BitVec 32) : BitVec 32 × BitVec 32 := (p.1 + p.2, (p.1 + p.2) ^^^ rot r p.2)
/-- A key injection. -/
def inj (a b n : BitVec 32) (p : BitVec 32 × BitVec 32) : BitVec 32 × BitVec 32 := (p.1 + a, p.2 + (b + n))
/-- The rounds of the first kind. -/
def rndsA (p : BitVec 32 × BitVec 32) : BitVec 32 × BitVec 32 := rnd 6 (rnd 26 (rnd 15 (rnd 13 p)))
/-- The rounds of the second kind. -/
def rndsB (p : BitVec 32 × BitVec 32) : BitVec 32 × BitVec 32 := rnd 24 (rnd 16 (rnd 29 (rnd 17 p)))
/-- The third key word. -/
def key3 (k1 k2 : BitVec 32) : BitVec 32 := (k1 ^^^ k2) ^^^ 466688986#32
/-- The generator: twenty rounds with the keys injected between. -/
def gen (k1 k2 : BitVec 32) (p : BitVec 32 × BitVec 32) : BitVec 32 × BitVec 32 :=
  inj (key3 k1 k2) k1 5#32 <| rndsA <| inj k2 (key3 k1 k2) 4#32 <| rndsB <| inj k1 k2 3#32 <| rndsA <|
    inj (key3 k1 k2) k1 2#32 <| rndsB <| inj k2 (key3 k1 k2) 1#32 <| rndsA <| inj k1 k2 0#32 p
/-- The random word of a counter. -/
def word (k1 k2 c : BitVec 32) : BitVec 32 := (gen k1 k2 (0#32, c)).1 ^^^ (gen k1 k2 (0#32, c)).2
/-- The uniform number of a random word. -/
def unif (b : BitVec 32) : EReal :=
  max (Ideal.ofBits .f32 ((b >>> 9) ||| 1065353216#32) - Ideal.ofBits .f32 0x3F800000#32) (Ideal.ofBits .f32 0x00800000#32)
/-- The negated perturbation of a random word. -/
def pert (b : BitVec 32) : EReal := Ideal.log (-Ideal.log (unif b))
/-- The step's key pair. -/
def keyOf (s : Nat) : BitVec 32 × BitVec 32 := gen 0#32 1234#32 (0#32, BitVec.ofNat 32 s)
/-- The negated perturbation of step `s` at a row and a codeword. -/
def pertAt (s r c : Nat) : EReal := pert (word (keyOf s).1 (keyOf s).2 (BitVec.ofNat 32 (r * 8192 + c)))

/-- The word of exponent 127 denotes a number in `[1, 2)`. -/
theorem ofBits_one_two (b : BitVec 32) :
    ∃ x : ℝ, 1 ≤ x ∧ x < 2 ∧ Ideal.ofBits .f32 ((b >>> 9) ||| 1065353216#32) = (x : EReal) := by
  have hs : BitVec.extractLsb' 31 1 ((b >>> 9) ||| 1065353216#32) = 0#1 := by
    ext i hi
    have : i = 0 := by omega
    subst this
    simp
  have he : BitVec.extractLsb' 23 8 ((b >>> 9) ||| 1065353216#32) = 127#8 := by
    ext i hi
    have h2 : ∀ i < 8, (1065353216#32).getLsbD (23 + i) = (127#8).getLsbD i := by decide
    have h3 : b.getLsbD (9 + (23 + i)) = false := BitVec.getLsbD_of_ge _ _ (by omega)
    have h4 := h2 i hi
    rw [BitVec.getElem_extractLsb', BitVec.getLsbD_or, BitVec.getLsbD_ushiftRight, h3, Bool.false_or, h4, ← BitVec.getLsbD_eq_getElem]
  generalize hw : (b >>> 9) ||| 1065353216#32 = w at hs he
  refine ⟨(2 ^ 23 + (w.extractLsb' 0 23).toNat : Nat) * (2 : ℝ) ^ (-23 : Int), ?_, ?_, ?_⟩
  · have : (2 ^ 23 : ℝ) ≤ ((2 ^ 23 + (w.extractLsb' 0 23).toNat : Nat) : ℝ) := by exact_mod_cast Nat.le_add_right _ _
    rw [zpow_neg]
    have h23 : (2 : ℝ) ^ (23 : Int) = 2 ^ 23 := by norm_cast
    rw [h23, ← div_eq_mul_inv, le_div_iff₀ (by positivity)]
    linarith
  · have hlt : (w.extractLsb' 0 23).toNat < 2 ^ 23 := (w.extractLsb' 0 23).isLt
    have : ((2 ^ 23 + (w.extractLsb' 0 23).toNat : Nat) : ℝ) < 2 ^ 24 := by exact_mod_cast (by omega)
    rw [zpow_neg]
    have h23 : (2 : ℝ) ^ (23 : Int) = 2 ^ 23 := by norm_cast
    rw [h23, ← div_eq_mul_inv, div_lt_iff₀ (by positivity)]
    linarith
  · show Ideal.ieee 8 23 w = _
    unfold Ideal.ieee
    simp only [Nat.reduceAdd, hs, he]
    norm_num
/-- The word of one denotes one. -/
theorem ofBits_one : Ideal.ofBits .f32 0x3F800000#32 = 1 := by
  have : Ideal.ofBits .f32 0x3F800000#32 = ((1 * ((2 ^ 23 + 0 : Nat) : ℝ) * (2 : ℝ) ^ ((127 : Int) - 127 - 23) : ℝ) : EReal) := by
    simp [Ideal.ofBits, Ideal.ieee]
  rw [this, ← EReal.coe_one]
  congr 1
  norm_num [zpow_neg]
/-- The least normal word denotes a real in `(0, 1)`. -/
theorem ofBits_tiny : ∃ x : ℝ, 0 < x ∧ x < 1 ∧ Ideal.ofBits .f32 0x00800000#32 = (x : EReal) := by
  refine ⟨(2 : ℝ) ^ (-126 : Int), by positivity, ?_, ?_⟩
  · rw [zpow_neg]; exact inv_lt_one_of_one_lt₀ (by norm_num)
  · have : Ideal.ofBits .f32 0x00800000#32 = ((1 * ((2 ^ 23 + 0 : Nat) : ℝ) * (2 : ℝ) ^ ((1 : Int) - 127 - 23) : ℝ) : EReal) := by
      simp [Ideal.ofBits, Ideal.ieee]
    rw [this]
    congr 1
    norm_num [zpow_neg]

/-- The uniform number is a real in `(0, 1)`. -/
theorem unif_real (b : BitVec 32) : ∃ x : ℝ, 0 < x ∧ x < 1 ∧ unif b = (x : EReal) := by
  obtain ⟨x, h1, h2, hx⟩ := ofBits_one_two b
  obtain ⟨y, h3, h4, hy⟩ := ofBits_tiny
  refine ⟨max (x - 1) y, lt_max_of_lt_right h3, max_lt (by linarith) h4, ?_⟩
  unfold unif
  rw [hx, hy, ofBits_one]
  exact (EReal.coe_strictMono.monotone.map_max (a := x - 1) (b := y)).symm
/-- The perturbation is a real number. -/
theorem pert_real (b : BitVec 32) : ∃ x : ℝ, pert b = (x : EReal) := by
  obtain ⟨x, h0, h1, hx⟩ := unif_real b
  have hl : Real.log x < 0 := Real.log_neg h0 h1
  refine ⟨Real.log (-Real.log x), ?_⟩
  unfold pert
  rw [hx]
  have e1 : Ideal.log (x : EReal) = (Real.log x : EReal) := by
    show (if x ≤ 0 then (⊥ : EReal) else (Real.log x : EReal)) = _
    rw [if_neg (not_le.mpr h0)]
  rw [e1, ← EReal.coe_neg]
  show (if -Real.log x ≤ 0 then (⊥ : EReal) else (Real.log (-Real.log x) : EReal)) = _
  rw [if_neg (by linarith)]

/-! ### The row functions -/

/-- The squared distance of a row to a codeword. -/
def dist (C : Fin 8192 → Fin 64 → EReal) (f : Fin 64 → EReal) (c : Fin 8192) : EReal :=
  (∑ k, f k * f k + ∑ k, C c k * C c k) - Ideal.ofBits .f32 0x40000000#32 * ∑ k, f k * C c k
/-- The least distance. -/
def dmin (C : Fin 8192 → Fin 64 → EReal) (f : Fin 64 → EReal) : EReal := Finset.univ.inf (dist C f)
/-- The soft targets of a row. -/
def soft (C : Fin 8192 → Fin 64 → EReal) (f : Fin 64 → EReal) (c : Fin 8192) : EReal :=
  Ideal.div (Ideal.exp (dmin C f - dist C f c)) (∑ c, Ideal.exp (dmin C f - dist C f c))
/-- The perturbed scores of a row. -/
def score (C : Fin 8192 → Fin 64 → EReal) (lt : Fin 8192 → EReal) (f : Fin 64 → EReal) (c : Fin 8192) : EReal :=
  -(lt c + dist C f c)

/-- `j` is the first position of the greatest value. -/
def IsBest {n : Nat} (v : Fin n → EReal) (j : Fin n) : Prop := (∀ c, v c ≤ v j) ∧ ∀ c < j, v c < v j
/-- There is a first greatest position. -/
theorem exists_best {n : Nat} (v : Fin (n + 1) → EReal) : ∃ j, IsBest v j := by
  classical
  obtain ⟨m, -, hm⟩ := Finset.exists_max_image Finset.univ v ⟨0, Finset.mem_univ _⟩
  have hne : (Finset.univ.filter fun j => ∀ c, v c ≤ v j).Nonempty := ⟨m, by simpa using hm⟩
  refine ⟨(Finset.univ.filter fun j => ∀ c, v c ≤ v j).min' hne, ?_, ?_⟩
  · have := Finset.min'_mem _ hne
    simpa using this
  · intro c hc
    by_contra hn
    have hmem := Finset.min'_mem _ hne
    simp only [Finset.mem_filter, Finset.mem_univ, true_and] at hmem
    have : c ∈ Finset.univ.filter fun j => ∀ c, v c ≤ v j := by
      simp only [Finset.mem_filter, Finset.mem_univ, true_and]
      exact fun d => (hmem d).trans (not_lt.mp hn)
    exact absurd (Finset.min'_le _ _ this) (not_le.mpr hc)
/-- The first greatest position is unique. -/
theorem IsBest.unique {n : Nat} {v : Fin n → EReal} {i j : Fin n} (hi : IsBest v i) (hj : IsBest v j) : i = j := by
  rcases lt_trichotomy i j with h | h | h
  · exact absurd (hi.1 j) (not_le.mpr (hj.2 i h))
  · exact h
  · exact absurd (hj.1 i) (not_le.mpr (hi.2 j h))
/-- The first position of the greatest value. -/
def best (v : Fin 8192 → EReal) : Fin 8192 := (exists_best (n := 8191) v).choose
/-- `best` is the first greatest position. -/
theorem best_isBest (v : Fin 8192 → EReal) : IsBest v (best v) := (exists_best (n := 8191) v).choose_spec

/-- The residual row after `s` steps. -/
def resid (C : Fin 8192 → Fin 64 → EReal) (lt : Nat → Fin 8192 → EReal) (f : Fin 64 → EReal) : Nat → Fin 64 → EReal
  | 0 => f
  | s + 1 => fun k => resid C lt f s k - C (best (score C (lt s) (resid C lt f s))) k
/-- The codeword chosen at step `s`. -/
def pick (C : Fin 8192 → Fin 64 → EReal) (lt : Nat → Fin 8192 → EReal) (f : Fin 64 → EReal) (s : Nat) : Fin 8192 :=
  best (score C (lt s) (resid C lt f s))
/-- The running sum of codewords after `s` steps. -/
def quant (C : Fin 8192 → Fin 64 → EReal) (lt : Nat → Fin 8192 → EReal) (f : Fin 64 → EReal) : Nat → Fin 64 → EReal
  | 0 => fun _ => 0
  | s + 1 => fun k => quant C lt f s k + C (pick C lt f s) k
/-- The squared error of a row at step `s`. -/
def err (C : Fin 8192 → Fin 64 → EReal) (lt : Nat → Fin 8192 → EReal) (f : Fin 64 → EReal) (s : Nat) : EReal :=
  ∑ k, (C (pick C lt f s) k - resid C lt f s k) * (C (pick C lt f s) k - resid C lt f s k)

/-! ### Folds -/

/-- A fold of the maximum from the bottom is the supremum. -/
theorem fold_max {n : Nat} (v : Fin n → EReal) : Finset.univ.fold max ⊥ v = Finset.univ.sup v := rfl
/-- A fold of the minimum is the infimum. -/
theorem fold_min {n : Nat} (v : Fin n → EReal) : Finset.univ.fold min ⊤ v = Finset.univ.inf v := rfl
/-- The supremum is the value at the first greatest position. -/
theorem sup_eq_of_best {n : Nat} {v : Fin n → EReal} {j : Fin n} (h : IsBest v j) : Finset.univ.sup v = v j :=
  le_antisymm (Finset.sup_le fun c _ => h.1 c) (Finset.le_sup (Finset.mem_univ j))
/-- The supremum of negations is the negated infimum. -/
theorem sup_neg {n : Nat} (v : Fin n → EReal) : Finset.univ.sup (fun c => -v c) = -Finset.univ.inf v := by
  apply le_antisymm
  · exact Finset.sup_le fun c _ => EReal.neg_le_neg_iff.mpr (Finset.inf_le (Finset.mem_univ c))
  · rw [EReal.neg_le]
    refine Finset.le_inf fun c _ => ?_
    rw [EReal.neg_le]
    exact Finset.le_sup (f := fun c => -v c) (Finset.mem_univ c)
/-- The softmax of the negated distances, shifted by their greatest, is the softmax shifted by the least distance. -/
theorem soft_eq (d : Fin 8192 → EReal) (c : Fin 8192) :
    -d c - Finset.univ.sup (fun c => -d c) = Finset.univ.inf d - d c := by
  rw [sup_neg, sub_eq_add_neg, neg_neg, add_comm, ← sub_eq_add_neg]
/-- Division by one changes nothing. -/
theorem div_one (x : EReal) : Ideal.div x 1 = x := by
  unfold Ideal.div
  rw [if_neg one_ne_zero, inv_one, mul_one]
/-- A perturbation added to a negated distance. -/
theorem score_eq {l : EReal} (hl : ∃ x : ℝ, l = (x : EReal)) (d : EReal) : -l + -d = -(l + d) := by
  obtain ⟨x, rfl⟩ := hl
  rw [EReal.neg_add (Or.inl (EReal.coe_ne_bot x)) (Or.inl (EReal.coe_ne_top x)), sub_eq_add_neg]

/-- A row of a one-hot matrix times the codebook is the codeword. -/
theorem oneHot_sum (C : Fin 8192 → Fin 64 → EReal) (j : Fin 8192) (k : Fin 64) :
    ∑ c, (if c = j then (1 : EReal) else 0) * C c k = C j k := by
  simp

/-- The least of the positions marked, of the rest `8192`, is the first greatest one. -/
theorem fold_minsi (v : Fin 8192 → EReal) (j : Fin 8192) (h : IsBest v j) :
    Finset.univ.fold IntOp.minsi 2147483647#32 (fun c : Fin 8192 => if v c = v j then BitVec.ofNat 32 c.val else 8192#32)
      = BitVec.ofNat 32 j.val := by
  apply BitVec.eq_of_toInt_eq
  rw [← Finset.fold_hom (op' := min) (m := BitVec.toInt) (fun a b => Idealize.ShloMosaic.SortNet.toInt_minsi a b)]
  have hval : ∀ c : Fin 8192, (BitVec.ofNat 32 c.val).toInt = c.val := fun c => by
    have := c.isLt
    rw [BitVec.toInt_eq_toNat_of_lt (by rw [BitVec.toNat_ofNat]; omega), BitVec.toNat_ofNat, Nat.mod_eq_of_lt (by omega)]
  rw [hval j]
  apply le_antisymm
  · rw [Finset.fold_min_le]
    exact Or.inr ⟨j, Finset.mem_univ j, by rw [if_pos rfl, hval j]⟩
  · rw [Finset.le_fold_min]
    refine ⟨by have := j.isLt; show (j.val : Int) ≤ 2147483647; omega, fun c _ => ?_⟩
    by_cases hc : v c = v j
    · rw [if_pos hc, hval c]
      by_contra hn
      exact absurd hc (h.2 c (by rw [Fin.lt_def]; omega)).ne
    · rw [if_neg hc]
      have := j.isLt
      show (j.val : Int) ≤ 8192
      omega

/-- The first element of a stable sort by strictly greater values is the first greatest one. -/
theorem head_stableSort {n : Nat} (v : Fin n → EReal) (before : Fin n → Fin n → Bool) (hb : ∀ a b, before a b = true ↔ v b < v a) :
    ∀ (l : List (Fin n)), l.Pairwise (· < ·) → l ≠ [] →
      ∃ h t, stableSort before l = h :: t ∧ h ∈ l ∧ (∀ c ∈ l, v c ≤ v h) ∧ ∀ c ∈ l, c < h → v c < v h := by
  intro l
  induction l with
  | nil => intro _ h; exact absurd rfl h
  | cons a l ih =>
    intro hp _
    rw [List.pairwise_cons] at hp
    cases hl : l with
    | nil => exact ⟨a, [], rfl, by simp, by simp, by simp⟩
    | cons a' l' =>
      obtain ⟨h, t, he, hm, h1, h2⟩ := ih hp.2 (by rw [hl]; exact List.cons_ne_nil _ _)
      rw [← hl]
      unfold stableSort
      rw [he]
      unfold insertBefore
      by_cases hc : v a < v h
      · rw [if_pos ((hb h a).mpr hc)]
        refine ⟨h, _, rfl, List.mem_cons_of_mem _ hm, ?_, ?_⟩
        · rintro c hcm
          rcases List.mem_cons.mp hcm with rfl | hcm
          · exact hc.le
          · exact h1 c hcm
        · rintro c hcm hlt
          rcases List.mem_cons.mp hcm with rfl | hcm
          · exact hc
          · exact h2 c hcm hlt
      · rw [if_neg (fun hh => hc ((hb h a).mp hh))]
        refine ⟨a, _, rfl, List.mem_cons_self, ?_, ?_⟩
        · rintro c hcm
          rcases List.mem_cons.mp hcm with rfl | hcm
          · exact le_rfl
          · exact (h1 c hcm).trans (not_lt.mp hc)
        · rintro c hcm hlt
          rcases List.mem_cons.mp hcm with rfl | hcm
          · exact absurd hlt (lt_irrefl _)
          · exact absurd hlt (hp.1 c hcm).asymm
/-- So position zero of the sort is the first greatest element. -/
theorem sortedFrom_zero (v : Fin 8192 → EReal) (before : Fin 8192 → Fin 8192 → Bool) (hb : ∀ a b, before a b = true ↔ v b < v a) :
    sortedFrom before 0 = best v := by
  obtain ⟨h, t, he, -, h1, h2⟩ := head_stableSort v before hb (List.finRange 8192) (List.pairwise_lt_finRange 8192) (by
    intro hn
    have := congrArg List.length hn
    rw [List.length_finRange] at this
    exact absurd this (by decide))
  have e : sortedFrom before 0 = h := by
    unfold sortedFrom sortPositions
    simp only [List.get_eq_getElem, he]
    rfl
  rw [e]
  exact IsBest.unique ⟨fun c => h1 c (List.mem_finRange c), fun c hc => h2 c (List.mem_finRange c) hc⟩ (best_isBest v)

end Cert.Rvq

end
-- ==== Proof.KRng.lean ====
/- The words the kernel perturbs its scores with are the generator's. -/
module

public import proofs.«01_k».proof.Proof.Step
public import proofs.«01_k».proof.Proof.Spec
public import Idealize.ShloMosaic.Lib.Pointwise

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Rvq

section
variable (i : grid0.Coords) (k1 k2 : BitVec 32) (j : S128x8192.Idx)

/-- The pair of words after part 1 of the generator, as the body computes it. -/
def st1 : BitVec 32 × BitVec 32 := (k0_pay7 (F := Ideal) i k1 k2 j, k0_pay8 (F := Ideal) i k1 k2 j)
/-- Part 1 of the body's generator, read at an index. -/
theorem st1_eq : st1 i k1 k2 j = rnd 13 (k1, k0_pay6 (F := Ideal) i k2 j) := rfl
/-- The pair of words after part 2 of the generator, as the body computes it. -/
def st2 : BitVec 32 × BitVec 32 := (k0_pay9 (F := Ideal) i k1 k2 j, k0_pay10 (F := Ideal) i k1 k2 j)
/-- Part 2 of the body's generator, read at an index. -/
theorem st2_eq : st2 i k1 k2 j = rnd 15 (st1 i k1 k2 j) := rfl
/-- The pair of words after part 3 of the generator, as the body computes it. -/
def st3 : BitVec 32 × BitVec 32 := (k0_pay11 (F := Ideal) i k1 k2 j, k0_pay12 (k0_pay10 (F := Ideal) i k1 k2) (k0_pay11 (F := Ideal) i k1 k2) j)
/-- Part 3 of the body's generator, read at an index. -/
theorem st3_eq : st3 i k1 k2 j = rnd 26 (st2 i k1 k2 j) := rfl
/-- The pair of words after part 4 of the generator, as the body computes it. -/
def st4 : BitVec 32 × BitVec 32 := (k0_pay13 (k0_pay10 (F := Ideal) i k1 k2) (k0_pay11 (F := Ideal) i k1 k2) j + k2, k0_pay14 (key k1 k2) (k0_pay10 (F := Ideal) i k1 k2) (k0_pay11 (F := Ideal) i k1 k2) j)
/-- Part 4 of the body's generator, read at an index. -/
theorem st4_eq : st4 i k1 k2 j = inj k2 (key3 k1 k2) 1#32 (rnd 6 (st3 i k1 k2 j)) := rfl
/-- The pair of words after part 5 of the generator, as the body computes it. -/
def st5 : BitVec 32 × BitVec 32 := (k0_pay15 (F := Ideal) k2 (key k1 k2) (k0_pay10 (F := Ideal) i k1 k2) (k0_pay11 (F := Ideal) i k1 k2) j, k0_pay16 (F := Ideal) k2 (key k1 k2) (k0_pay10 (F := Ideal) i k1 k2) (k0_pay11 (F := Ideal) i k1 k2) j)
/-- Part 5 of the body's generator, read at an index. -/
theorem st5_eq : st5 i k1 k2 j = rnd 17 (st4 i k1 k2 j) := rfl
/-- The pair of words after part 6 of the generator, as the body computes it. -/
def st6 : BitVec 32 × BitVec 32 := (k0_pay17 (F := Ideal) k2 (key k1 k2) (k0_pay10 (F := Ideal) i k1 k2) (k0_pay11 (F := Ideal) i k1 k2) j, k0_pay18 (F := Ideal) k2 (key k1 k2) (k0_pay10 (F := Ideal) i k1 k2) (k0_pay11 (F := Ideal) i k1 k2) j)
/-- Part 6 of the body's generator, read at an index. -/
theorem st6_eq : st6 i k1 k2 j = rnd 29 (st5 i k1 k2 j) := rfl
/-- The pair of words after part 7 of the generator, as the body computes it. -/
def st7 : BitVec 32 × BitVec 32 := (k0_pay19 (F := Ideal) k2 (key k1 k2) (k0_pay10 (F := Ideal) i k1 k2) (k0_pay11 (F := Ideal) i k1 k2) j, k0_pay20 (F := Ideal) k2 (key k1 k2) (k0_pay10 (F := Ideal) i k1 k2) (k0_pay11 (F := Ideal) i k1 k2) j)
/-- Part 7 of the body's generator, read at an index. -/
theorem st7_eq : st7 i k1 k2 j = rnd 16 (st6 i k1 k2 j) := rfl
/-- The pair of words after part 8 of the generator, as the body computes it. -/
def st8 : BitVec 32 × BitVec 32 := (rA1 (F := Ideal) i k1 k2 j + (key3 k1 k2), k0_pay24 (F := Ideal) k1 (rA2 (F := Ideal) i k1 k2) j)
/-- Part 8 of the body's generator, read at an index. -/
theorem st8_eq : st8 i k1 k2 j = inj (key3 k1 k2) k1 2#32 (rnd 24 (st7 i k1 k2 j)) := rfl
/-- The pair of words after part 9 of the generator, as the body computes it. -/
def st9 : BitVec 32 × BitVec 32 := (k0_pay25 (F := Ideal) k1 (rA1 (F := Ideal) i k1 k2) (rA2 (F := Ideal) i k1 k2) (k0_pay23 (key k1 k2)) j, k0_pay26 (F := Ideal) k1 (rA1 (F := Ideal) i k1 k2) (rA2 (F := Ideal) i k1 k2) (k0_pay23 (key k1 k2)) j)
/-- Part 9 of the body's generator, read at an index. -/
theorem st9_eq : st9 i k1 k2 j = rnd 13 (st8 i k1 k2 j) := rfl
/-- The pair of words after part 10 of the generator, as the body computes it. -/
def st10 : BitVec 32 × BitVec 32 := (k0_pay27 (F := Ideal) k1 (rA1 (F := Ideal) i k1 k2) (rA2 (F := Ideal) i k1 k2) (k0_pay23 (key k1 k2)) j, k0_pay28 (F := Ideal) k1 (rA1 (F := Ideal) i k1 k2) (rA2 (F := Ideal) i k1 k2) (k0_pay23 (key k1 k2)) j)
/-- Part 10 of the body's generator, read at an index. -/
theorem st10_eq : st10 i k1 k2 j = rnd 15 (st9 i k1 k2 j) := rfl
/-- The pair of words after part 11 of the generator, as the body computes it. -/
def st11 : BitVec 32 × BitVec 32 := (k0_pay29 (F := Ideal) k1 (rA1 (F := Ideal) i k1 k2) (rA2 (F := Ideal) i k1 k2) (k0_pay23 (key k1 k2)) j, k0_pay30 (F := Ideal) k1 (rA1 (F := Ideal) i k1 k2) (rA2 (F := Ideal) i k1 k2) (k0_pay23 (key k1 k2)) j)
/-- Part 11 of the body's generator, read at an index. -/
theorem st11_eq : st11 i k1 k2 j = rnd 26 (st10 i k1 k2 j) := rfl
/-- The pair of words after part 12 of the generator, as the body computes it. -/
def st12 : BitVec 32 × BitVec 32 := (k0_pay31 (F := Ideal) k1 (rA1 (F := Ideal) i k1 k2) (rA2 (F := Ideal) i k1 k2) (k0_pay23 (key k1 k2)) j + k1, k0_pay32 (F := Ideal) k1 k2 (rA1 (F := Ideal) i k1 k2) (rA2 (F := Ideal) i k1 k2) (k0_pay23 (key k1 k2)) j)
/-- Part 12 of the body's generator, read at an index. -/
theorem st12_eq : st12 i k1 k2 j = inj k1 k2 3#32 (rnd 6 (st11 i k1 k2 j)) := rfl
/-- The pair of words after part 13 of the generator, as the body computes it. -/
def st13 : BitVec 32 × BitVec 32 := (k0_pay33 (F := Ideal) k1 k2 (rA1 (F := Ideal) i k1 k2) (rA2 (F := Ideal) i k1 k2) (k0_pay23 (key k1 k2)) j, rB1 (F := Ideal) i k1 k2 j)
/-- Part 13 of the body's generator, read at an index. -/
theorem st13_eq : st13 i k1 k2 j = rnd 17 (st12 i k1 k2 j) := rfl
/-- The pair of words after part 14 of the generator, as the body computes it. -/
def st14 : BitVec 32 × BitVec 32 := (rB2 (F := Ideal) i k1 k2 j, k0_pay37 (rB1 (F := Ideal) i k1 k2) (rB2 (F := Ideal) i k1 k2) (rB3 (F := Ideal) i k1 k2) j)
/-- Part 14 of the body's generator, read at an index. -/
theorem st14_eq : st14 i k1 k2 j = rnd 29 (st13 i k1 k2 j) := rfl
/-- The pair of words after part 15 of the generator, as the body computes it. -/
def st15 : BitVec 32 × BitVec 32 := (k0_pay38 (rB1 (F := Ideal) i k1 k2) (rB2 (F := Ideal) i k1 k2) (rB3 (F := Ideal) i k1 k2) j, k0_pay39 (rB1 (F := Ideal) i k1 k2) (rB2 (F := Ideal) i k1 k2) (rB3 (F := Ideal) i k1 k2) j)
/-- Part 15 of the body's generator, read at an index. -/
theorem st15_eq : st15 i k1 k2 j = rnd 16 (st14 i k1 k2 j) := rfl
/-- The pair of words after part 16 of the generator, as the body computes it. -/
def st16 : BitVec 32 × BitVec 32 := (k0_pay40 (rB1 (F := Ideal) i k1 k2) (rB2 (F := Ideal) i k1 k2) (rB3 (F := Ideal) i k1 k2) j + k2, k0_pay41 (key k1 k2) (rB1 (F := Ideal) i k1 k2) (rB2 (F := Ideal) i k1 k2) (rB3 (F := Ideal) i k1 k2) j)
/-- Part 16 of the body's generator, read at an index. -/
theorem st16_eq : st16 i k1 k2 j = inj k2 (key3 k1 k2) 4#32 (rnd 24 (st15 i k1 k2 j)) := rfl
/-- The pair of words after part 17 of the generator, as the body computes it. -/
def st17 : BitVec 32 × BitVec 32 := (k0_pay42 (F := Ideal) k2 (key k1 k2) (rB1 (F := Ideal) i k1 k2) (rB2 (F := Ideal) i k1 k2) (rB3 (F := Ideal) i k1 k2) j, k0_pay43 (F := Ideal) k2 (key k1 k2) (rB1 (F := Ideal) i k1 k2) (rB2 (F := Ideal) i k1 k2) (rB3 (F := Ideal) i k1 k2) j)
/-- Part 17 of the body's generator, read at an index. -/
theorem st17_eq : st17 i k1 k2 j = rnd 13 (st16 i k1 k2 j) := rfl
/-- The pair of words after part 18 of the generator, as the body computes it. -/
def st18 : BitVec 32 × BitVec 32 := (k0_pay44 (F := Ideal) k2 (key k1 k2) (rB1 (F := Ideal) i k1 k2) (rB2 (F := Ideal) i k1 k2) (rB3 (F := Ideal) i k1 k2) j, k0_pay45 (F := Ideal) k2 (key k1 k2) (rB1 (F := Ideal) i k1 k2) (rB2 (F := Ideal) i k1 k2) (rB3 (F := Ideal) i k1 k2) j)
/-- Part 18 of the body's generator, read at an index. -/
theorem st18_eq : st18 i k1 k2 j = rnd 15 (st17 i k1 k2 j) := rfl
/-- The pair of words after part 19 of the generator, as the body computes it. -/
def st19 : BitVec 32 × BitVec 32 := (k0_pay46 (F := Ideal) k2 (key k1 k2) (rB1 (F := Ideal) i k1 k2) (rB2 (F := Ideal) i k1 k2) (rB3 (F := Ideal) i k1 k2) j, rC1 (F := Ideal) i k1 k2 j)
/-- Part 19 of the body's generator, read at an index. -/
theorem st19_eq : st19 i k1 k2 j = rnd 26 (st18 i k1 k2 j) := rfl

/-- The last round and injection, and the combination of the two words. -/
def lastWord : BitVec 32 :=
  (rC2 (F := Ideal) i k1 k2 j + key k1 k2) ^^^ ((rC2 (F := Ideal) i k1 k2 j ^^^ (rC3 (F := Ideal) i k1 k2 j ||| (rC1 (F := Ideal) i k1 k2 j >>> 26))) + (k1 + 5#32))
/-- The last word of the body's generator is the word of the counter. -/
theorem lastWord_eq' : lastWord i k1 k2 j = (inj (key3 k1 k2) k1 5#32 (rnd 6 (st19 i k1 k2 j))).1 ^^^ (inj (key3 k1 k2) k1 5#32 (rnd 6 (st19 i k1 k2 j))).2 := rfl
/-- The kernel's word at a counter. -/
theorem lastWord_eq (x : BitVec 32) (hx : k0_pay6 (F := Ideal) i k2 j = x + k2) : lastWord i k1 k2 j = word k1 k2 x := by
  rw [lastWord_eq', st19_eq, st18_eq, st17_eq, st16_eq, st15_eq, st14_eq, st13_eq, st12_eq, st11_eq, st10_eq, st9_eq, st8_eq, st7_eq, st6_eq, st5_eq, st4_eq, st3_eq, st2_eq, st1_eq, hx]
  have e : ((k1, x + k2) : BitVec 32 × BitVec 32) = inj k1 k2 0#32 (0#32, x) := by
    unfold inj
    rw [BitVec.zero_add, BitVec.add_zero]
  rw [e]
  rfl
end

end Cert.KernelIdeal.Val

end
-- ==== Proof.KVal.lean ====
/- The grid step's values over the extended reals, row by row. -/
module

public import proofs.«01_k».proof.Proof.KRng
public import proofs.«01_k».proof.Proof.Spec
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Rvq

/-- A row of a block. -/
def rowF (fr : Vec Ideal S128x64 .f32) (r : Fin 128) : Fin 64 → EReal := fun k => fr (ix2 r k)
/-- The codewords. -/
def cbk (cw : Vec Ideal S8192x64 .f32) : Fin 8192 → Fin 64 → EReal := fun c k => cw (ix2 c k)

/-- The body's squared distances are the distances of the row. -/
theorem pay50_apply (fr : Vec Ideal S128x64 .f32) (cw : Vec Ideal S8192x64 .f32) (cn : Vec Ideal S1x8192 .f32)
    (hn : ∀ c : Fin 8192, cn (ix2 0 c) = ∑ k, cbk cw c k * cbk cw c k) (r : Fin 128) (c : Fin 8192) :
    k0_pay50 (F := Ideal) fr cw (k0_pay5 cn) (ix2 r c) = dist (cbk cw) (rowF fr r) c := by
  simp only [k0_pay50, k0_pay5, pointwise, show ¬ (128 : Nat) = 1 by decide, show ¬ (8192 : Nat) = 1 by decide, ↓reduceDIte, zero_add, hn]
  rfl
/-- The soft targets of a row. -/
theorem sProbs_apply (fr : Vec Ideal S128x64 .f32) (cw : Vec Ideal S8192x64 .f32) (cn : Vec Ideal S1x8192 .f32)
    (hn : ∀ c : Fin 8192, cn (ix2 0 c) = ∑ k, cbk cw c k * cbk cw c k) (r : Fin 128) (c : Fin 8192) :
    sProbs (F := Ideal) fr cw cn (ix2 r c) = soft (cbk cw) (rowF fr r) c := by
  have e : ∀ r c, k0_pay50 (F := Ideal) fr cw (k0_pay5 cn) (ix2 r c) = dist (cbk cw) (rowF fr r) c := pay50_apply fr cw cn hn
  have ht : Ideal.ofBits .f32 2139095040#32 = ⊤ := by simp [Ideal.ofBits, Ideal.ieee]
  simp only [sProbs, k0_pay51, pointwise, show ¬ (128 : Nat) = 1 by decide, ↓reduceDIte, e, ht]
  rfl
/-- The row maxima of the scores. -/
theorem sMax_apply (i : grid0.Coords) (k1 k2 : BitVec 32) (fr : Vec Ideal S128x64 .f32) (cw : Vec Ideal S8192x64 .f32) (cn : Vec Ideal S1x8192 .f32) (r : Fin 128) :
    sMax (F := Ideal) i k1 k2 fr cw cn (ix1 r) = Finset.univ.sup fun c : Fin 8192 => sScore (F := Ideal) i k1 k2 fr cw cn (ix2 r c) := by
  have ht : Ideal.ofBits .f32 4286578688#32 = ⊥ := by simp [Ideal.ofBits, Ideal.ieee]
  simp only [sMax, k0_pay53, pointwise, ht]
  rfl
/-- The chosen codeword. -/
theorem pay54_apply (v : FVec Ideal S128x8192 .f32) (m : FVec Ideal S128 .f32) (r : Fin 128) (u : Fin 1)
    (hm : m (ix1 r) = Finset.univ.sup fun c : Fin 8192 => v (ix2 r c)) :
    k0_pay54 (F := Ideal) cols v m (ix2 r u) = BitVec.ofNat 32 (best fun c => v (ix2 r c)).val := by
  have hb := best_isBest fun c => v (ix2 r c)
  rw [sup_eq_of_best hb] at hm
  rw [← fold_minsi _ _ hb, ← hm]
  simp only [k0_pay54, cols, pointwise, show ¬ (128 : Nat) = 1 by decide, ↓reduceDIte]
  refine Finset.fold_congr fun c _ => ?_
  refine if_congr Iff.rfl ?_ rfl
  show BitVec.ofNat 32 (0 * 8192 + c.val) = _
  rw [zero_mul, zero_add]
/-- A comparison of two codeword numbers, widened and read as a number. -/
theorem oneHot_elt (c j : Fin 8192) :
    FloatOps.sitofp (F := Ideal) FTy.f32 (BitVec.setWidth 32 (IntOp.cmpi CmpIPredicate.eq (BitVec.ofNat 32 c.val) (BitVec.ofNat 32 j.val)))
      = if c = j then (1 : EReal) else 0 := by
  have hc := c.isLt
  have hj := j.isLt
  by_cases h : c = j
  · subst h
    rw [if_pos rfl]
    have : IntOp.cmpi CmpIPredicate.eq (BitVec.ofNat 32 c.val) (BitVec.ofNat 32 c.val) = 1#1 := by simp [IntOp.cmpi]
    rw [this]
    show (((1 : Int) : ℝ) : EReal) = 1
    simp
  · rw [if_neg h]
    have hne : ¬ BitVec.ofNat 32 c.val = BitVec.ofNat 32 j.val := fun e => h (Fin.ext (by
      have := congrArg BitVec.toNat e
      rw [BitVec.toNat_ofNat, BitVec.toNat_ofNat, Nat.mod_eq_of_lt (by omega), Nat.mod_eq_of_lt (by omega)] at this
      exact this))
    have : IntOp.cmpi CmpIPredicate.eq (BitVec.ofNat 32 c.val) (BitVec.ofNat 32 j.val) = 0#1 := by
      show BitVec.ofBool (BitVec.ofNat 32 c.val == BitVec.ofNat 32 j.val) = 0#1
      rw [beq_false_of_ne hne]
      rfl
    rw [this]
    show (((0 : Int) : ℝ) : EReal) = 0
    simp
/-- The chosen codeword's row. -/
theorem pay55_apply (cw : Vec Ideal S8192x64 .f32) (v : FVec Ideal S128x8192 .f32) (m : FVec Ideal S128 .f32) (r : Fin 128) (k : Fin 64)
    (hm : m (ix1 r) = Finset.univ.sup fun c : Fin 8192 => v (ix2 r c)) :
    k0_pay55 (F := Ideal) cw cols v m (ix2 r k) = cbk cw (best fun c => v (ix2 r c)) k := by
  have e := fun u => pay54_apply v m r u hm
  rw [← oneHot_sum (cbk cw)]
  unfold k0_pay55
  generalize k0_pay54 (F := Ideal) cols v m = q at e
  simp only [cols, pointwise, show ¬ (128 : Nat) = 1 by decide, ↓reduceDIte, e]
  rw [zero_add]
  refine Finset.sum_congr rfl fun c _ => ?_
  rw [← oneHot_elt]
  show FloatOps.sitofp (F := Ideal) FTy.f32 (BitVec.setWidth 32 (IntOp.cmpi CmpIPredicate.eq (BitVec.ofNat 32 (0 * 8192 + c.val)) _)) * _ = _
  rw [zero_mul, zero_add]
  rfl
/-- The counter of an entry. -/
theorem pay6_apply (i : grid0.Coords) (k2 : BitVec 32) (r : Fin 128) (c : Fin 8192) :
    k0_pay6 (F := Ideal) i k2 (ix2 r c) = BitVec.ofNat 32 ((128 * (i 0).val + r.val) * 8192 + c.val) + k2 := by
  simp only [k0_pay6, pointwise, show ¬ (128 : Nat) = 1 by decide, ↓reduceDIte]
  show BitVec.ofNat 32 (i 0).val * BitVec.ofNat 32 1048576 + BitVec.ofNat 32 (0 * 1 + r.val) * BitVec.ofNat 32 8192
      + BitVec.ofNat 32 (0 * 8192 + c.val) + k2 = _
  have h : (128 * (i 0).val + r.val) * 8192 + c.val = (i 0).val * 1048576 + r.val * 8192 + c.val := by omega
  rw [h, Nat.zero_mul, Nat.zero_add, Nat.zero_add, BitVec.ofNat_add, BitVec.ofNat_add, BitVec.ofNat_mul, BitVec.ofNat_mul]
/-- The perturbed scores of a row. -/
theorem sScore_apply (i : grid0.Coords) (k1 k2 : BitVec 32) (fr : Vec Ideal S128x64 .f32) (cw : Vec Ideal S8192x64 .f32) (cn : Vec Ideal S1x8192 .f32)
    (hn : ∀ c : Fin 8192, cn (ix2 0 c) = ∑ k, cbk cw c k * cbk cw c k) (r : Fin 128) (c : Fin 8192) :
    sScore (F := Ideal) i k1 k2 fr cw cn (ix2 r c)
      = score (cbk cw) (fun c => pert (word k1 k2 (BitVec.ofNat 32 ((128 * (i 0).val + r.val) * 8192 + c.val)))) (rowF fr r) c := by
  have e := lastWord_eq i k1 k2 (ix2 r c) _ (pay6_apply i k2 r c)
  have h : sScore (F := Ideal) i k1 k2 fr cw cn (ix2 r c)
      = Ideal.ofBits .f32 0#32 - (Ideal.log (Ideal.ofBits .f32 0#32 - Ideal.log (unif (lastWord i k1 k2 (ix2 r c))))
        + k0_pay50 (F := Ideal) fr cw (k0_pay5 cn) (ix2 r c)) := rfl
  rw [h, e, pay50_apply fr cw cn hn, Ideal.ofBits_zero_f32]
  simp only [sub_eq_add_neg, zero_add]
  rfl

/-! ## The step functions, row by row -/

section
variable (i : grid0.Coords) (k1 k2 : BitVec 32) (fr : Vec Ideal S128x64 .f32) (cw : Vec Ideal S8192x64 .f32) (cn : Vec Ideal S1x8192 .f32)
  (hn : ∀ c : Fin 8192, cn (ix2 0 c) = ∑ k, cbk cw c k * cbk cw c k) (lt : Fin 128 → Fin 8192 → EReal)
  (hlt : ∀ r c, pert (word k1 k2 (BitVec.ofNat 32 ((128 * (i 0).val + r.val) * 8192 + c.val))) = lt r c)
include hn hlt

/-- The body's scores of a row are the row's scores. -/
theorem sBest_apply (r : Fin 128) : (fun c => sScore (F := Ideal) i k1 k2 fr cw cn (ix2 r c)) = score (cbk cw) (lt r) (rowF fr r) := by
  funext c
  rw [sScore_apply i k1 k2 fr cw cn hn r c]
  exact congrArg (fun l : Fin 8192 → EReal => score (cbk cw) l (rowF fr r) c) (funext (hlt r))
/-- The chosen codeword's number. -/
theorem sIdx_apply (r : Fin 128) (u : Fin 1) :
    sIdx (F := Ideal) i k1 k2 fr cw cn (ix2 r u) = BitVec.ofNat 32 (best (score (cbk cw) (lt r) (rowF fr r))).val := by
  rw [← sBest_apply i k1 k2 fr cw cn hn lt hlt r]
  exact pay54_apply _ _ r u (sMax_apply i k1 k2 fr cw cn r)
/-- The chosen codeword. -/
theorem code_apply (r : Fin 128) (k : Fin 64) :
    k0_pay55 (F := Ideal) cw cols (sScore i k1 k2 fr cw cn) (sMax i k1 k2 fr cw cn) (ix2 r k) = cbk cw (best (score (cbk cw) (lt r) (rowF fr r))) k := by
  rw [← sBest_apply i k1 k2 fr cw cn hn lt hlt r]
  exact pay55_apply cw _ _ r k (sMax_apply i k1 k2 fr cw cn r)
/-- The running sum after the step. -/
theorem sQ_apply (q : Vec Ideal S128x64 .f32) (r : Fin 128) (k : Fin 64) :
    sQ (F := Ideal) i k1 k2 fr cw cn q (ix2 r k) = q (ix2 r k) + cbk cw (best (score (cbk cw) (lt r) (rowF fr r))) k := by
  rw [← code_apply i k1 k2 fr cw cn hn lt hlt r k]
  simp only [sQ, k0_pay56, pointwise]
/-- The residual rows after the step. -/
theorem sFr_apply (r : Fin 128) (k : Fin 64) :
    sFr (F := Ideal) i k1 k2 fr cw cn (ix2 r k) = rowF fr r k - cbk cw (best (score (cbk cw) (lt r) (rowF fr r))) k := by
  rw [← code_apply i k1 k2 fr cw cn hn lt hlt r k]
  simp only [sFr, k0_pay1, k0_pay58, pointwise]
  rfl
/-- The block's summed squared error of the step. -/
theorem sLoss_apply (j : S1x1x1.Idx) :
    sLoss (F := Ideal) i k1 k2 fr cw cn j = ∑ r : Fin 128, ∑ k : Fin 64,
      (cbk cw (best (score (cbk cw) (lt r) (rowF fr r))) k - rowF fr r k) * (cbk cw (best (score (cbk cw) (lt r) (rowF fr r))) k - rowF fr r k) := by
  simp only [← code_apply i k1 k2 fr cw cn hn lt hlt]
  simp only [sLoss, k0_pay57, pointwise]
  rfl
end

end Cert.KernelIdeal.Val

end
-- ==== Proof.RunA.lean ====
/- The body's run at a point of step 0, with the contents it leaves. -/
module

public import proofs.«01_k».proof.Proof.Step

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at a point of step 0: from the memrefs' contents it leaves the inputs, the step's soft targets and indices, the block's loss
    so far, the next residual and the next running sum; the other outputs stay. -/
theorem runA (c : Dev nD) (i : grid0.Coords) (arg2 : Memref sig .tc .smem S4x2 .i32) (arg3 : Memref sig .tc .vmem S128x64 .f32) (arg4 : Memref sig .tc .vmem S8192x64 .f32) (arg5 : Memref sig .tc .vmem S1x8192 .f32) (arg6 : Memref sig .tc .vmem S128x64 .f32) (arg7 : Memref sig .tc .vmem S128x8192 .f32) (arg8 : Memref sig .tc .vmem S128x8192 .f32) (arg9 : Memref sig .tc .vmem S128x8192 .f32) (arg10 : Memref sig .tc .vmem S128x8192 .f32) (arg11 : Memref sig .tc .vmem S128x1 .i32) (arg12 : Memref sig .tc .vmem S128x1 .i32) (arg13 : Memref sig .tc .vmem S128x1 .i32) (arg14 : Memref sig .tc .vmem S128x1 .i32) (arg15 : Memref sig .tc .vmem S1x1x1 .f32) (arg16 : Memref sig .tc .vmem S128x64 .f32) (arg17 : Memref sig .tc .vmem S128x64 .f32) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (hc0 : cnd0 i) (hc1 : cnd1 i) (hc2 : ¬cnd2 i) (hc3 : ¬cnd3 i) (hc4 : ¬cnd4 i) (hc5 : cnd5 i) (hc6 : ¬cnd6 i) (hc7 : ¬cnd7 i)
    (x0 : Vec F S4x2 .i32) (x1 : Vec F S128x64 .f32) (x2 : Vec F S8192x64 .f32) (x3 : Vec F S1x8192 .f32) (y4 : Vec F S128x64 .f32) (y5 : Vec F S128x8192 .f32) (y6 : Vec F S128x8192 .f32) (y7 : Vec F S128x8192 .f32) (y8 : Vec F S128x8192 .f32) (y9 : Vec F S128x1 .i32) (y10 : Vec F S128x1 .i32) (y11 : Vec F S128x1 .i32) (y12 : Vec F S128x1 .i32) (y13 : Vec F S1x1x1 .f32) (s0 : Vec F S128x64 .f32) (s1 : Vec F S128x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare s0 ∗ owns (c : Thread nD τ) arg17 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare (sProbs (k0_pay3 x1) x2 x3) ∗ owns (c : Thread nD τ) arg8 fullShare y6 ∗ owns (c : Thread nD τ) arg9 fullShare y7 ∗ owns (c : Thread nD τ) arg10 fullShare y8 ∗ owns (c : Thread nD τ) arg11 fullShare (sIdx i (kw1 i x0) (kw2 i x0) (k0_pay3 x1) x2 x3) ∗ owns (c : Thread nD τ) arg12 fullShare y10 ∗ owns (c : Thread nD τ) arg13 fullShare y11 ∗ owns (c : Thread nD τ) arg14 fullShare y12 ∗ owns (c : Thread nD τ) arg15 fullShare (sLoss i (kw1 i x0) (kw2 i x0) (k0_pay3 x1) x2 x3) ∗ owns (c : Thread nD τ) arg16 fullShare (sFr i (kw1 i x0) (kw2 i x0) (k0_pay3 x1) x2 x3) ∗ owns (c : Thread nD τ) arg17 fullShare (sQ i (kw1 i x0) (kw2 i x0) (k0_pay3 x1) x2 x3 k0_pay4)) -∗ K ⟨⟩))
      ⊢ wp frame (wpE (defs₀ (F := F)) Variants.none c none) E (cc0__rvq_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__rvq_kernel_eq_skeleton]; unfold cc0__rvq_kernel_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3 | sl_exact hc4 | sl_exact hc5 | sl_exact hc6 | sl_exact hc7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    refine (View.read_writes_full _ _ _ _ _).trans ?_
    exact sProbs_congr ((View.readAt_writes_full _ _ _ _ _ _).trans (congrArg k0_pay3 ((View.readAt_full _ _ _).trans (harg3.read_unread _)))) ((View.readAt_full _ _ _).trans (harg4.read_unread _)) ((View.readAt_full _ _ _).trans (harg5.read_unread _))
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    refine (View.read_writes_full _ _ _ _ _).trans ?_
    exact sIdx_congr (congrFun (harg2.read_unread x0) _) (congrFun (harg2.read_unread x0) _) ((View.readAt_writes_full _ _ _ _ _ _).trans (congrArg k0_pay3 ((View.readAt_full _ _ _).trans (harg3.read_unread _)))) ((View.readAt_full _ _ _).trans (harg4.read_unread _)) ((View.readAt_full _ _ _).trans (harg5.read_unread _))
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro
    refine (View.read_writes_full _ _ _ _ _).trans ?_
    exact sLoss_congr (congrFun (harg2.read_unread x0) _) (congrFun (harg2.read_unread x0) _) ((View.readAt_writes_full _ _ _ _ _ _).trans (congrArg k0_pay3 ((View.readAt_full _ _ _).trans (harg3.read_unread _)))) ((View.readAt_full _ _ _).trans (harg4.read_unread _)) ((View.readAt_full _ _ _).trans (harg5.read_unread _))
  isplitl [H16]
  · iexists _; isplitr; swap; · iexact H16
    ipureintro
    refine (View.read_writes_full _ _ _ _ _).trans ?_
    exact sFr_congr (congrFun (harg2.read_unread x0) _) (congrFun (harg2.read_unread x0) _) ((View.readAt_writes_full _ _ _ _ _ _).trans (congrArg k0_pay3 ((View.readAt_full _ _ _).trans (harg3.read_unread _)))) ((View.readAt_full _ _ _).trans (harg4.read_unread _)) ((View.readAt_full _ _ _).trans (harg5.read_unread _))
  iexists _; isplitr; swap; · iexact H17
  ipureintro
  refine (View.read_writes_full _ _ _ _ _).trans ?_
  exact sQ_congr (congrFun (harg2.read_unread x0) _) (congrFun (harg2.read_unread x0) _) ((View.readAt_writes_full _ _ _ _ _ _).trans (congrArg k0_pay3 ((View.readAt_full _ _ _).trans (harg3.read_unread _)))) ((View.readAt_full _ _ _).trans (harg4.read_unread _)) ((View.readAt_full _ _ _).trans (harg5.read_unread _)) (View.readAt_writes_full _ _ _ _ _ _)

end Cert.KernelIdeal.Val

end
-- ==== Proof.RunB.lean ====
/- The body's run at a point of step 1, with the contents it leaves. -/
module

public import proofs.«01_k».proof.Proof.RunA

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at a point of step 1: from the memrefs' contents it leaves the inputs, the step's soft targets and indices, the block's loss
    so far, the next residual and the next running sum; the other outputs stay. -/
theorem runB (c : Dev nD) (i : grid0.Coords) (arg2 : Memref sig .tc .smem S4x2 .i32) (arg3 : Memref sig .tc .vmem S128x64 .f32) (arg4 : Memref sig .tc .vmem S8192x64 .f32) (arg5 : Memref sig .tc .vmem S1x8192 .f32) (arg6 : Memref sig .tc .vmem S128x64 .f32) (arg7 : Memref sig .tc .vmem S128x8192 .f32) (arg8 : Memref sig .tc .vmem S128x8192 .f32) (arg9 : Memref sig .tc .vmem S128x8192 .f32) (arg10 : Memref sig .tc .vmem S128x8192 .f32) (arg11 : Memref sig .tc .vmem S128x1 .i32) (arg12 : Memref sig .tc .vmem S128x1 .i32) (arg13 : Memref sig .tc .vmem S128x1 .i32) (arg14 : Memref sig .tc .vmem S128x1 .i32) (arg15 : Memref sig .tc .vmem S1x1x1 .f32) (arg16 : Memref sig .tc .vmem S128x64 .f32) (arg17 : Memref sig .tc .vmem S128x64 .f32) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (hc0 : ¬cnd0 i) (hc1 : ¬cnd1 i) (hc2 : cnd2 i) (hc3 : ¬cnd3 i) (hc4 : ¬cnd4 i) (hc5 : ¬cnd5 i) (hc6 : cnd6 i) (hc7 : ¬cnd7 i)
    (x0 : Vec F S4x2 .i32) (x1 : Vec F S128x64 .f32) (x2 : Vec F S8192x64 .f32) (x3 : Vec F S1x8192 .f32) (y4 : Vec F S128x64 .f32) (y5 : Vec F S128x8192 .f32) (y6 : Vec F S128x8192 .f32) (y7 : Vec F S128x8192 .f32) (y8 : Vec F S128x8192 .f32) (y9 : Vec F S128x1 .i32) (y10 : Vec F S128x1 .i32) (y11 : Vec F S128x1 .i32) (y12 : Vec F S128x1 .i32) (y13 : Vec F S1x1x1 .f32) (s0 : Vec F S128x64 .f32) (s1 : Vec F S128x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare s0 ∗ owns (c : Thread nD τ) arg17 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare (sProbs s0 x2 x3) ∗ owns (c : Thread nD τ) arg9 fullShare y7 ∗ owns (c : Thread nD τ) arg10 fullShare y8 ∗ owns (c : Thread nD τ) arg11 fullShare y9 ∗ owns (c : Thread nD τ) arg12 fullShare (sIdx i (kw1 i x0) (kw2 i x0) s0 x2 x3) ∗ owns (c : Thread nD τ) arg13 fullShare y11 ∗ owns (c : Thread nD τ) arg14 fullShare y12 ∗ owns (c : Thread nD τ) arg15 fullShare (lossNext i (kw1 i x0) (kw2 i x0) s0 x2 x3 y13) ∗ owns (c : Thread nD τ) arg16 fullShare (sFr i (kw1 i x0) (kw2 i x0) s0 x2 x3) ∗ owns (c : Thread nD τ) arg17 fullShare (sQ i (kw1 i x0) (kw2 i x0) s0 x2 x3 s1)) -∗ K ⟨⟩))
      ⊢ wp frame (wpE (defs₀ (F := F)) Variants.none c none) E (cc0__rvq_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__rvq_kernel_eq_skeleton]; unfold cc0__rvq_kernel_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3 | sl_exact hc4 | sl_exact hc5 | sl_exact hc6 | sl_exact hc7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (View.read_writes_full _ _ _ _ _).trans ?_
    exact sProbs_congr ((View.readAt_full _ _ _).trans (harg16.read_unread _)) ((View.readAt_full _ _ _).trans (harg4.read_unread _)) ((View.readAt_full _ _ _).trans (harg5.read_unread _))
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    refine (View.read_writes_full _ _ _ _ _).trans ?_
    exact sIdx_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _))
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro
    refine (View.read_writes_full _ _ _ _ _).trans ?_
    exact lossNext_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _)) ((View.readAt_full _ _ _).trans (harg15.read_unread _))
  isplitl [H16]
  · iexists _; isplitr; swap; · iexact H16
    ipureintro
    refine (View.read_writes_full _ _ _ _ _).trans ?_
    exact sFr_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _))
  iexists _; isplitr; swap; · iexact H17
  ipureintro
  refine (View.read_writes_full _ _ _ _ _).trans ?_
  exact sQ_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _)) ((View.readAt_full _ _ _).trans (harg17.read_unread _))

end Cert.KernelIdeal.Val

end
-- ==== Proof.RunC.lean ====
/- The body's run at a point of step 2, with the contents it leaves. -/
module

public import proofs.«01_k».proof.Proof.RunB

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at a point of step 2: from the memrefs' contents it leaves the inputs, the step's soft targets and indices, the block's loss
    so far, the next residual and the next running sum; the other outputs stay. -/
theorem runC (c : Dev nD) (i : grid0.Coords) (arg2 : Memref sig .tc .smem S4x2 .i32) (arg3 : Memref sig .tc .vmem S128x64 .f32) (arg4 : Memref sig .tc .vmem S8192x64 .f32) (arg5 : Memref sig .tc .vmem S1x8192 .f32) (arg6 : Memref sig .tc .vmem S128x64 .f32) (arg7 : Memref sig .tc .vmem S128x8192 .f32) (arg8 : Memref sig .tc .vmem S128x8192 .f32) (arg9 : Memref sig .tc .vmem S128x8192 .f32) (arg10 : Memref sig .tc .vmem S128x8192 .f32) (arg11 : Memref sig .tc .vmem S128x1 .i32) (arg12 : Memref sig .tc .vmem S128x1 .i32) (arg13 : Memref sig .tc .vmem S128x1 .i32) (arg14 : Memref sig .tc .vmem S128x1 .i32) (arg15 : Memref sig .tc .vmem S1x1x1 .f32) (arg16 : Memref sig .tc .vmem S128x64 .f32) (arg17 : Memref sig .tc .vmem S128x64 .f32) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (hc0 : ¬cnd0 i) (hc1 : ¬cnd1 i) (hc2 : ¬cnd2 i) (hc3 : cnd3 i) (hc4 : ¬cnd4 i) (hc5 : ¬cnd5 i) (hc6 : cnd6 i) (hc7 : ¬cnd7 i)
    (x0 : Vec F S4x2 .i32) (x1 : Vec F S128x64 .f32) (x2 : Vec F S8192x64 .f32) (x3 : Vec F S1x8192 .f32) (y4 : Vec F S128x64 .f32) (y5 : Vec F S128x8192 .f32) (y6 : Vec F S128x8192 .f32) (y7 : Vec F S128x8192 .f32) (y8 : Vec F S128x8192 .f32) (y9 : Vec F S128x1 .i32) (y10 : Vec F S128x1 .i32) (y11 : Vec F S128x1 .i32) (y12 : Vec F S128x1 .i32) (y13 : Vec F S1x1x1 .f32) (s0 : Vec F S128x64 .f32) (s1 : Vec F S128x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare s0 ∗ owns (c : Thread nD τ) arg17 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6 ∗ owns (c : Thread nD τ) arg9 fullShare (sProbs s0 x2 x3) ∗ owns (c : Thread nD τ) arg10 fullShare y8 ∗ owns (c : Thread nD τ) arg11 fullShare y9 ∗ owns (c : Thread nD τ) arg12 fullShare y10 ∗ owns (c : Thread nD τ) arg13 fullShare (sIdx i (kw1 i x0) (kw2 i x0) s0 x2 x3) ∗ owns (c : Thread nD τ) arg14 fullShare y12 ∗ owns (c : Thread nD τ) arg15 fullShare (lossNext i (kw1 i x0) (kw2 i x0) s0 x2 x3 y13) ∗ owns (c : Thread nD τ) arg16 fullShare (sFr i (kw1 i x0) (kw2 i x0) s0 x2 x3) ∗ owns (c : Thread nD τ) arg17 fullShare (sQ i (kw1 i x0) (kw2 i x0) s0 x2 x3 s1)) -∗ K ⟨⟩))
      ⊢ wp frame (wpE (defs₀ (F := F)) Variants.none c none) E (cc0__rvq_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__rvq_kernel_eq_skeleton]; unfold cc0__rvq_kernel_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3 | sl_exact hc4 | sl_exact hc5 | sl_exact hc6 | sl_exact hc7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    refine (View.read_writes_full _ _ _ _ _).trans ?_
    exact sProbs_congr ((View.readAt_full _ _ _).trans (harg16.read_unread _)) ((View.readAt_full _ _ _).trans (harg4.read_unread _)) ((View.readAt_full _ _ _).trans (harg5.read_unread _))
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    refine (View.read_writes_full _ _ _ _ _).trans ?_
    exact sIdx_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _))
  isplitl [H14]
  · iexists _; isplitr; · ipureintro; exact harg14.read_unread _
    iexact H14
  isplitl [H15]
  · iexists _; isplitr; swap; · iexact H15
    ipureintro
    refine (View.read_writes_full _ _ _ _ _).trans ?_
    exact lossNext_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _)) ((View.readAt_full _ _ _).trans (harg15.read_unread _))
  isplitl [H16]
  · iexists _; isplitr; swap; · iexact H16
    ipureintro
    refine (View.read_writes_full _ _ _ _ _).trans ?_
    exact sFr_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _))
  iexists _; isplitr; swap; · iexact H17
  ipureintro
  refine (View.read_writes_full _ _ _ _ _).trans ?_
  exact sQ_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _)) ((View.readAt_full _ _ _).trans (harg17.read_unread _))

end Cert.KernelIdeal.Val

end
-- ==== Proof.RunD.lean ====
/- The body's run at a point of step 3, with the contents it leaves. -/
module

public import proofs.«01_k».proof.Proof.RunC

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at a point of step 3: from the memrefs' contents it leaves the inputs, the step's soft targets and indices, the block's loss
    so far, the next residual and the next running sum, and writes the running sum out; the other outputs stay. -/
theorem runD (c : Dev nD) (i : grid0.Coords) (arg2 : Memref sig .tc .smem S4x2 .i32) (arg3 : Memref sig .tc .vmem S128x64 .f32) (arg4 : Memref sig .tc .vmem S8192x64 .f32) (arg5 : Memref sig .tc .vmem S1x8192 .f32) (arg6 : Memref sig .tc .vmem S128x64 .f32) (arg7 : Memref sig .tc .vmem S128x8192 .f32) (arg8 : Memref sig .tc .vmem S128x8192 .f32) (arg9 : Memref sig .tc .vmem S128x8192 .f32) (arg10 : Memref sig .tc .vmem S128x8192 .f32) (arg11 : Memref sig .tc .vmem S128x1 .i32) (arg12 : Memref sig .tc .vmem S128x1 .i32) (arg13 : Memref sig .tc .vmem S128x1 .i32) (arg14 : Memref sig .tc .vmem S128x1 .i32) (arg15 : Memref sig .tc .vmem S1x1x1 .f32) (arg16 : Memref sig .tc .vmem S128x64 .f32) (arg17 : Memref sig .tc .vmem S128x64 .f32) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (hc0 : ¬cnd0 i) (hc1 : ¬cnd1 i) (hc2 : ¬cnd2 i) (hc3 : ¬cnd3 i) (hc4 : cnd4 i) (hc5 : ¬cnd5 i) (hc6 : cnd6 i) (hc7 : cnd7 i)
    (x0 : Vec F S4x2 .i32) (x1 : Vec F S128x64 .f32) (x2 : Vec F S8192x64 .f32) (x3 : Vec F S1x8192 .f32) (y4 : Vec F S128x64 .f32) (y5 : Vec F S128x8192 .f32) (y6 : Vec F S128x8192 .f32) (y7 : Vec F S128x8192 .f32) (y8 : Vec F S128x8192 .f32) (y9 : Vec F S128x1 .i32) (y10 : Vec F S128x1 .i32) (y11 : Vec F S128x1 .i32) (y12 : Vec F S128x1 .i32) (y13 : Vec F S1x1x1 .f32) (s0 : Vec F S128x64 .f32) (s1 : Vec F S128x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare s0 ∗ owns (c : Thread nD τ) arg17 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (sQ i (kw1 i x0) (kw2 i x0) s0 x2 x3 s1) ∗ owns (c : Thread nD τ) arg7 fullShare y5 ∗ owns (c : Thread nD τ) arg8 fullShare y6 ∗ owns (c : Thread nD τ) arg9 fullShare y7 ∗ owns (c : Thread nD τ) arg10 fullShare (sProbs s0 x2 x3) ∗ owns (c : Thread nD τ) arg11 fullShare y9 ∗ owns (c : Thread nD τ) arg12 fullShare y10 ∗ owns (c : Thread nD τ) arg13 fullShare y11 ∗ owns (c : Thread nD τ) arg14 fullShare (sIdx i (kw1 i x0) (kw2 i x0) s0 x2 x3) ∗ owns (c : Thread nD τ) arg15 fullShare (lossNext i (kw1 i x0) (kw2 i x0) s0 x2 x3 y13) ∗ owns (c : Thread nD τ) arg16 fullShare (sFr i (kw1 i x0) (kw2 i x0) s0 x2 x3) ∗ owns (c : Thread nD τ) arg17 fullShare (sQ i (kw1 i x0) (kw2 i x0) s0 x2 x3 s1)) -∗ K ⟨⟩))
      ⊢ wp frame (wpE (defs₀ (F := F)) Variants.none c none) E (cc0__rvq_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__rvq_kernel_eq_skeleton]; unfold cc0__rvq_kernel_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hc0 | sl_exact hc1 | sl_exact hc2 | sl_exact hc3 | sl_exact hc4 | sl_exact hc5 | sl_exact hc6 | sl_exact hc7)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (View.read_writes_full _ _ _ _ _).trans ?_
    refine (View.readAt_writes_full _ _ _ _ _ _).trans ?_
    exact sQ_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _)) ((View.readAt_full _ _ _).trans (harg17.read_unread _))
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    refine (View.read_writes_full _ _ _ _ _).trans ?_
    exact sProbs_congr ((View.readAt_full _ _ _).trans (harg16.read_unread _)) ((View.readAt_full _ _ _).trans (harg4.read_unread _)) ((View.readAt_full _ _ _).trans (harg5.read_unread _))
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    refine (View.read_writes_full _ _ _ _ _).trans ?_
    exact sIdx_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _))
  isplitl [H15]
  · iexists _; isplitr; swap; · iexact H15
    ipureintro
    refine (View.read_writes_full _ _ _ _ _).trans ?_
    exact lossNext_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _)) ((View.readAt_full _ _ _).trans (harg15.read_unread _))
  isplitl [H16]
  · iexists _; isplitr; swap; · iexact H16
    ipureintro
    refine (View.read_writes_full _ _ _ _ _).trans ?_
    exact sFr_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _))
  iexists _; isplitr; swap; · iexact H17
  ipureintro
  refine (View.read_writes_full _ _ _ _ _).trans ?_
  exact sQ_congr (congrFun (harg2.read_unread x0) _) (congrFun (harg2.read_unread x0) _) ((View.readAt_full _ _ _).trans (harg16.read_unread _)) ((View.readAt_full _ _ _).trans (harg4.read_unread _)) ((View.readAt_full _ _ _).trans (harg5.read_unread _)) ((View.readAt_full _ _ _).trans (harg17.read_unread _))

end Cert.KernelIdeal.Val

end
-- ==== Proof.State.lean ====
/- The contents the region's buffers hold from point to point, and the pipeline's proof data. -/
module

public import proofs.«01_k».proof.Proof.RunD
public import Idealize.ShloMosaic.Lib.Pipeline.TableIdle

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body reads at a point -/

/-- The key table, the block of input rows, the codebook and the codewords' squared norms, as the body reads them at point `t`. -/
abbrev keysAt (c : Dev nD) (t : Fin cfg0.N) : Vec F S4x2 .i32 := iblk m c 0 t
/-- The rows a point reads. -/
abbrev xAt (c : Dev nD) (t : Fin cfg0.N) : Vec F S128x64 .f32 := iblk m c 1 t
/-- The codewords a point reads. -/
abbrev cwAt (c : Dev nD) (t : Fin cfg0.N) : Vec F S8192x64 .f32 := iblk m c 2 t
/-- The squared norms a point reads. -/
abbrev cnAt (c : Dev nD) (t : Fin cfg0.N) : Vec F S1x8192 .f32 := iblk m c 3 t

/-- The step functions at point `t`, of the residual rows (and the running sum). -/
def probsOf (c : Dev nD) (t : Fin cfg0.N) (fr : Vec F S128x64 .f32) : Vec F S128x8192 .f32 := sProbs fr (cwAt m c t) (cnAt m c t)
/-- The codeword numbers a point computes of its residuals. -/
def idxOf (c : Dev nD) (t : Fin cfg0.N) (fr : Vec F S128x64 .f32) : Vec F S128x1 .i32 :=
  sIdx (grid0.coords t) (kw1 (grid0.coords t) (keysAt m c t)) (kw2 (grid0.coords t) (keysAt m c t)) fr (cwAt m c t) (cnAt m c t)
/-- The squared error of a point. -/
def lossOf (c : Dev nD) (t : Fin cfg0.N) (fr : Vec F S128x64 .f32) : Vec F S1x1x1 .f32 :=
  sLoss (grid0.coords t) (kw1 (grid0.coords t) (keysAt m c t)) (kw2 (grid0.coords t) (keysAt m c t)) fr (cwAt m c t) (cnAt m c t)
/-- The loss after a later step of a tile. -/
def lossAdd (c : Dev nD) (t : Fin cfg0.N) (fr : Vec F S128x64 .f32) (l : Vec F S1x1x1 .f32) : Vec F S1x1x1 .f32 :=
  lossNext (grid0.coords t) (kw1 (grid0.coords t) (keysAt m c t)) (kw2 (grid0.coords t) (keysAt m c t)) fr (cwAt m c t) (cnAt m c t) l
/-- The residuals a point leaves. -/
def frOf (c : Dev nD) (t : Fin cfg0.N) (fr : Vec F S128x64 .f32) : Vec F S128x64 .f32 :=
  sFr (grid0.coords t) (kw1 (grid0.coords t) (keysAt m c t)) (kw2 (grid0.coords t) (keysAt m c t)) fr (cwAt m c t) (cnAt m c t)
/-- The running sum a point leaves. -/
def qOf (c : Dev nD) (t : Fin cfg0.N) (fr q : Vec F S128x64 .f32) : Vec F S128x64 .f32 :=
  sQ (grid0.coords t) (kw1 (grid0.coords t) (keysAt m c t)) (kw2 (grid0.coords t) (keysAt m c t)) fr (cwAt m c t) (cnAt m c t) q

/-! ## The carried contents -/

/-- The residual rows and the running sum the step at point `n` starts from: a tile's first step from the input rows and zero. -/
def pre (c : Dev nD) : (n : ℕ) → n < cfg0.N → Vec F S128x64 .f32 × Vec F S128x64 .f32
  | 0, h => (k0_pay3 (xAt m c ⟨0, h⟩), k0_pay4)
  | n + 1, h =>
    if (n + 1) % 4 = 0 then (k0_pay3 (xAt m c ⟨n + 1, h⟩), k0_pay4)
    else (frOf m c ⟨n, by omega⟩ (pre c n (by omega)).1, qOf m c ⟨n, by omega⟩ (pre c n (by omega)).1 (pre c n (by omega)).2)

/-- At a tile's first step: the input rows and zero. -/
theorem pre_first (c : Dev nD) (n : ℕ) (h : n < cfg0.N) (h0 : n % 4 = 0) : pre m c n h = (k0_pay3 (xAt m c ⟨n, h⟩), k0_pay4) := by
  cases n with
  | zero => rfl
  | succ n => rw [pre, if_pos h0]

/-- At a later step: what the point before left. -/
theorem pre_next (c : Dev nD) (n : ℕ) (h : n + 1 < cfg0.N) (h0 : ¬ (n + 1) % 4 = 0) :
    pre m c (n + 1) h = (frOf m c ⟨n, by omega⟩ (pre m c n (by omega)).1, qOf m c ⟨n, by omega⟩ (pre m c n (by omega)).1 (pre m c n (by omega)).2) := by
  rw [pre, if_neg h0]

/-- The residual rows and the running sum after point `n`. -/
def post (c : Dev nD) (n : ℕ) (h : n < cfg0.N) : Vec F S128x64 .f32 × Vec F S128x64 .f32 :=
  (frOf m c ⟨n, h⟩ (pre m c n h).1, qOf m c ⟨n, h⟩ (pre m c n h).1 (pre m c n h).2)

/-- A later step starts from what the point before left. -/
theorem pre_pos (c : Dev nD) (n : ℕ) (h : n < cfg0.N) (h0 : ¬ n % 4 = 0) : pre m c n h = post m c (n - 1) (by omega) := by
  cases n with
  | zero => exact absurd rfl h0
  | succ n => exact pre_next m c n h h0

/-- The tile's loss so far, after point `n`. -/
def lossAt (c : Dev nD) : (n : ℕ) → n < cfg0.N → Vec F S1x1x1 .f32
  | 0, h => lossOf m c ⟨0, h⟩ (pre m c 0 h).1
  | n + 1, h =>
    if (n + 1) % 4 = 0 then lossOf m c ⟨n + 1, h⟩ (pre m c (n + 1) h).1
    else lossAdd m c ⟨n + 1, h⟩ (pre m c (n + 1) h).1 (lossAt c n (by omega))

/-- A tile's loss after its first step. -/
theorem lossAt_first (c : Dev nD) (n : ℕ) (h : n < cfg0.N) (h0 : n % 4 = 0) : lossAt m c n h = lossOf m c ⟨n, h⟩ (pre m c n h).1 := by
  cases n with
  | zero => rfl
  | succ n => rw [lossAt, if_pos h0]

/-- A tile's loss after a later step. -/
theorem lossAt_pos (c : Dev nD) (n : ℕ) (h : n < cfg0.N) (h0 : ¬ n % 4 = 0) :
    lossAt m c n h = lossAdd m c ⟨n, h⟩ (pre m c n h).1 (lossAt m c (n - 1) (by omega)) := by
  cases n with
  | zero => exact absurd rfl h0
  | succ n => rw [lossAt, if_neg h0]; rfl

/-- The point of step `j` of the tile of point `t`. -/
def ptOf (j : ℕ) (hj : j < 4) (t : Fin cfg0.N) : Fin cfg0.N :=
  ⟨4 * (t.val / 4) + j, by have h := t.isLt; have hN : cfg0.N = 72 := N_0; omega⟩

/-- The point of a step is itself at that step. -/
theorem ptOf_self (j : ℕ) (hj : j < 4) (t : Fin cfg0.N) (h : t.val % 4 = j) : ptOf j hj t = t := Fin.ext (by show 4 * (t.val / 4) + j = t.val; omega)
/-- Neighbouring points of a tile share the tile's points. -/
theorem ptOf_pred (j : ℕ) (hj : j < 4) (t : Fin cfg0.N) (h : ¬ t.val % 4 = 0) : ptOf j hj t = ptOf j hj ⟨t.val - 1, by omega⟩ :=
  Fin.ext (by show 4 * (t.val / 4) + j = 4 * ((t.val - 1) / 4) + j; omega)

/-- The soft targets and the indices of step `j` of the tile of point `t`. -/
def probsTile (c : Dev nD) (j : ℕ) (hj : j < 4) (t : Fin cfg0.N) : Vec F S128x8192 .f32 :=
  probsOf m c (ptOf j hj t) (pre m c (ptOf j hj t).val (ptOf j hj t).isLt).1
/-- The codeword numbers of a step of a tile. -/
def idxTile (c : Dev nD) (j : ℕ) (hj : j < 4) (t : Fin cfg0.N) : Vec F S128x1 .i32 :=
  idxOf m c (ptOf j hj t) (pre m c (ptOf j hj t).val (ptOf j hj t).isLt).1

/-- The step's own point computes the tile's soft targets. -/
theorem probsTile_self (c : Dev nD) (j : ℕ) (hj : j < 4) (t : Fin cfg0.N) (h : t.val % 4 = j) :
    probsTile m c j hj t = probsOf m c t (pre m c t.val t.isLt).1 :=
  congrArg (fun p : Fin cfg0.N => probsOf m c p (pre m c p.val p.isLt).1) (ptOf_self j hj t h)
/-- The step's own point computes the tile's codeword numbers. -/
theorem idxTile_self (c : Dev nD) (j : ℕ) (hj : j < 4) (t : Fin cfg0.N) (h : t.val % 4 = j) :
    idxTile m c j hj t = idxOf m c t (pre m c t.val t.isLt).1 :=
  congrArg (fun p : Fin cfg0.N => idxOf m c p (pre m c p.val p.isLt).1) (ptOf_self j hj t h)

/-! ## The region's invariant and the proof data -/

/-- The invariant before position `n`: at first the scratches at anything; afterwards at what the point before left. -/
def PhiS (c : Dev nD) : (n : ℕ) → n ≤ cfg0.N → sProp 𝕄
  | 0, _ => Pipeline.ΦA spec0 c
  | n + 1, hn => iprop((owns (c : Thread nD τ) scFr fullShare (post m c n hn).1 ∗ owns (c : Thread nD τ) scQ fullShare (post m c n hn).2) ∗ (∃ r, prngReg c r))

/-- The invariant past the first point. -/
theorem PhiS_pos (c : Dev nD) (n : ℕ) (h : n ≤ cfg0.N) (hz : n ≠ 0) :
    PhiS m c n h = iprop((owns (c : Thread nD τ) scFr fullShare (post m c (n - 1) (by omega)).1 ∗ owns (c : Thread nD τ) scQ fullShare (post m c (n - 1) (by omega)).2) ∗ (∃ r, prngReg c r)) := by
  cases n with
  | zero => exact absurd rfl hz
  | succ n => rfl

/-- The pipeline's proof data: the arrays as the region finds them; after a point the inputs' blocks, the running sum, each step's soft
    targets and indices for the whole of its tile, and the tile's loss so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (post m c t.val t.isLt).2
    | ⟨5, _⟩ => probsTile m c 0 (by decide) t
    | ⟨6, _⟩ => probsTile m c 1 (by decide) t
    | ⟨7, _⟩ => probsTile m c 2 (by decide) t
    | ⟨8, _⟩ => probsTile m c 3 (by decide) t
    | ⟨9, _⟩ => idxTile m c 0 (by decide) t
    | ⟨10, _⟩ => idxTile m c 1 (by decide) t
    | ⟨11, _⟩ => idxTile m c 2 (by decide) t
    | ⟨12, _⟩ => idxTile m c 3 (by decide) t
    | ⟨13, _⟩ => lossAt m c t.val t.isLt
  Φ t := PhiS m c t.val (Nat.le_of_lt_succ t.isLt)
  q _ := fullShare
  owed _ := 0

/-- The arrays the region starts from. -/
theorem A_eq (c : Dev nD) (w : Fin cfg0.W) : (dats m 0 c).A w = V m c (Pipeline.arrRef spec0 w) := by dsimp only [dats]
/-- The invariant before a point. -/
theorem Phi_castSucc (c : Dev nD) (t : Fin cfg0.N) : (dats m 0 c).Φ t.castSucc = PhiS m c t.val (Nat.le_of_lt t.isLt) := by
  dsimp only [dats]; exact Pipeline.Dat.Φ_castSucc (PhiS m c) t
/-- The invariant after a point. -/
theorem Phi_succ (c : Dev nD) (t : Fin cfg0.N) : (dats m 0 c).Φ t.succ =
    iprop((owns (c : Thread nD τ) scFr fullShare (post m c t.val t.isLt).1 ∗ owns (c : Thread nD τ) scQ fullShare (post m c t.val t.isLt).2) ∗ (∃ r, prngReg c r)) := rfl

/-- Window 0's buffer after a point. -/
theorem after_0 (c : Dev nD) (t : Fin cfg0.N) : (dats m 0 c).after 0 t = iblk m c 0 t := by dsimp only [dats]
/-- Window 1's buffer after a point. -/
theorem after_1 (c : Dev nD) (t : Fin cfg0.N) : (dats m 0 c).after 1 t = iblk m c 1 t := by dsimp only [dats]
/-- Window 2's buffer after a point. -/
theorem after_2 (c : Dev nD) (t : Fin cfg0.N) : (dats m 0 c).after 2 t = iblk m c 2 t := by dsimp only [dats]
/-- Window 3's buffer after a point. -/
theorem after_3 (c : Dev nD) (t : Fin cfg0.N) : (dats m 0 c).after 3 t = iblk m c 3 t := by dsimp only [dats]
/-- Window 4's buffer after a point. -/
theorem after_4 (c : Dev nD) (t : Fin cfg0.N) : (dats m 0 c).after 4 t = (post m c t.val t.isLt).2 := by dsimp only [dats]
/-- Window 5's buffer after a point. -/
theorem after_5 (c : Dev nD) (t : Fin cfg0.N) : (dats m 0 c).after 5 t = probsTile m c 0 (by decide) t := by dsimp only [dats]
/-- Window 6's buffer after a point. -/
theorem after_6 (c : Dev nD) (t : Fin cfg0.N) : (dats m 0 c).after 6 t = probsTile m c 1 (by decide) t := by dsimp only [dats]
/-- Window 7's buffer after a point. -/
theorem after_7 (c : Dev nD) (t : Fin cfg0.N) : (dats m 0 c).after 7 t = probsTile m c 2 (by decide) t := by dsimp only [dats]
/-- Window 8's buffer after a point. -/
theorem after_8 (c : Dev nD) (t : Fin cfg0.N) : (dats m 0 c).after 8 t = probsTile m c 3 (by decide) t := by dsimp only [dats]
/-- Window 9's buffer after a point. -/
theorem after_9 (c : Dev nD) (t : Fin cfg0.N) : (dats m 0 c).after 9 t = idxTile m c 0 (by decide) t := by dsimp only [dats]
/-- Window 10's buffer after a point. -/
theorem after_10 (c : Dev nD) (t : Fin cfg0.N) : (dats m 0 c).after 10 t = idxTile m c 1 (by decide) t := by dsimp only [dats]
/-- Window 11's buffer after a point. -/
theorem after_11 (c : Dev nD) (t : Fin cfg0.N) : (dats m 0 c).after 11 t = idxTile m c 2 (by decide) t := by dsimp only [dats]
/-- Window 12's buffer after a point. -/
theorem after_12 (c : Dev nD) (t : Fin cfg0.N) : (dats m 0 c).after 12 t = idxTile m c 3 (by decide) t := by dsimp only [dats]
/-- Window 13's buffer after a point. -/
theorem after_13 (c : Dev nD) (t : Fin cfg0.N) : (dats m 0 c).after 13 t = lossAt m c t.val t.isLt := by dsimp only [dats]
/-- Window 0's buffer before a point. -/
theorem before_0 (c : Dev nD) (t : Fin cfg0.N) (d) : (dats m 0 c).before 0 t d = iblk m c 0 t :=
  before0_0_of m (dats m 0 c) (A_eq m c 0) (after_0 m c) t d
/-- Window 1's buffer before a point. -/
theorem before_1 (c : Dev nD) (t : Fin cfg0.N) (d) : (dats m 0 c).before 1 t d = iblk m c 1 t :=
  before0_1_of m (dats m 0 c) (A_eq m c 1) (after_1 m c) t d
/-- Window 2's buffer before a point. -/
theorem before_2 (c : Dev nD) (t : Fin cfg0.N) (d) : (dats m 0 c).before 2 t d = iblk m c 2 t :=
  before0_2_of m (dats m 0 c) (A_eq m c 2) (after_2 m c) t d
/-- Window 3's buffer before a point. -/
theorem before_3 (c : Dev nD) (t : Fin cfg0.N) (d) : (dats m 0 c).before 3 t d = iblk m c 3 t :=
  before0_3_of m (dats m 0 c) (A_eq m c 3) (after_3 m c) t d

/-! ## What an output's buffer holds when it is written back at a tile's last point without being stored into there -/

/-- Window 5's buffer holds nothing stored at a tile's first 1 points only. -/
theorem fresh_5 (n : ℕ) : n < cfg0.N → cfg0.fresh 5 n = decide (n % 4 ≤ 0) := by
  have hN : cfg0.N = 72 := N_0
  induction n with
  | zero => intro _; rfl
  | succ n ih =>
    intro h
    have hn : n < cfg0.N := by omega
    rw [Pipeline.Cfg.fresh_succ cfg0 5 n hn, ih hn]
    by_cases h3 : n % 4 = 3
    · rw [show (cfg0.win 5).flush ⟨n, hn⟩ = true from (flush0_5 ⟨n, hn⟩).mpr h3]
      rw [Bool.true_or]; exact (decide_eq_true (by omega)).symm
    · rw [show (cfg0.win 5).flush ⟨n, hn⟩ = false from Bool.eq_false_iff.mpr (mt (flush0_5 ⟨n, hn⟩).mp h3), Bool.false_or]
      by_cases hj : n % 4 = 0
      · rw [show cfg0.idle 5 (cfg0.grid.coords ⟨n, hn⟩) = false from live5_of ⟨n, hn⟩ hj, Bool.false_and]
        exact (decide_eq_false (by omega)).symm
      · rw [show cfg0.idle 5 (cfg0.grid.coords ⟨n, hn⟩) = true from idle5_of_not ⟨n, hn⟩ hj, Bool.true_and]
        exact decide_eq_decide.mpr (by omega)

/-- Window 5's buffer is carried from the point before. -/
theorem carry_5 (c : Dev nD) (t : Fin cfg0.N) (ht : ¬ t.val % 4 = 0) : (dats m 0 c).after 5 t = (dats m 0 c).after 5 ⟨t.val - 1, by omega⟩ := by
  rw [after_5, after_5]; exact congrArg (fun p : Fin cfg0.N => probsOf m c p (pre m c p.val p.isLt).1) (ptOf_pred 0 (by decide) t ht)

/-- At a tile's last point it holds what step 0 left. -/
theorem before_5_last (c : Dev nD) (t : Fin cfg0.N) (ht : t.val % 4 = 3) (d) : (dats m 0 c).before 5 t d = (dats m 0 c).after 5 t := by
  rw [(dats m 0 c).before_out_traj 5 rfl (fun _ _ => rfl)
    (fun u hu _ hf => carry_5 m c u (fun h0 => by
      rw [fresh_5 u.val u.isLt] at hf; exact absurd (of_decide_eq_false hf) (by omega))) t.val t rfl d,
    fresh_5 t.val t.isLt, if_neg (by rw [decide_eq_true_eq]; omega)]
  exact (carry_5 m c t (by omega)).symm

/-- Window 6's buffer holds nothing stored at a tile's first 2 points only. -/
theorem fresh_6 (n : ℕ) : n < cfg0.N → cfg0.fresh 6 n = decide (n % 4 ≤ 1) := by
  have hN : cfg0.N = 72 := N_0
  induction n with
  | zero => intro _; rfl
  | succ n ih =>
    intro h
    have hn : n < cfg0.N := by omega
    rw [Pipeline.Cfg.fresh_succ cfg0 6 n hn, ih hn]
    by_cases h3 : n % 4 = 3
    · rw [show (cfg0.win 6).flush ⟨n, hn⟩ = true from (flush0_6 ⟨n, hn⟩).mpr h3]
      rw [Bool.true_or]; exact (decide_eq_true (by omega)).symm
    · rw [show (cfg0.win 6).flush ⟨n, hn⟩ = false from Bool.eq_false_iff.mpr (mt (flush0_6 ⟨n, hn⟩).mp h3), Bool.false_or]
      by_cases hj : n % 4 = 1
      · rw [show cfg0.idle 6 (cfg0.grid.coords ⟨n, hn⟩) = false from live6_of ⟨n, hn⟩ hj, Bool.false_and]
        exact (decide_eq_false (by omega)).symm
      · rw [show cfg0.idle 6 (cfg0.grid.coords ⟨n, hn⟩) = true from idle6_of_not ⟨n, hn⟩ hj, Bool.true_and]
        exact decide_eq_decide.mpr (by omega)

/-- Window 6's buffer is carried from the point before. -/
theorem carry_6 (c : Dev nD) (t : Fin cfg0.N) (ht : ¬ t.val % 4 = 0) : (dats m 0 c).after 6 t = (dats m 0 c).after 6 ⟨t.val - 1, by omega⟩ := by
  rw [after_6, after_6]; exact congrArg (fun p : Fin cfg0.N => probsOf m c p (pre m c p.val p.isLt).1) (ptOf_pred 1 (by decide) t ht)

/-- At a tile's last point it holds what step 1 left. -/
theorem before_6_last (c : Dev nD) (t : Fin cfg0.N) (ht : t.val % 4 = 3) (d) : (dats m 0 c).before 6 t d = (dats m 0 c).after 6 t := by
  rw [(dats m 0 c).before_out_traj 6 rfl (fun _ _ => rfl)
    (fun u hu _ hf => carry_6 m c u (fun h0 => by
      rw [fresh_6 u.val u.isLt] at hf; exact absurd (of_decide_eq_false hf) (by omega))) t.val t rfl d,
    fresh_6 t.val t.isLt, if_neg (by rw [decide_eq_true_eq]; omega)]
  exact (carry_6 m c t (by omega)).symm

/-- Window 7's buffer holds nothing stored at a tile's first 3 points only. -/
theorem fresh_7 (n : ℕ) : n < cfg0.N → cfg0.fresh 7 n = decide (n % 4 ≤ 2) := by
  have hN : cfg0.N = 72 := N_0
  induction n with
  | zero => intro _; rfl
  | succ n ih =>
    intro h
    have hn : n < cfg0.N := by omega
    rw [Pipeline.Cfg.fresh_succ cfg0 7 n hn, ih hn]
    by_cases h3 : n % 4 = 3
    · rw [show (cfg0.win 7).flush ⟨n, hn⟩ = true from (flush0_7 ⟨n, hn⟩).mpr h3]
      rw [Bool.true_or]; exact (decide_eq_true (by omega)).symm
    · rw [show (cfg0.win 7).flush ⟨n, hn⟩ = false from Bool.eq_false_iff.mpr (mt (flush0_7 ⟨n, hn⟩).mp h3), Bool.false_or]
      by_cases hj : n % 4 = 2
      · rw [show cfg0.idle 7 (cfg0.grid.coords ⟨n, hn⟩) = false from live7_of ⟨n, hn⟩ hj, Bool.false_and]
        exact (decide_eq_false (by omega)).symm
      · rw [show cfg0.idle 7 (cfg0.grid.coords ⟨n, hn⟩) = true from idle7_of_not ⟨n, hn⟩ hj, Bool.true_and]
        exact decide_eq_decide.mpr (by omega)

/-- Window 7's buffer is carried from the point before. -/
theorem carry_7 (c : Dev nD) (t : Fin cfg0.N) (ht : ¬ t.val % 4 = 0) : (dats m 0 c).after 7 t = (dats m 0 c).after 7 ⟨t.val - 1, by omega⟩ := by
  rw [after_7, after_7]; exact congrArg (fun p : Fin cfg0.N => probsOf m c p (pre m c p.val p.isLt).1) (ptOf_pred 2 (by decide) t ht)

/-- At a tile's last point it holds what step 2 left. -/
theorem before_7_last (c : Dev nD) (t : Fin cfg0.N) (ht : t.val % 4 = 3) (d) : (dats m 0 c).before 7 t d = (dats m 0 c).after 7 t := by
  rw [(dats m 0 c).before_out_traj 7 rfl (fun _ _ => rfl)
    (fun u hu _ hf => carry_7 m c u (fun h0 => by
      rw [fresh_7 u.val u.isLt] at hf; exact absurd (of_decide_eq_false hf) (by omega))) t.val t rfl d,
    fresh_7 t.val t.isLt, if_neg (by rw [decide_eq_true_eq]; omega)]
  exact (carry_7 m c t (by omega)).symm

/-- Window 9's buffer holds nothing stored at a tile's first 1 points only. -/
theorem fresh_9 (n : ℕ) : n < cfg0.N → cfg0.fresh 9 n = decide (n % 4 ≤ 0) := by
  have hN : cfg0.N = 72 := N_0
  induction n with
  | zero => intro _; rfl
  | succ n ih =>
    intro h
    have hn : n < cfg0.N := by omega
    rw [Pipeline.Cfg.fresh_succ cfg0 9 n hn, ih hn]
    by_cases h3 : n % 4 = 3
    · rw [show (cfg0.win 9).flush ⟨n, hn⟩ = true from (flush0_9 ⟨n, hn⟩).mpr h3]
      rw [Bool.true_or]; exact (decide_eq_true (by omega)).symm
    · rw [show (cfg0.win 9).flush ⟨n, hn⟩ = false from Bool.eq_false_iff.mpr (mt (flush0_9 ⟨n, hn⟩).mp h3), Bool.false_or]
      by_cases hj : n % 4 = 0
      · rw [show cfg0.idle 9 (cfg0.grid.coords ⟨n, hn⟩) = false from live9_of ⟨n, hn⟩ hj, Bool.false_and]
        exact (decide_eq_false (by omega)).symm
      · rw [show cfg0.idle 9 (cfg0.grid.coords ⟨n, hn⟩) = true from idle9_of_not ⟨n, hn⟩ hj, Bool.true_and]
        exact decide_eq_decide.mpr (by omega)

/-- Window 9's buffer is carried from the point before. -/
theorem carry_9 (c : Dev nD) (t : Fin cfg0.N) (ht : ¬ t.val % 4 = 0) : (dats m 0 c).after 9 t = (dats m 0 c).after 9 ⟨t.val - 1, by omega⟩ := by
  rw [after_9, after_9]; exact congrArg (fun p : Fin cfg0.N => idxOf m c p (pre m c p.val p.isLt).1) (ptOf_pred 0 (by decide) t ht)

/-- At a tile's last point it holds what step 0 left. -/
theorem before_9_last (c : Dev nD) (t : Fin cfg0.N) (ht : t.val % 4 = 3) (d) : (dats m 0 c).before 9 t d = (dats m 0 c).after 9 t := by
  rw [(dats m 0 c).before_out_traj 9 rfl (fun _ _ => rfl)
    (fun u hu _ hf => carry_9 m c u (fun h0 => by
      rw [fresh_9 u.val u.isLt] at hf; exact absurd (of_decide_eq_false hf) (by omega))) t.val t rfl d,
    fresh_9 t.val t.isLt, if_neg (by rw [decide_eq_true_eq]; omega)]
  exact (carry_9 m c t (by omega)).symm

/-- Window 10's buffer holds nothing stored at a tile's first 2 points only. -/
theorem fresh_10 (n : ℕ) : n < cfg0.N → cfg0.fresh 10 n = decide (n % 4 ≤ 1) := by
  have hN : cfg0.N = 72 := N_0
  induction n with
  | zero => intro _; rfl
  | succ n ih =>
    intro h
    have hn : n < cfg0.N := by omega
    rw [Pipeline.Cfg.fresh_succ cfg0 10 n hn, ih hn]
    by_cases h3 : n % 4 = 3
    · rw [show (cfg0.win 10).flush ⟨n, hn⟩ = true from (flush0_10 ⟨n, hn⟩).mpr h3]
      rw [Bool.true_or]; exact (decide_eq_true (by omega)).symm
    · rw [show (cfg0.win 10).flush ⟨n, hn⟩ = false from Bool.eq_false_iff.mpr (mt (flush0_10 ⟨n, hn⟩).mp h3), Bool.false_or]
      by_cases hj : n % 4 = 1
      · rw [show cfg0.idle 10 (cfg0.grid.coords ⟨n, hn⟩) = false from live10_of ⟨n, hn⟩ hj, Bool.false_and]
        exact (decide_eq_false (by omega)).symm
      · rw [show cfg0.idle 10 (cfg0.grid.coords ⟨n, hn⟩) = true from idle10_of_not ⟨n, hn⟩ hj, Bool.true_and]
        exact decide_eq_decide.mpr (by omega)

/-- Window 10's buffer is carried from the point before. -/
theorem carry_10 (c : Dev nD) (t : Fin cfg0.N) (ht : ¬ t.val % 4 = 0) : (dats m 0 c).after 10 t = (dats m 0 c).after 10 ⟨t.val - 1, by omega⟩ := by
  rw [after_10, after_10]; exact congrArg (fun p : Fin cfg0.N => idxOf m c p (pre m c p.val p.isLt).1) (ptOf_pred 1 (by decide) t ht)

/-- At a tile's last point it holds what step 1 left. -/
theorem before_10_last (c : Dev nD) (t : Fin cfg0.N) (ht : t.val % 4 = 3) (d) : (dats m 0 c).before 10 t d = (dats m 0 c).after 10 t := by
  rw [(dats m 0 c).before_out_traj 10 rfl (fun _ _ => rfl)
    (fun u hu _ hf => carry_10 m c u (fun h0 => by
      rw [fresh_10 u.val u.isLt] at hf; exact absurd (of_decide_eq_false hf) (by omega))) t.val t rfl d,
    fresh_10 t.val t.isLt, if_neg (by rw [decide_eq_true_eq]; omega)]
  exact (carry_10 m c t (by omega)).symm

/-- Window 11's buffer holds nothing stored at a tile's first 3 points only. -/
theorem fresh_11 (n : ℕ) : n < cfg0.N → cfg0.fresh 11 n = decide (n % 4 ≤ 2) := by
  have hN : cfg0.N = 72 := N_0
  induction n with
  | zero => intro _; rfl
  | succ n ih =>
    intro h
    have hn : n < cfg0.N := by omega
    rw [Pipeline.Cfg.fresh_succ cfg0 11 n hn, ih hn]
    by_cases h3 : n % 4 = 3
    · rw [show (cfg0.win 11).flush ⟨n, hn⟩ = true from (flush0_11 ⟨n, hn⟩).mpr h3]
      rw [Bool.true_or]; exact (decide_eq_true (by omega)).symm
    · rw [show (cfg0.win 11).flush ⟨n, hn⟩ = false from Bool.eq_false_iff.mpr (mt (flush0_11 ⟨n, hn⟩).mp h3), Bool.false_or]
      by_cases hj : n % 4 = 2
      · rw [show cfg0.idle 11 (cfg0.grid.coords ⟨n, hn⟩) = false from live11_of ⟨n, hn⟩ hj, Bool.false_and]
        exact (decide_eq_false (by omega)).symm
      · rw [show cfg0.idle 11 (cfg0.grid.coords ⟨n, hn⟩) = true from idle11_of_not ⟨n, hn⟩ hj, Bool.true_and]
        exact decide_eq_decide.mpr (by omega)

/-- Window 11's buffer is carried from the point before. -/
theorem carry_11 (c : Dev nD) (t : Fin cfg0.N) (ht : ¬ t.val % 4 = 0) : (dats m 0 c).after 11 t = (dats m 0 c).after 11 ⟨t.val - 1, by omega⟩ := by
  rw [after_11, after_11]; exact congrArg (fun p : Fin cfg0.N => idxOf m c p (pre m c p.val p.isLt).1) (ptOf_pred 2 (by decide) t ht)

/-- At a tile's last point it holds what step 2 left. -/
theorem before_11_last (c : Dev nD) (t : Fin cfg0.N) (ht : t.val % 4 = 3) (d) : (dats m 0 c).before 11 t d = (dats m 0 c).after 11 t := by
  rw [(dats m 0 c).before_out_traj 11 rfl (fun _ _ => rfl)
    (fun u hu _ hf => carry_11 m c u (fun h0 => by
      rw [fresh_11 u.val u.isLt] at hf; exact absurd (of_decide_eq_false hf) (by omega))) t.val t rfl d,
    fresh_11 t.val t.isLt, if_neg (by rw [decide_eq_true_eq]; omega)]
  exact (carry_11 m c t (by omega)).symm

/-- The loss window's buffer holds nothing stored at a tile's first point only. -/
theorem fresh_13 (n : ℕ) : n < cfg0.N → cfg0.fresh 13 n = decide (n % 4 = 0) := by
  have hN : cfg0.N = 72 := N_0
  cases n with
  | zero => intro _; rfl
  | succ n =>
    intro h
    have hn : n < cfg0.N := by omega
    rw [Pipeline.Cfg.fresh_succ cfg0 13 n hn, show cfg0.idle 13 (cfg0.grid.coords ⟨n, hn⟩) = false from live13 ⟨n, hn⟩, Bool.false_and, Bool.or_false]
    by_cases h3 : n % 4 = 3
    · rw [show (cfg0.win 13).flush ⟨n, hn⟩ = true from (flush0_13 ⟨n, hn⟩).mpr h3]; exact (decide_eq_true (by omega)).symm
    · rw [show (cfg0.win 13).flush ⟨n, hn⟩ = false from Bool.eq_false_iff.mpr (mt (flush0_13 ⟨n, hn⟩).mp h3)]; exact (decide_eq_false (by omega)).symm

/-- At a tile's later points it holds the loss so far. -/
theorem before_13_next (c : Dev nD) (t : Fin cfg0.N) (ht : ¬ t.val % 4 = 0) (d) : (dats m 0 c).before 13 t d = lossAt m c (t.val - 1) (by omega) := by
  rw [(dats m 0 c).before_out_traj 13 rfl (fun _ _ => rfl)
    (fun u _ hi _ => absurd ((live13 u).symm.trans hi) Bool.false_ne_true) t.val t rfl d,
    fresh_13 t.val t.isLt, if_neg (by rw [decide_eq_true_eq]; exact ht)]
  exact after_13 m c _

end Cert.KernelIdeal.Val

end
-- ==== Proof.KBlk.lean ====
/- What the grid step reads at a point: the keys, the rows, the codebook and the norms. -/
module

public import proofs.«01_k».proof.Proof.KVal
public import proofs.«01_k».proof.Proof.State
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rvq

variable (m : (ℓ : Loc nD τ sig) → Buf (Elt Ideal) ℓ) (c : Dev nD)

/-! ### The arrays the region finds -/

/-- The key table. -/
theorem V_keys : V m c main_c = (fun i => lit0 (S4x2.rowMajor i)) := by
  show StableHlo.after hostOps0 _ (Proc.devRef .tc main_c) = _
  after_results
  rfl
/-- The input rows. -/
theorem V_rows : V m c main_v1 = shapeCast S2304x64 (transpose S4x24x24x64 [0, 2, 3, 1] (m ((c : Thread nD τ).loc main_arg0) : FVec Ideal S4x64x24x24 .f32)
    transposes_S4x64x24x24_S4x24x24x64_0_2_3_1) shapeCasts_S4x24x24x64_S2304x64 := by
  show StableHlo.after hostOps0 _ (Proc.devRef .tc main_v1) = _
  after_results
  rfl
/-- The codewords' squared norms. -/
theorem V_norms : V m c main_v4 = shapeCast S1x8192 (Host.reduceAdd (mulf (F := Ideal) (s := S8192x64) (φ := .f32) (m ((c : Thread nD τ).loc main_arg1)) (m ((c : Thread nD τ).loc main_arg1)))
    (constant (F := Ideal) S_ .f32 0x00000000#32) reducesTo_S8192x64_S8192_d1 h_S_) shapeCasts_S8192_S1x8192 := by
  show StableHlo.after hostOps0 _ (Proc.devRef .tc main_v4) = _
  after_results
  rfl

/-! ### Index facts -/

/-- The block that window 0 holds at a point. -/
theorem index0 : ∀ t : Fin cfg0.N, win0_0.index t = ![0, 0] := (by decide +kernel : ∀ t : Fin grid0.N, _)
/-- The block that window 1 holds at a point. -/
theorem index1 : ∀ t : Fin cfg0.N, win0_1.index t = ![t.val / 4, 0] := (by decide +kernel : ∀ t : Fin grid0.N, _)
/-- The block that window 2 holds at a point. -/
theorem index2 : ∀ t : Fin cfg0.N, win0_2.index t = ![0, 0] := (by decide +kernel : ∀ t : Fin grid0.N, _)
/-- The block that window 3 holds at a point. -/
theorem index3 : ∀ t : Fin cfg0.N, win0_3.index t = ![0, 0] := (by decide +kernel : ∀ t : Fin grid0.N, _)
/-- The first grid coordinate of a point is its tile. -/
theorem coord0 : ∀ t : Fin cfg0.N, (grid0.coords t 0).val = t.val / 4 := (by decide +kernel : ∀ t : Fin grid0.N, _)
/-- The body reads the first key word at the step's row of the table. -/
theorem off1 : ∀ t : Fin cfg0.N, ∀ a : Fin 2, ((Rect.unit (s := S4x2) (k0_off1 (grid0.coords t)) S1x1.size (k0_off1_inb (grid0.coords t))).idx
    (Shape.Idx.first (numel1_S1x1.symm ▸ Nat.one_pos)) a : Nat) = ![t.val % 4, 0] a := (by decide +kernel : ∀ t : Fin grid0.N, _)
/-- The body reads the second key word at the step's row of the table. -/
theorem off2 : ∀ t : Fin cfg0.N, ∀ a : Fin 2, ((Rect.unit (s := S4x2) (k0_off2 (grid0.coords t)) S1x1.size (k0_off2_inb (grid0.coords t))).idx
    (Shape.Idx.first (numel1_S1x1.symm ▸ Nat.one_pos)) a : Nat) = ![t.val % 4, 1] a := (by decide +kernel : ∀ t : Fin grid0.N, _)
/-- The table holds the steps' key pairs. -/
theorem lit_keys : ∀ s : Fin 4, lit0 (S4x2.rowMajor (ix2 s 0)) = (keyOf s.val).1 ∧ lit0 (S4x2.rowMajor (ix2 s 1)) = (keyOf s.val).2 := by
  decide +kernel

/-! ### The blocks -/

/-- The block of codewords is the codebook. -/
theorem cwAt_apply (t : Fin cfg0.N) (j : Fin 8192) (k : Fin 64) : cwAt m c t (ix2 j k) = m ((c : Thread nD τ).loc main_arg1) (ix2 j k) := by
  unfold cwAt
  blk_simp [iblk]
  rw [show V m c main_arg1 = _ from V_main_arg1 m c]
  congr 1
  blk_ext [index2]
/-- The block of norms holds the codewords' squared norms. -/
theorem cnAt_apply (t : Fin cfg0.N) (j : Fin 8192) : cnAt m c t (ix2 0 j) = ∑ k : Fin 64, cbk (cwAt m c t) j k * cbk (cwAt m c t) j k := by
  have e : cnAt m c t (ix2 0 j) = V m c main_v4 (ix2 0 j) := by
    unfold cnAt
    blk_simp [iblk]
    congr 1
    blk_ext [index3]
  rw [e, V_norms]
  simp only [pointwise, Ideal.hostReduceAdd_def, cbk, cwAt_apply]
  exact zero_add _
/-- The block of rows is the tile's rows. -/
theorem xAt_apply (t : Fin cfg0.N) (r : Fin 128) (k : Fin 64) : xAt m c t (ix2 r k) = V m c main_v1 (ix2 ⟨128 * (t.val / 4) + r.val, by have := t.isLt; have hN : cfg0.N = 72 := N_0; omega⟩ k) := by
  unfold xAt
  blk_simp [iblk]
  congr 1
  blk_ext [index1]
/-- The key words are the step's. -/
theorem kw1_eq (t : Fin cfg0.N) : kw1 (F := Ideal) (grid0.coords t) (keysAt m c t) = (keyOf (t.val % 4)).1 := by
  have hl := (lit_keys ⟨t.val % 4, Nat.mod_lt _ (by decide)⟩).1
  rw [← hl]
  unfold kw1 keysAt
  blk_simp [iblk]
  rw [V_keys]
  show lit0 (S4x2.rowMajor _) = _
  congr 2
  blk_ext [index0]
  · exact off1 t 0
  · exact off1 t 1
/-- The second key word is the step's. -/
theorem kw2_eq (t : Fin cfg0.N) : kw2 (F := Ideal) (grid0.coords t) (keysAt m c t) = (keyOf (t.val % 4)).2 := by
  have hl := (lit_keys ⟨t.val % 4, Nat.mod_lt _ (by decide)⟩).2
  rw [← hl]
  unfold kw2 keysAt
  blk_simp [iblk]
  rw [V_keys]
  show lit0 (S4x2.rowMajor _) = _
  congr 2
  blk_ext [index0]
  · exact off2 t 0
  · exact off2 t 1

end Cert.KernelIdeal.Val

end
-- ==== Proof.RRng.lean ====
/- The reference's random words are the generator's. -/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Val

open Idealize.ShloMosaic Idealize.ShloMosaic.TcCoe Idealize.SL.Sem Idealize.ShloMosaic.StableHlo
open Idealize.ShloMosaic.Pipeline
open Cert.ReferenceIdeal Cert.ReferenceIdeal.Gen Cert.ReferenceIdeal.Read Cert.Rvq

/-! ## The keys -/
section
variable (i : S4.Idx)
/-- Round 1 of the key generator. -/
theorem ka1 : ((val_main_v10 (F := Ideal) i, val_main_v16 (F := Ideal) i) : BitVec 32 × BitVec 32) = rnd 13 (val_main_v8 (F := Ideal) i, val_main_v9 (F := Ideal) i) :=
  Prod.ext rfl (BitVec.xor_comm _ _)
/-- Round 2 of the key generator. -/
theorem ka2 : ((val_main_v17 (F := Ideal) i, val_main_v23 (F := Ideal) i) : BitVec 32 × BitVec 32) = rnd 15 (val_main_v10 (F := Ideal) i, val_main_v16 (F := Ideal) i) :=
  Prod.ext rfl (BitVec.xor_comm _ _)
/-- Round 3 of the key generator. -/
theorem ka3 : ((val_main_v24 (F := Ideal) i, val_main_v30 (F := Ideal) i) : BitVec 32 × BitVec 32) = rnd 26 (val_main_v17 (F := Ideal) i, val_main_v23 (F := Ideal) i) :=
  Prod.ext rfl (BitVec.xor_comm _ _)
/-- Round 4 of the key generator. -/
theorem ka4 : ((val_main_v31 (F := Ideal) i, val_main_v37 (F := Ideal) i) : BitVec 32 × BitVec 32) = rnd 6 (val_main_v24 (F := Ideal) i, val_main_v30 (F := Ideal) i) :=
  Prod.ext rfl (BitVec.xor_comm _ _)
/-- Injection 1 of the key generator. -/
theorem kai1 : ((val_main_v38 (F := Ideal) i, val_main_v41 (F := Ideal) i) : BitVec 32 × BitVec 32) = inj (val_main_v3 (F := Ideal) i) (val_main_v7 (F := Ideal) i) 1#32 (val_main_v31 (F := Ideal) i, val_main_v37 (F := Ideal) i) :=
  Prod.ext rfl (BitVec.add_assoc _ _ _)
/-- Round 5 of the key generator. -/
theorem ka5 : ((val_main_v42 (F := Ideal) i, val_main_v48 (F := Ideal) i) : BitVec 32 × BitVec 32) = rnd 17 (val_main_v38 (F := Ideal) i, val_main_v41 (F := Ideal) i) :=
  Prod.ext rfl (BitVec.xor_comm _ _)
/-- Round 6 of the key generator. -/
theorem ka6 : ((val_main_v49 (F := Ideal) i, val_main_v55 (F := Ideal) i) : BitVec 32 × BitVec 32) = rnd 29 (val_main_v42 (F := Ideal) i, val_main_v48 (F := Ideal) i) :=
  Prod.ext rfl (BitVec.xor_comm _ _)
/-- Round 7 of the key generator. -/
theorem ka7 : ((val_main_v56 (F := Ideal) i, val_main_v62 (F := Ideal) i) : BitVec 32 × BitVec 32) = rnd 16 (val_main_v49 (F := Ideal) i, val_main_v55 (F := Ideal) i) :=
  Prod.ext rfl (BitVec.xor_comm _ _)
/-- Round 8 of the key generator. -/
theorem ka8 : ((val_main_v63 (F := Ideal) i, val_main_v69 (F := Ideal) i) : BitVec 32 × BitVec 32) = rnd 24 (val_main_v56 (F := Ideal) i, val_main_v62 (F := Ideal) i) :=
  Prod.ext rfl (BitVec.xor_comm _ _)
/-- Injection 2 of the key generator. -/
theorem kai2 : ((val_main_v70 (F := Ideal) i, val_main_v73 (F := Ideal) i) : BitVec 32 × BitVec 32) = inj (val_main_v7 (F := Ideal) i) (val_main_v1 (F := Ideal) i) 2#32 (val_main_v63 (F := Ideal) i, val_main_v69 (F := Ideal) i) :=
  Prod.ext rfl (BitVec.add_assoc _ _ _)
/-- Round 9 of the key generator. -/
theorem ka9 : ((val_main_v74 (F := Ideal) i, val_main_v80 (F := Ideal) i) : BitVec 32 × BitVec 32) = rnd 13 (val_main_v70 (F := Ideal) i, val_main_v73 (F := Ideal) i) :=
  Prod.ext rfl (BitVec.xor_comm _ _)
/-- Round 10 of the key generator. -/
theorem ka10 : ((val_main_v81 (F := Ideal) i, val_main_v87 (F := Ideal) i) : BitVec 32 × BitVec 32) = rnd 15 (val_main_v74 (F := Ideal) i, val_main_v80 (F := Ideal) i) :=
  Prod.ext rfl (BitVec.xor_comm _ _)
/-- Round 11 of the key generator. -/
theorem ka11 : ((val_main_v88 (F := Ideal) i, val_main_v94 (F := Ideal) i) : BitVec 32 × BitVec 32) = rnd 26 (val_main_v81 (F := Ideal) i, val_main_v87 (F := Ideal) i) :=
  Prod.ext rfl (BitVec.xor_comm _ _)
/-- Round 12 of the key generator. -/
theorem ka12 : ((val_main_v95 (F := Ideal) i, val_main_v101 (F := Ideal) i) : BitVec 32 × BitVec 32) = rnd 6 (val_main_v88 (F := Ideal) i, val_main_v94 (F := Ideal) i) :=
  Prod.ext rfl (BitVec.xor_comm _ _)
/-- Injection 3 of the key generator. -/
theorem kai3 : ((val_main_v102 (F := Ideal) i, val_main_v105 (F := Ideal) i) : BitVec 32 × BitVec 32) = inj (val_main_v1 (F := Ideal) i) (val_main_v3 (F := Ideal) i) 3#32 (val_main_v95 (F := Ideal) i, val_main_v101 (F := Ideal) i) :=
  Prod.ext rfl (BitVec.add_assoc _ _ _)
/-- Round 13 of the key generator. -/
theorem ka13 : ((val_main_v106 (F := Ideal) i, val_main_v112 (F := Ideal) i) : BitVec 32 × BitVec 32) = rnd 17 (val_main_v102 (F := Ideal) i, val_main_v105 (F := Ideal) i) :=
  Prod.ext rfl (BitVec.xor_comm _ _)
/-- Round 14 of the key generator. -/
theorem ka14 : ((val_main_v113 (F := Ideal) i, val_main_v119 (F := Ideal) i) : BitVec 32 × BitVec 32) = rnd 29 (val_main_v106 (F := Ideal) i, val_main_v112 (F := Ideal) i) :=
  Prod.ext rfl (BitVec.xor_comm _ _)
/-- Round 15 of the key generator. -/
theorem ka15 : ((val_main_v120 (F := Ideal) i, val_main_v126 (F := Ideal) i) : BitVec 32 × BitVec 32) = rnd 16 (val_main_v113 (F := Ideal) i, val_main_v119 (F := Ideal) i) :=
  Prod.ext rfl (BitVec.xor_comm _ _)
/-- Round 16 of the key generator. -/
theorem ka16 : ((val_main_v127 (F := Ideal) i, val_main_v133 (F := Ideal) i) : BitVec 32 × BitVec 32) = rnd 24 (val_main_v120 (F := Ideal) i, val_main_v126 (F := Ideal) i) :=
  Prod.ext rfl (BitVec.xor_comm _ _)
/-- Injection 4 of the key generator. -/
theorem kai4 : ((val_main_v134 (F := Ideal) i, val_main_v137 (F := Ideal) i) : BitVec 32 × BitVec 32) = inj (val_main_v3 (F := Ideal) i) (val_main_v7 (F := Ideal) i) 4#32 (val_main_v127 (F := Ideal) i, val_main_v133 (F := Ideal) i) :=
  Prod.ext rfl (BitVec.add_assoc _ _ _)
/-- Round 17 of the key generator. -/
theorem ka17 : ((val_main_v138 (F := Ideal) i, val_main_v144 (F := Ideal) i) : BitVec 32 × BitVec 32) = rnd 13 (val_main_v134 (F := Ideal) i, val_main_v137 (F := Ideal) i) :=
  Prod.ext rfl (BitVec.xor_comm _ _)
/-- Round 18 of the key generator. -/
theorem ka18 : ((val_main_v145 (F := Ideal) i, val_main_v151 (F := Ideal) i) : BitVec 32 × BitVec 32) = rnd 15 (val_main_v138 (F := Ideal) i, val_main_v144 (F := Ideal) i) :=
  Prod.ext rfl (BitVec.xor_comm _ _)
/-- Round 19 of the key generator. -/
theorem ka19 : ((val_main_v152 (F := Ideal) i, val_main_v158 (F := Ideal) i) : BitVec 32 × BitVec 32) = rnd 26 (val_main_v145 (F := Ideal) i, val_main_v151 (F := Ideal) i) :=
  Prod.ext rfl (BitVec.xor_comm _ _)
/-- Round 20 of the key generator. -/
theorem ka20 : ((val_main_v159 (F := Ideal) i, val_main_v165 (F := Ideal) i) : BitVec 32 × BitVec 32) = rnd 6 (val_main_v152 (F := Ideal) i, val_main_v158 (F := Ideal) i) :=
  Prod.ext rfl (BitVec.xor_comm _ _)
/-- Injection 5 of the key generator. -/
theorem kai5 : ((val_main_v166 (F := Ideal) i, val_main_v169 (F := Ideal) i) : BitVec 32 × BitVec 32) = inj (val_main_v7 (F := Ideal) i) (val_main_v1 (F := Ideal) i) 5#32 (val_main_v159 (F := Ideal) i, val_main_v165 (F := Ideal) i) :=
  Prod.ext rfl (BitVec.add_assoc _ _ _)
end

/-- The reference's two keys of step `s`. -/
theorem keys_apply (s : Fin 4) : ((val_main_v166 (F := Ideal) (ix1 s), val_main_v169 (F := Ideal) (ix1 s)) : BitVec 32 × BitVec 32) = keyOf s.val := by
  have h1 : val_main_v1 (F := Ideal) (ix1 s) = 0#32 := rfl
  have h3 : val_main_v3 (F := Ideal) (ix1 s) = 1234#32 := rfl
  have h7 : val_main_v7 (F := Ideal) (ix1 s) = key3 0#32 1234#32 := rfl
  have h0 : ((val_main_v8 (F := Ideal) (ix1 s), val_main_v9 (F := Ideal) (ix1 s)) : BitVec 32 × BitVec 32) = inj 0#32 1234#32 0#32 (0#32, BitVec.ofNat 32 s.val) := rfl
  rw [kai5, ka20, ka19, ka18, ka17, kai4, ka16, ka15, ka14, ka13, kai3, ka12, ka11, ka10, ka9, kai2, ka8, ka7, ka6, ka5, kai1, ka4, ka3, ka2, ka1, h0, h1, h3, h7]
  rfl

/-! ## The words -/
section
variable (i : S4x2304x8192.Idx)
/-- Round 1 of the word generator. -/
theorem wa1 : ((val_main_v186 (F := Ideal) i, val_main_v192 (F := Ideal) i) : BitVec 32 × BitVec 32) = rnd 13 (val_main_v183 (F := Ideal) i, val_main_v185 (F := Ideal) i) :=
  Prod.ext rfl (BitVec.xor_comm _ _)
/-- Round 2 of the word generator. -/
theorem wa2 : ((val_main_v193 (F := Ideal) i, val_main_v199 (F := Ideal) i) : BitVec 32 × BitVec 32) = rnd 15 (val_main_v186 (F := Ideal) i, val_main_v192 (F := Ideal) i) :=
  Prod.ext rfl (BitVec.xor_comm _ _)
/-- Round 3 of the word generator. -/
theorem wa3 : ((val_main_v200 (F := Ideal) i, val_main_v206 (F := Ideal) i) : BitVec 32 × BitVec 32) = rnd 26 (val_main_v193 (F := Ideal) i, val_main_v199 (F := Ideal) i) :=
  Prod.ext rfl (BitVec.xor_comm _ _)
/-- Round 4 of the word generator. -/
theorem wa4 : ((val_main_v207 (F := Ideal) i, val_main_v213 (F := Ideal) i) : BitVec 32 × BitVec 32) = rnd 6 (val_main_v200 (F := Ideal) i, val_main_v206 (F := Ideal) i) :=
  Prod.ext rfl (BitVec.xor_comm _ _)
/-- Injection 1 of the word generator. -/
theorem wai1 : ((val_main_v215 (F := Ideal) i, val_main_v219 (F := Ideal) i) : BitVec 32 × BitVec 32) = inj (val_main_v214 (F := Ideal) i) (val_main_v216 (F := Ideal) i) 1#32 (val_main_v207 (F := Ideal) i, val_main_v213 (F := Ideal) i) :=
  Prod.ext rfl (BitVec.add_assoc _ _ _)
/-- Round 5 of the word generator. -/
theorem wa5 : ((val_main_v220 (F := Ideal) i, val_main_v226 (F := Ideal) i) : BitVec 32 × BitVec 32) = rnd 17 (val_main_v215 (F := Ideal) i, val_main_v219 (F := Ideal) i) :=
  Prod.ext rfl (BitVec.xor_comm _ _)
/-- Round 6 of the word generator. -/
theorem wa6 : ((val_main_v227 (F := Ideal) i, val_main_v233 (F := Ideal) i) : BitVec 32 × BitVec 32) = rnd 29 (val_main_v220 (F := Ideal) i, val_main_v226 (F := Ideal) i) :=
  Prod.ext rfl (BitVec.xor_comm _ _)
/-- Round 7 of the word generator. -/
theorem wa7 : ((val_main_v234 (F := Ideal) i, val_main_v240 (F := Ideal) i) : BitVec 32 × BitVec 32) = rnd 16 (val_main_v227 (F := Ideal) i, val_main_v233 (F := Ideal) i) :=
  Prod.ext rfl (BitVec.xor_comm _ _)
/-- Round 8 of the word generator. -/
theorem wa8 : ((val_main_v241 (F := Ideal) i, val_main_v247 (F := Ideal) i) : BitVec 32 × BitVec 32) = rnd 24 (val_main_v234 (F := Ideal) i, val_main_v240 (F := Ideal) i) :=
  Prod.ext rfl (BitVec.xor_comm _ _)
/-- Injection 2 of the word generator. -/
theorem wai2 : ((val_main_v249 (F := Ideal) i, val_main_v253 (F := Ideal) i) : BitVec 32 × BitVec 32) = inj (val_main_v248 (F := Ideal) i) (val_main_v250 (F := Ideal) i) 2#32 (val_main_v241 (F := Ideal) i, val_main_v247 (F := Ideal) i) :=
  Prod.ext rfl (BitVec.add_assoc _ _ _)
/-- Round 9 of the word generator. -/
theorem wa9 : ((val_main_v254 (F := Ideal) i, val_main_v260 (F := Ideal) i) : BitVec 32 × BitVec 32) = rnd 13 (val_main_v249 (F := Ideal) i, val_main_v253 (F := Ideal) i) :=
  Prod.ext rfl (BitVec.xor_comm _ _)
/-- Round 10 of the word generator. -/
theorem wa10 : ((val_main_v261 (F := Ideal) i, val_main_v267 (F := Ideal) i) : BitVec 32 × BitVec 32) = rnd 15 (val_main_v254 (F := Ideal) i, val_main_v260 (F := Ideal) i) :=
  Prod.ext rfl (BitVec.xor_comm _ _)
/-- Round 11 of the word generator. -/
theorem wa11 : ((val_main_v268 (F := Ideal) i, val_main_v274 (F := Ideal) i) : BitVec 32 × BitVec 32) = rnd 26 (val_main_v261 (F := Ideal) i, val_main_v267 (F := Ideal) i) :=
  Prod.ext rfl (BitVec.xor_comm _ _)
/-- Round 12 of the word generator. -/
theorem wa12 : ((val_main_v275 (F := Ideal) i, val_main_v281 (F := Ideal) i) : BitVec 32 × BitVec 32) = rnd 6 (val_main_v268 (F := Ideal) i, val_main_v274 (F := Ideal) i) :=
  Prod.ext rfl (BitVec.xor_comm _ _)
/-- Injection 3 of the word generator. -/
theorem wai3 : ((val_main_v283 (F := Ideal) i, val_main_v287 (F := Ideal) i) : BitVec 32 × BitVec 32) = inj (val_main_v282 (F := Ideal) i) (val_main_v284 (F := Ideal) i) 3#32 (val_main_v275 (F := Ideal) i, val_main_v281 (F := Ideal) i) :=
  Prod.ext rfl (BitVec.add_assoc _ _ _)
/-- Round 13 of the word generator. -/
theorem wa13 : ((val_main_v288 (F := Ideal) i, val_main_v294 (F := Ideal) i) : BitVec 32 × BitVec 32) = rnd 17 (val_main_v283 (F := Ideal) i, val_main_v287 (F := Ideal) i) :=
  Prod.ext rfl (BitVec.xor_comm _ _)
/-- Round 14 of the word generator. -/
theorem wa14 : ((val_main_v295 (F := Ideal) i, val_main_v301 (F := Ideal) i) : BitVec 32 × BitVec 32) = rnd 29 (val_main_v288 (F := Ideal) i, val_main_v294 (F := Ideal) i) :=
  Prod.ext rfl (BitVec.xor_comm _ _)
/-- Round 15 of the word generator. -/
theorem wa15 : ((val_main_v302 (F := Ideal) i, val_main_v308 (F := Ideal) i) : BitVec 32 × BitVec 32) = rnd 16 (val_main_v295 (F := Ideal) i, val_main_v301 (F := Ideal) i) :=
  Prod.ext rfl (BitVec.xor_comm _ _)
/-- Round 16 of the word generator. -/
theorem wa16 : ((val_main_v309 (F := Ideal) i, val_main_v315 (F := Ideal) i) : BitVec 32 × BitVec 32) = rnd 24 (val_main_v302 (F := Ideal) i, val_main_v308 (F := Ideal) i) :=
  Prod.ext rfl (BitVec.xor_comm _ _)
/-- Injection 4 of the word generator. -/
theorem wai4 : ((val_main_v317 (F := Ideal) i, val_main_v321 (F := Ideal) i) : BitVec 32 × BitVec 32) = inj (val_main_v316 (F := Ideal) i) (val_main_v318 (F := Ideal) i) 4#32 (val_main_v309 (F := Ideal) i, val_main_v315 (F := Ideal) i) :=
  Prod.ext rfl (BitVec.add_assoc _ _ _)
/-- Round 17 of the word generator. -/
theorem wa17 : ((val_main_v322 (F := Ideal) i, val_main_v328 (F := Ideal) i) : BitVec 32 × BitVec 32) = rnd 13 (val_main_v317 (F := Ideal) i, val_main_v321 (F := Ideal) i) :=
  Prod.ext rfl (BitVec.xor_comm _ _)
/-- Round 18 of the word generator. -/
theorem wa18 : ((val_main_v329 (F := Ideal) i, val_main_v335 (F := Ideal) i) : BitVec 32 × BitVec 32) = rnd 15 (val_main_v322 (F := Ideal) i, val_main_v328 (F := Ideal) i) :=
  Prod.ext rfl (BitVec.xor_comm _ _)
/-- Round 19 of the word generator. -/
theorem wa19 : ((val_main_v336 (F := Ideal) i, val_main_v342 (F := Ideal) i) : BitVec 32 × BitVec 32) = rnd 26 (val_main_v329 (F := Ideal) i, val_main_v335 (F := Ideal) i) :=
  Prod.ext rfl (BitVec.xor_comm _ _)
/-- Round 20 of the word generator. -/
theorem wa20 : ((val_main_v343 (F := Ideal) i, val_main_v349 (F := Ideal) i) : BitVec 32 × BitVec 32) = rnd 6 (val_main_v336 (F := Ideal) i, val_main_v342 (F := Ideal) i) :=
  Prod.ext rfl (BitVec.xor_comm _ _)
/-- Injection 5 of the word generator. -/
theorem wai5 : ((val_main_v351 (F := Ideal) i, val_main_v355 (F := Ideal) i) : BitVec 32 × BitVec 32) = inj (val_main_v350 (F := Ideal) i) (val_main_v352 (F := Ideal) i) 5#32 (val_main_v343 (F := Ideal) i, val_main_v349 (F := Ideal) i) :=
  Prod.ext rfl (BitVec.add_assoc _ _ _)
end

section
variable (s : Fin 4) (r : Fin 2304) (c : Fin 8192)
/-- The broadcast key word `val_main_v182`, read at an index. -/
theorem b182 : val_main_v182 (F := Ideal) (ix3 s r c) = val_main_v166 (F := Ideal) (ix1 s) := by
  simp only [val_main_v182, val_main_v176, pointwise]
  rfl
/-- The broadcast key word `val_main_v250`, read at an index. -/
theorem b250 : val_main_v250 (F := Ideal) (ix3 s r c) = val_main_v166 (F := Ideal) (ix1 s) := by
  simp only [val_main_v250, val_main_v176, pointwise]
  rfl
/-- The broadcast key word `val_main_v352`, read at an index. -/
theorem b352 : val_main_v352 (F := Ideal) (ix3 s r c) = val_main_v166 (F := Ideal) (ix1 s) := by
  simp only [val_main_v352, val_main_v176, pointwise]
  rfl
/-- The broadcast key word `val_main_v184`, read at an index. -/
theorem b184 : val_main_v184 (F := Ideal) (ix3 s r c) = val_main_v169 (F := Ideal) (ix1 s) := by
  simp only [val_main_v184, val_main_v177, pointwise]
  rfl
/-- The broadcast key word `val_main_v214`, read at an index. -/
theorem b214 : val_main_v214 (F := Ideal) (ix3 s r c) = val_main_v169 (F := Ideal) (ix1 s) := by
  simp only [val_main_v214, val_main_v177, pointwise]
  rfl
/-- The broadcast key word `val_main_v284`, read at an index. -/
theorem b284 : val_main_v284 (F := Ideal) (ix3 s r c) = val_main_v169 (F := Ideal) (ix1 s) := by
  simp only [val_main_v284, val_main_v177, pointwise]
  rfl
/-- The broadcast key word `val_main_v316`, read at an index. -/
theorem b316 : val_main_v316 (F := Ideal) (ix3 s r c) = val_main_v169 (F := Ideal) (ix1 s) := by
  simp only [val_main_v316, val_main_v177, pointwise]
  rfl
/-- The broadcast key word `val_main_v216`, read at an index. -/
theorem b216 : val_main_v216 (F := Ideal) (ix3 s r c) = key3 (val_main_v166 (F := Ideal) (ix1 s)) (val_main_v169 (F := Ideal) (ix1 s)) := by
  simp only [val_main_v216, val_main_v181, val_main_v179, val_main_v180, val_main_v176, val_main_v177, pointwise]
  rfl
/-- The broadcast key word `val_main_v248`, read at an index. -/
theorem b248 : val_main_v248 (F := Ideal) (ix3 s r c) = key3 (val_main_v166 (F := Ideal) (ix1 s)) (val_main_v169 (F := Ideal) (ix1 s)) := by
  simp only [val_main_v248, val_main_v181, val_main_v179, val_main_v180, val_main_v176, val_main_v177, pointwise]
  rfl
/-- The broadcast key word `val_main_v318`, read at an index. -/
theorem b318 : val_main_v318 (F := Ideal) (ix3 s r c) = key3 (val_main_v166 (F := Ideal) (ix1 s)) (val_main_v169 (F := Ideal) (ix1 s)) := by
  simp only [val_main_v318, val_main_v181, val_main_v179, val_main_v180, val_main_v176, val_main_v177, pointwise]
  rfl
/-- The broadcast key word `val_main_v350`, read at an index. -/
theorem b350 : val_main_v350 (F := Ideal) (ix3 s r c) = key3 (val_main_v166 (F := Ideal) (ix1 s)) (val_main_v169 (F := Ideal) (ix1 s)) := by
  simp only [val_main_v350, val_main_v181, val_main_v179, val_main_v180, val_main_v176, val_main_v177, pointwise]
  rfl
/-- The broadcast key word `val_main_v282`, read at an index. -/
theorem b282 : val_main_v282 (F := Ideal) (ix3 s r c) = val_main_v166 (F := Ideal) (ix1 s) := by
  simp only [val_main_v282, val_main_v176, pointwise]
  rfl

/-- The counter of an entry is its flat position. -/
theorem ctr_apply : val_main_v175 (F := Ideal) (ix3 s r c) = BitVec.ofNat 32 (r.val * 8192 + c.val) := by
  simp only [val_main_v175, val_main_v173, val_main_v174, val_main_v172, val_main_v171, val_main_v170, pointwise]
  show BitVec.ofNat 32 (r.val * 8192 + c.val) + 0#32 = _
  rw [BitVec.add_zero]
/-- The pair the word generator starts from. -/
theorem start_apply (k1 k2 : BitVec 32) (h1 : val_main_v166 (F := Ideal) (ix1 s) = k1) (h2 : val_main_v169 (F := Ideal) (ix1 s) = k2) :
    ((val_main_v183 (F := Ideal) (ix3 s r c), val_main_v185 (F := Ideal) (ix3 s r c)) : BitVec 32 × BitVec 32) = inj k1 k2 0#32 (0#32, BitVec.ofNat 32 (r.val * 8192 + c.val)) := by
  have e1 : val_main_v183 (F := Ideal) (ix3 s r c) = 0#32 + val_main_v182 (F := Ideal) (ix3 s r c) := rfl
  have e2 : val_main_v185 (F := Ideal) (ix3 s r c) = val_main_v175 (F := Ideal) (ix3 s r c) + val_main_v184 (F := Ideal) (ix3 s r c) := rfl
  rw [e1, e2, b182, b184, h1, h2, ctr_apply]
  unfold inj
  rw [BitVec.add_zero]
/-- The pair the word generator ends with. -/
theorem gen_apply (k1 k2 : BitVec 32) (h1 : val_main_v166 (F := Ideal) (ix1 s) = k1) (h2 : val_main_v169 (F := Ideal) (ix1 s) = k2) :
    ((val_main_v351 (F := Ideal) (ix3 s r c), val_main_v355 (F := Ideal) (ix3 s r c)) : BitVec 32 × BitVec 32) = gen k1 k2 (0#32, BitVec.ofNat 32 (r.val * 8192 + c.val)) := by
  rw [wai5, wa20, wa19, wa18, wa17, wai4, wa16, wa15, wa14, wa13, wai3, wa12, wa11, wa10, wa9, wai2, wa8, wa7, wa6, wa5, wai1, wa4, wa3, wa2, wa1, start_apply s r c k1 k2 h1 h2, b214, b216, b248, b250, b282, b284, b316, b318, b350, b352, h1, h2]
  generalize BitVec.ofNat 32 (r.val * 8192 + c.val) = x
  rfl
/-- The random word of an entry. -/
theorem word_apply : val_main_v356 (F := Ideal) (ix3 s r c) = word (keyOf s.val).1 (keyOf s.val).2 (BitVec.ofNat 32 (r.val * 8192 + c.val)) := by
  have hk := keys_apply s
  have e := gen_apply s r c (keyOf s.val).1 (keyOf s.val).2 (congrArg Prod.fst hk) (congrArg Prod.snd hk)
  have h : val_main_v356 (F := Ideal) (ix3 s r c) = IntOp.xori (val_main_v351 (F := Ideal) (ix3 s r c)) (val_main_v355 (F := Ideal) (ix3 s r c)) := val_main_v356_apply _
  have e1 := congrArg Prod.fst e
  have e2 := congrArg Prod.snd e
  dsimp only at e1 e2
  rw [h, e1, e2]
  generalize (keyOf s.val) = k
  generalize BitVec.ofNat 32 (r.val * 8192 + c.val) = x
  rfl
/-- The noise as an array, of the words. -/
def noise (w : IVec S4x2304x8192 32) : FVec Ideal S4x2304x8192 .f32 :=
  Host.negf (Host.log (Host.negf (Host.log (maximumf (val_main_v364 (F := Ideal)) (subf (bitcastToFloat (F := Ideal) .f32 (ori (Host.shrui w (val_main_v357 (F := Ideal))) (val_main_v359 (F := Ideal)))) (val_main_v362 (F := Ideal)))))))
/-- The noise as a function of the random words. -/
theorem noise_eq : val_main_v369 (F := Ideal) = noise (val_main_v356 (F := Ideal)) := by
  unfold noise val_main_v369 val_main_v368 val_main_v367 val_main_v366 val_main_v365 val_main_v363 val_main_v361 val_main_v360 val_main_v358
  with_reducible rfl
/-- The noise of an entry is its negated perturbation, negated. -/
theorem noise_apply (w : IVec S4x2304x8192 32) (i : S4x2304x8192.Idx) : noise w i = -pert (w i) := by
  have hs : ∀ w : BitVec 32, IntOp.ori (IntOp.shrui ArithUnit.host w 9#32) 1065353216#32 = (w >>> 9 ||| 1065353216#32) := fun _ => rfl
  simp only [noise, val_main_v364, val_main_v362, val_main_v359, val_main_v357, val_main_cst_97, val_main_cst_98, val_main_c_95, val_main_c_96, pointwise, hs]
  unfold pert unif
  rw [Cert.Rvq.ofBits_one, max_comm]
/-- The reference's added noise is minus the logarithm the generator's perturbation takes. -/
theorem gumbel_apply : val_main_v369 (F := Ideal) (ix3 s r c) = -pertAt s.val r.val c.val := by
  rw [noise_eq, noise_apply, word_apply, pertAt]
end

end Cert.ReferenceIdeal.Val

end
-- ==== Proof.RVal.lean ====
/- The reference's step, as functions of arrays, read at an index. -/
module

public import proofs.«01_k».proof.Proof.RRng
public import Idealize.ShloMosaic.Lib.Pointwise

@[expose] public section

set_option maxRecDepth 16384

noncomputable section

namespace Cert.ReferenceIdeal.Val

open Idealize.ShloMosaic Idealize.ShloMosaic.TcCoe Idealize.SL.Sem Idealize.ShloMosaic.StableHlo
open Idealize.ShloMosaic.Pipeline
open Cert.ReferenceIdeal Cert.ReferenceIdeal.Gen Cert.ReferenceIdeal.Read Cert.Rvq

/-- The type of the reference's input. -/
abbrev X0 := FVec Ideal S4x64x24x24 .f32
/-- The type of the reference's codebook. -/
abbrev X1 := FVec Ideal S8192x64 .f32
/-- The zero a sum starts from. -/
abbrev z : FVec Ideal S_ .f32 := constant (F := Ideal) S_ .f32 0x00000000#32
/-- The rows of a residual. -/
def rFlat (f : X0) : FVec Ideal S2304x64 .f32 :=
  shapeCast _ (transpose S4x24x24x64 [0, 2, 3, 1] f transposes_S4x64x24x24_S4x24x24x64_0_2_3_1) shapeCasts_S4x24x24x64_S2304x64
/-- The distances. -/
def rDist (fl : FVec Ideal S2304x64 .f32) (x1 : X1) : FVec Ideal S2304x8192 .f32 :=
  subf (addf (broadcastInDim S2304x8192 ![0, 1] bcast_S2304x1_S2304x8192_0_1 (broadcastInDim S2304x1 ![0] bcast_S2304_S2304x1_0 (Host.reduceAdd (mulf fl fl) z reducesTo_S2304x64_S2304_d1 h_S_)))
      (broadcastInDim S2304x8192 ![0, 1] bcast_S1x8192_S2304x8192_0_1 (broadcastInDim S1x8192 ![1] bcast_S8192_S1x8192_1 (Host.reduceAdd (mulf x1 x1) z reducesTo_S8192x64_S8192_d1 h_S_))))
    (mulf (broadcastInDim S2304x8192 ![] bcast_S_S2304x8192 (constant (F := Ideal) S_ .f32 0x40000000#32))
      (Host.dotGeneral dot_S2304x64_S64x8192_S2304x8192_1_0_0_1_n_n none fl (transpose S64x8192 [1, 0] x1 transposes_S8192x64_S64x8192_1_0)))
/-- The logits. -/
def rLogit (d : FVec Ideal S2304x8192 .f32) : FVec Ideal S2304x8192 .f32 :=
  Host.divf (Host.negf d) (broadcastInDim S2304x8192 ![] bcast_S_S2304x8192 (constant (F := Ideal) S_ .f32 0x3F800000#32))
/-- The exponentials of the shifted logits. -/
def rExp (b : FVec Ideal S_ .f32) (l : FVec Ideal S2304x8192 .f32) : FVec Ideal S2304x8192 .f32 :=
  Host.exp (subf l (broadcastInDim S2304x8192 ![0, 1] bcast_S2304x1_S2304x8192_0_1 (broadcastInDim S2304x1 ![0] bcast_S2304_S2304x1_0
    (maximumf (broadcastInDim S2304 ![] bcast_S_S2304 b)
      (Host.reduce FloatOps.maximumf l b reducesTo_S2304x8192_S2304_d1 h_S_)))))
/-- The soft targets. -/
def rProbs (e : FVec Ideal S2304x8192 .f32) : FVec Ideal S2304x8192 .f32 :=
  Host.divf e (broadcastInDim S2304x8192 ![0, 1] bcast_S2304x1_S2304x8192_0_1 (broadcastInDim S2304x1 ![0] bcast_S2304_S2304x1_0 (Host.reduceAdd e z reducesTo_S2304x8192_S2304_d1 h_S_)))
/-- The chosen codewords' numbers. -/
def rIdx (s : FVec Ideal S2304x8192 .f32) : IVec S2304 32 :=
  shapeCast _ (Host.topK S2304x1 1 (FloatOps.cmpfTotal .gt) s sliceFits_S2304x8192_S2304x1).2 shapeCasts_S2304x1_S2304
/-- The chosen codewords. -/
def rCode (i : IVec S2304 32) (x1 : X1) : FVec Ideal S2304x64 .f32 :=
  Host.dotGeneral dot_S2304x8192_S8192x64_S2304x64_1_0_0_1_n_n none
    (uitofp (F := Ideal) .f32 (cmpi .eq (broadcastInDim S2304x8192 ![0, 1] bcast_S2304x1_S2304x8192_0_1 (broadcastInDim S2304x1 ![0] bcast_S2304_S2304x1_0 i))
      (broadcastInDim S2304x8192 ![0, 1] bcast_S1x8192_S2304x8192_0_1 (iotaInDim S1x8192 32 1)))) x1
/-- Rows as a residual. -/
def rBack (q : FVec Ideal S2304x64 .f32) : X0 :=
  transpose S4x64x24x24 [0, 3, 1, 2] (shapeCast S4x24x24x64 q shapeCasts_S2304x64_S4x24x24x64) transposes_S4x24x24x64_S4x64x24x24_0_3_1_2
/-- A residual's mean squared distance from chosen codewords. -/
def rMse (q f : X0) : FVec Ideal S_ .f32 :=
  Host.divf (Host.reduceAdd (mulf (subf q (transpose S4x64x24x24 [0, 3, 1, 2] (transpose S4x24x24x64 [0, 2, 3, 1] f transposes_S4x64x24x24_S4x24x24x64_0_2_3_1) transposes_S4x24x24x64_S4x64x24x24_0_3_1_2))
    (subf q (transpose S4x64x24x24 [0, 3, 1, 2] (transpose S4x24x24x64 [0, 2, 3, 1] f transposes_S4x64x24x24_S4x24x24x64_0_2_3_1) transposes_S4x24x24x64_S4x64x24x24_0_3_1_2))) z
    reducesTo_S4x64x24x24_S_d0_1_2_3 h_S_) (constant (F := Ideal) S_ .f32 0x48100000#32)

/-! ## Read at an index -/

/-- The reference's Flat function, read at an index. -/
theorem rFlat_apply (f : X0) (r : Fin 2304) (k : Fin 64) :
    rFlat f (ix2 r k) = f (ix4 ⟨r.val / 576, by omega⟩ k ⟨r.val / 24 % 24, by omega⟩ ⟨r.val % 24, by omega⟩) := by
  simp only [rFlat, pointwise]
/-- The reference's Dist function, read at an index. -/
theorem rDist_apply (fl : FVec Ideal S2304x64 .f32) (x1 : X1) (r : Fin 2304) (c : Fin 8192) :
    rDist fl x1 (ix2 r c) = dist (fun c k => x1 (ix2 c k)) (fun k => fl (ix2 r k)) c := by
  simp only [rDist, pointwise, Ideal.hostReduceAdd_def, show ¬ (2304 : Nat) = 1 by decide, show ¬ (8192 : Nat) = 1 by decide, ↓reduceDIte, zero_add]
  rfl
/-- The reference's Logit function, read at an index. -/
theorem rLogit_apply (d : FVec Ideal S2304x8192 .f32) (r : Fin 2304) (c : Fin 8192) : rLogit d (ix2 r c) = -d (ix2 r c) := by
  simp only [rLogit, pointwise]
  rw [div_one]
/-- The reference's Exp function, read at an index. -/
theorem rExp_apply (b : FVec Ideal S_ .f32) (hb : ∀ i, b i = ⊥) (l : FVec Ideal S2304x8192 .f32) (r : Fin 2304) (c : Fin 8192) :
    rExp b l (ix2 r c) = Ideal.exp (l (ix2 r c) - Finset.univ.sup fun c : Fin 8192 => l (ix2 r c)) := by
  simp only [rExp, pointwise, hb, show ¬ (2304 : Nat) = 1 by decide, ↓reduceDIte]
  rw [fold_max, max_eq_right bot_le]
/-- The reference's Probs function, read at an index. -/
theorem rProbs_apply (e : FVec Ideal S2304x8192 .f32) (r : Fin 2304) (c : Fin 8192) :
    rProbs e (ix2 r c) = Ideal.div (e (ix2 r c)) (∑ c : Fin 8192, e (ix2 r c)) := by
  simp only [rProbs, pointwise, Ideal.hostReduceAdd_def, show ¬ (2304 : Nat) = 1 by decide, ↓reduceDIte, zero_add]
/-- A slice along the columns, read at an index. -/
theorem along_ix2 (r : Fin 2304) (a k : Fin 8192) : (ix2 r a : S2304x8192.Idx).along 1 k = ix2 r k := by
  funext d
  match d with
  | ⟨0, _⟩ => rfl
  | ⟨1, _⟩ => rfl
/-- A row of the sorted pairs is the sorted row. -/
theorem sort2_apply {α β : Type} (gt : α → α → BitVec 1) (x : S2304x8192.Idx → α) (y : S2304x8192.Idx → β) (r : Fin 2304) :
    (Host.sort2 S2304x8192 1 (fun l r => gt l.1 r.1) x y).2 (ix2 r 0)
      = y (ix2 r (sortedFrom (fun a b : Fin 8192 => gt (x (ix2 r a)) (x (ix2 r b)) == 1#1) 0)) := by
  have hr : (1 : Nat) < S2304x8192.rank := by decide
  have e : (fun k k' : Fin 8192 => gt (x ((ix2 r 0 : S2304x8192.Idx).along 1 k)) (x ((ix2 r 0 : S2304x8192.Idx).along 1 k')) == 1#1)
      = fun a b => gt (x (ix2 r a)) (x (ix2 r b)) == 1#1 := by
    simp only [along_ix2]
  rw [← e]
  unfold Host.sort2
  rw [dif_pos hr]
  exact congrArg y (along_ix2 r 0 _)
/-- The number of the greatest entry of a row. -/
theorem topK_apply (s : FVec Ideal S2304x8192 .f32) (r : Fin 2304) :
    (Host.topK S2304x1 1 (FloatOps.cmpfTotal .gt) s sliceFits_S2304x8192_S2304x1).2 (ix2 r 0)
      = BitVec.ofNat 32 (best fun c => s (ix2 r c)).val := by
  have hb : ∀ a b : Fin 8192, (FloatOps.cmpfTotal (F := Ideal) (φ := .f32) .gt (s (ix2 r a)) (s (ix2 r b)) == 1#1) = true ↔ s (ix2 r b) < s (ix2 r a) := by
    intro a b
    show (BitVec.ofBool (decide (s (ix2 r b) < s (ix2 r a))) == 1#1) = true ↔ _
    by_cases h : s (ix2 r b) < s (ix2 r a) <;> simp [h]
  rw [← sortedFrom_zero (fun c => s (ix2 r c)) _ hb]
  have h1 : ∀ v : IVec S2304x8192 32, extractStridedSlice S2304x1 (fun _ => 0) v sliceFits_S2304x8192_S2304x1 (ix2 r 0) = v (ix2 r 0) := by
    intro v
    simp only [pointwise]
    simp only [Nat.zero_add, Fin.eta]
  unfold Host.topK
  dsimp only
  refine (h1 _).trans ?_
  refine (sort2_apply _ _ _ r).trans ?_
  generalize sortedFrom (n := 8192) _ 0 = X
  rfl
/-- The reference's Idx function, read at an index. -/
theorem rIdx_apply (s : FVec Ideal S2304x8192 .f32) (r : Fin 2304) : rIdx s (ix1 r) = BitVec.ofNat 32 (best fun c => s (ix2 r c)).val := by
  simp only [rIdx, pointwise]
  exact topK_apply s r
/-- A truth value as a number. -/
theorem uitofp_eq (c j : Fin 8192) :
    FloatOps.uitofp (F := Ideal) FTy.f32 (IntOp.cmpi CmpIPredicate.eq (BitVec.ofNat 32 j.val) (BitVec.ofNat 32 c.val)) = if c = j then (1 : EReal) else 0 := by
  have hc := c.isLt
  have hj := j.isLt
  by_cases h : c = j
  · subst h
    rw [if_pos rfl]
    have : IntOp.cmpi CmpIPredicate.eq (BitVec.ofNat 32 c.val) (BitVec.ofNat 32 c.val) = 1#1 := by simp [IntOp.cmpi]
    rw [this]
    show (((1 : Nat) : ℝ) : EReal) = 1
    simp
  · rw [if_neg h]
    have hne : ¬ BitVec.ofNat 32 j.val = BitVec.ofNat 32 c.val := fun e => h (Fin.ext (by
      have := congrArg BitVec.toNat e
      rw [BitVec.toNat_ofNat, BitVec.toNat_ofNat, Nat.mod_eq_of_lt (by omega), Nat.mod_eq_of_lt (by omega)] at this
      exact this.symm))
    have : IntOp.cmpi CmpIPredicate.eq (BitVec.ofNat 32 j.val) (BitVec.ofNat 32 c.val) = 0#1 := by
      show BitVec.ofBool (BitVec.ofNat 32 j.val == BitVec.ofNat 32 c.val) = 0#1
      rw [beq_false_of_ne hne]
      rfl
    rw [this]
    show (((0 : Nat) : ℝ) : EReal) = 0
    simp
/-- The reference's Code function, read at an index. -/
theorem rCode_apply (i : IVec S2304 32) (x1 : X1) (r : Fin 2304) (k : Fin 64) (j : Fin 8192) (h : i (ix1 r) = BitVec.ofNat 32 j.val) :
    rCode i x1 (ix2 r k) = x1 (ix2 j k) := by
  rw [← oneHot_sum (fun c k => x1 (ix2 c k))]
  simp only [rCode, pointwise, show ¬ (2304 : Nat) = 1 by decide, show ¬ (8192 : Nat) = 1 by decide, ↓reduceDIte, zero_add, h, uitofp_eq]
/-- The reference's Back function, read at an index. -/
theorem rBack_apply (q : FVec Ideal S2304x64 .f32) (b : Fin 4) (k : Fin 64) (h w : Fin 24) :
    rBack q (ix4 b k h w) = q (ix2 ⟨b.val * 576 + h.val * 24 + w.val, by omega⟩ k) := by
  simp only [rBack, pointwise]
/-- Moving the channels last and back changes nothing. -/
theorem rTwice (f : X0) : transpose S4x64x24x24 [0, 3, 1, 2] (transpose S4x24x24x64 [0, 2, 3, 1] f transposes_S4x64x24x24_S4x24x24x64_0_2_3_1) transposes_S4x24x24x64_S4x64x24x24_0_3_1_2 = f := by
  funext i
  obtain ⟨b, k, h, w, rfl⟩ : ∃ (b : Fin 4) (k : Fin 64) (h w : Fin 24), i = ix4 b k h w := ⟨i 0, i 1, i 2, i 3, eq_ix4 i⟩
  simp only [pointwise]
/-- The reference's Mse function, read at an index. -/
theorem rMse_apply (q f : X0) (i : S_.Idx) :
    rMse q f i = Ideal.div (∑ b : Fin 4, ∑ k : Fin 64, ∑ h : Fin 24, ∑ w : Fin 24, (q (ix4 b k h w) - f (ix4 b k h w)) * (q (ix4 b k h w) - f (ix4 b k h w)))
      (Ideal.ofBits .f32 0x48100000#32) := by
  unfold rMse
  rw [rTwice]
  simp only [pointwise, Ideal.hostReduceAdd_def]
  rw [Ideal.hostReduceAdd_total _ (fun b => b.elim0), zero_add, sum_idx4]
  simp only [pointwise]

end Cert.ReferenceIdeal.Val

end
-- ==== Proof.RStage.lean ====
/- The reference's values are the step functions applied one after another. -/
module

public import proofs.«01_k».proof.Proof.RVal
public import Idealize.ShloMosaic.Lib.Pointwise

@[expose] public section

set_option maxRecDepth 16384

noncomputable section

namespace Cert.ReferenceIdeal.Val

open Idealize.ShloMosaic Idealize.ShloMosaic.TcCoe Idealize.SL.Sem Idealize.ShloMosaic.StableHlo
open Idealize.ShloMosaic.Pipeline
open Cert.ReferenceIdeal Cert.ReferenceIdeal.Gen Cert.ReferenceIdeal.Read Cert.Rvq

/-! ## The steps are these functions -/

/-- Step 0's stage `flat`, as a function of the arrays. -/
theorem flat0 (x0 : X0) (x1 : X1) : val_main_v371 (F := Ideal) x0 = rFlat x0 := by
  unfold val_main_v371 val_main_v370 rFlat
  first | with_reducible rfl | rfl
/-- Step 0's stage `dist`, as a function of the arrays. -/
theorem dist0 (x0 : X0) (x1 : X1) : val_main_v385 (F := Ideal) x0 x1 = rDist (val_main_v371 (F := Ideal) x0) x1 := by
  unfold val_main_v385 val_main_v380 val_main_v378 val_main_v374 val_main_v373 val_main_v372 val_main_cst_99 val_main_v379 val_main_v377 val_main_v376 val_main_v375 val_main_cst_100 val_main_v384 val_main_v383 val_main_cst_101 val_main_v382 val_main_v381 rDist
  first | with_reducible rfl | rfl
/-- Step 0's stage `logit`, as a function of the arrays. -/
theorem logit0 (x0 : X0) (x1 : X1) : val_main_v388 (F := Ideal) x0 x1 = rLogit (val_main_v385 (F := Ideal) x0 x1) := by
  unfold val_main_v388 val_main_v386 val_main_v387 val_main_cst_102 rLogit
  first | with_reducible rfl | rfl
/-- Step 0's stage `exp`, as a function of the arrays. -/
theorem exp0 (x0 : X0) (x1 : X1) : val_main_v395 (F := Ideal) x0 x1 = rExp (constant (F := Ideal) S_ .f32 0xFF800000#32) (val_main_v388 (F := Ideal) x0 x1) := by
  unfold val_main_v395 val_main_v394 val_main_v393 val_main_v392 val_main_v391 val_main_v390 val_main_cst_104 val_main_v389 val_main_cst_103 rExp
  first | with_reducible rfl | rfl
/-- Step 0's stage `probs`, as a function of the arrays. -/
theorem probs0 (x0 : X0) (x1 : X1) : val_main_v399 (F := Ideal) x0 x1 = rProbs (val_main_v395 (F := Ideal) x0 x1) := by
  unfold val_main_v399 val_main_v398 val_main_v397 val_main_v396 val_main_cst_105 rProbs
  first | with_reducible rfl | rfl
/-- Step 0's stage `score`, as a function of the arrays. -/
theorem score0 (x0 : X0) (x1 : X1) : val_main_v403 (F := Ideal) x0 x1 = addf (F := Ideal) (s := S2304x8192) (φ := .f32) (val_main_v402 (F := Ideal)) (val_main_v388 (F := Ideal) x0 x1) := by
  unfold val_main_v403
  first | with_reducible rfl | rfl
/-- Step 0's stage `idx`, as a function of the arrays. -/
theorem idx0 (x0 : X0) (x1 : X1) : val_main_v404 (F := Ideal) x0 x1 = rIdx (val_main_v403 (F := Ideal) x0 x1) := by
  unfold val_main_v404 val_main_indices rIdx
  first | with_reducible rfl | rfl
/-- Step 0's stage `code`, as a function of the arrays. -/
theorem code0 (x0 : X0) (x1 : X1) : val_main_v406 (F := Ideal) x0 x1 = rCode (val_main_v404 (F := Ideal) x0 x1) x1 := by
  unfold val_main_v406 val_main_v405 val_main_call0_v4 val_main_call0_v2 val_main_call0_v0 val_main_call0_v3 val_main_call0_v1 rCode
  first | with_reducible rfl | rfl
/-- Step 0's stage `back`, as a function of the arrays. -/
theorem back0 (x0 : X0) (x1 : X1) : val_main_v408 (F := Ideal) x0 x1 = rBack (val_main_v406 (F := Ideal) x0 x1) := by
  unfold val_main_v408 val_main_v407 rBack
  first | with_reducible rfl | rfl
/-- Step 0's stage `next`, as a function of the arrays. -/
theorem next0 (x0 : X0) (x1 : X1) : val_main_v410 (F := Ideal) x0 x1 = subf (F := Ideal) (s := S4x64x24x24) (φ := .f32) x0 (val_main_v408 (F := Ideal) x0 x1) := by
  unfold val_main_v410
  first | with_reducible rfl | rfl
/-- Step 0's stage `sum`, as a function of the arrays. -/
theorem sum0 (x0 : X0) (x1 : X1) : val_main_v409 (F := Ideal) x0 x1 = addf (F := Ideal) (s := S4x64x24x24) (φ := .f32) (val_main_v0 (F := Ideal)) (val_main_v408 (F := Ideal) x0 x1) := by
  unfold val_main_v409
  first | with_reducible rfl | rfl
/-- Step 1's stage `flat`, as a function of the arrays. -/
theorem flat1 (x0 : X0) (x1 : X1) : val_main_v425 (F := Ideal) x0 x1 = rFlat (val_main_v410 (F := Ideal) x0 x1) := by
  unfold val_main_v425 val_main_v424 rFlat
  first | with_reducible rfl | rfl
/-- Step 1's stage `dist`, as a function of the arrays. -/
theorem dist1 (x0 : X0) (x1 : X1) : val_main_v439 (F := Ideal) x0 x1 = rDist (val_main_v425 (F := Ideal) x0 x1) x1 := by
  unfold val_main_v439 val_main_v434 val_main_v432 val_main_v428 val_main_v427 val_main_v426 val_main_cst_112 val_main_v433 val_main_v431 val_main_v430 val_main_v429 val_main_cst_113 val_main_v438 val_main_v437 val_main_cst_114 val_main_v436 val_main_v435 rDist
  first | with_reducible rfl | rfl
/-- Step 1's stage `logit`, as a function of the arrays. -/
theorem logit1 (x0 : X0) (x1 : X1) : val_main_v442 (F := Ideal) x0 x1 = rLogit (val_main_v439 (F := Ideal) x0 x1) := by
  unfold val_main_v442 val_main_v440 val_main_v441 val_main_cst_115 rLogit
  first | with_reducible rfl | rfl
/-- Step 1's stage `exp`, as a function of the arrays. -/
theorem exp1 (x0 : X0) (x1 : X1) : val_main_v449 (F := Ideal) x0 x1 = rExp (constant (F := Ideal) S_ .f32 0xFF800000#32) (val_main_v442 (F := Ideal) x0 x1) := by
  unfold val_main_v449 val_main_v448 val_main_v447 val_main_v446 val_main_v445 val_main_v444 val_main_cst_117 val_main_v443 val_main_cst_116 rExp
  first | with_reducible rfl | rfl
/-- Step 1's stage `probs`, as a function of the arrays. -/
theorem probs1 (x0 : X0) (x1 : X1) : val_main_v453 (F := Ideal) x0 x1 = rProbs (val_main_v449 (F := Ideal) x0 x1) := by
  unfold val_main_v453 val_main_v452 val_main_v451 val_main_v450 val_main_cst_118 rProbs
  first | with_reducible rfl | rfl
/-- Step 1's stage `score`, as a function of the arrays. -/
theorem score1 (x0 : X0) (x1 : X1) : val_main_v457 (F := Ideal) x0 x1 = addf (F := Ideal) (s := S2304x8192) (φ := .f32) (val_main_v456 (F := Ideal)) (val_main_v442 (F := Ideal) x0 x1) := by
  unfold val_main_v457
  first | with_reducible rfl | rfl
/-- Step 1's stage `idx`, as a function of the arrays. -/
theorem idx1 (x0 : X0) (x1 : X1) : val_main_v458 (F := Ideal) x0 x1 = rIdx (val_main_v457 (F := Ideal) x0 x1) := by
  unfold val_main_v458 val_main_indices_120 rIdx
  first | with_reducible rfl | rfl
/-- Step 1's stage `code`, as a function of the arrays. -/
theorem code1 (x0 : X0) (x1 : X1) : val_main_v460 (F := Ideal) x0 x1 = rCode (val_main_v458 (F := Ideal) x0 x1) x1 := by
  unfold val_main_v460 val_main_v459 val_main_call1_v4 val_main_call1_v2 val_main_call1_v0 val_main_call1_v3 val_main_call1_v1 rCode
  first | with_reducible rfl | rfl
/-- Step 1's stage `back`, as a function of the arrays. -/
theorem back1 (x0 : X0) (x1 : X1) : val_main_v462 (F := Ideal) x0 x1 = rBack (val_main_v460 (F := Ideal) x0 x1) := by
  unfold val_main_v462 val_main_v461 rBack
  first | with_reducible rfl | rfl
/-- Step 1's stage `next`, as a function of the arrays. -/
theorem next1 (x0 : X0) (x1 : X1) : val_main_v464 (F := Ideal) x0 x1 = subf (F := Ideal) (s := S4x64x24x24) (φ := .f32) (val_main_v410 (F := Ideal) x0 x1) (val_main_v462 (F := Ideal) x0 x1) := by
  unfold val_main_v464
  first | with_reducible rfl | rfl
/-- Step 1's stage `sum`, as a function of the arrays. -/
theorem sum1 (x0 : X0) (x1 : X1) : val_main_v463 (F := Ideal) x0 x1 = addf (F := Ideal) (s := S4x64x24x24) (φ := .f32) (val_main_v409 (F := Ideal) x0 x1) (val_main_v462 (F := Ideal) x0 x1) := by
  unfold val_main_v463
  first | with_reducible rfl | rfl
/-- Step 2's stage `flat`, as a function of the arrays. -/
theorem flat2 (x0 : X0) (x1 : X1) : val_main_v479 (F := Ideal) x0 x1 = rFlat (val_main_v464 (F := Ideal) x0 x1) := by
  unfold val_main_v479 val_main_v478 rFlat
  first | with_reducible rfl | rfl
/-- Step 2's stage `dist`, as a function of the arrays. -/
theorem dist2 (x0 : X0) (x1 : X1) : val_main_v493 (F := Ideal) x0 x1 = rDist (val_main_v479 (F := Ideal) x0 x1) x1 := by
  unfold val_main_v493 val_main_v488 val_main_v486 val_main_v482 val_main_v481 val_main_v480 val_main_cst_126 val_main_v487 val_main_v485 val_main_v484 val_main_v483 val_main_cst_127 val_main_v492 val_main_v491 val_main_cst_128 val_main_v490 val_main_v489 rDist
  first | with_reducible rfl | rfl
/-- Step 2's stage `logit`, as a function of the arrays. -/
theorem logit2 (x0 : X0) (x1 : X1) : val_main_v496 (F := Ideal) x0 x1 = rLogit (val_main_v493 (F := Ideal) x0 x1) := by
  unfold val_main_v496 val_main_v494 val_main_v495 val_main_cst_129 rLogit
  first | with_reducible rfl | rfl
/-- Step 2's stage `exp`, as a function of the arrays. -/
theorem exp2 (x0 : X0) (x1 : X1) : val_main_v503 (F := Ideal) x0 x1 = rExp (constant (F := Ideal) S_ .f32 0xFF800000#32) (val_main_v496 (F := Ideal) x0 x1) := by
  unfold val_main_v503 val_main_v502 val_main_v501 val_main_v500 val_main_v499 val_main_v498 val_main_cst_131 val_main_v497 val_main_cst_130 rExp
  first | with_reducible rfl | rfl
/-- Step 2's stage `probs`, as a function of the arrays. -/
theorem probs2 (x0 : X0) (x1 : X1) : val_main_v507 (F := Ideal) x0 x1 = rProbs (val_main_v503 (F := Ideal) x0 x1) := by
  unfold val_main_v507 val_main_v506 val_main_v505 val_main_v504 val_main_cst_132 rProbs
  first | with_reducible rfl | rfl
/-- Step 2's stage `score`, as a function of the arrays. -/
theorem score2 (x0 : X0) (x1 : X1) : val_main_v511 (F := Ideal) x0 x1 = addf (F := Ideal) (s := S2304x8192) (φ := .f32) (val_main_v510 (F := Ideal)) (val_main_v496 (F := Ideal) x0 x1) := by
  unfold val_main_v511
  first | with_reducible rfl | rfl
/-- Step 2's stage `idx`, as a function of the arrays. -/
theorem idx2 (x0 : X0) (x1 : X1) : val_main_v512 (F := Ideal) x0 x1 = rIdx (val_main_v511 (F := Ideal) x0 x1) := by
  unfold val_main_v512 val_main_indices_134 rIdx
  first | with_reducible rfl | rfl
/-- Step 2's stage `code`, as a function of the arrays. -/
theorem code2 (x0 : X0) (x1 : X1) : val_main_v514 (F := Ideal) x0 x1 = rCode (val_main_v512 (F := Ideal) x0 x1) x1 := by
  unfold val_main_v514 val_main_v513 val_main_call2_v4 val_main_call2_v2 val_main_call2_v0 val_main_call2_v3 val_main_call2_v1 rCode
  first | with_reducible rfl | rfl
/-- Step 2's stage `back`, as a function of the arrays. -/
theorem back2 (x0 : X0) (x1 : X1) : val_main_v516 (F := Ideal) x0 x1 = rBack (val_main_v514 (F := Ideal) x0 x1) := by
  unfold val_main_v516 val_main_v515 rBack
  first | with_reducible rfl | rfl
/-- Step 2's stage `next`, as a function of the arrays. -/
theorem next2 (x0 : X0) (x1 : X1) : val_main_v518 (F := Ideal) x0 x1 = subf (F := Ideal) (s := S4x64x24x24) (φ := .f32) (val_main_v464 (F := Ideal) x0 x1) (val_main_v516 (F := Ideal) x0 x1) := by
  unfold val_main_v518
  first | with_reducible rfl | rfl
/-- Step 2's stage `sum`, as a function of the arrays. -/
theorem sum2 (x0 : X0) (x1 : X1) : val_main_v517 (F := Ideal) x0 x1 = addf (F := Ideal) (s := S4x64x24x24) (φ := .f32) (val_main_v463 (F := Ideal) x0 x1) (val_main_v516 (F := Ideal) x0 x1) := by
  unfold val_main_v517
  first | with_reducible rfl | rfl
/-- Step 3's stage `flat`, as a function of the arrays. -/
theorem flat3 (x0 : X0) (x1 : X1) : val_main_v533 (F := Ideal) x0 x1 = rFlat (val_main_v518 (F := Ideal) x0 x1) := by
  unfold val_main_v533 val_main_v532 rFlat
  first | with_reducible rfl | rfl
/-- Step 3's stage `dist`, as a function of the arrays. -/
theorem dist3 (x0 : X0) (x1 : X1) : val_main_v547 (F := Ideal) x0 x1 = rDist (val_main_v533 (F := Ideal) x0 x1) x1 := by
  unfold val_main_v547 val_main_v542 val_main_v540 val_main_v536 val_main_v535 val_main_v534 val_main_cst_140 val_main_v541 val_main_v539 val_main_v538 val_main_v537 val_main_cst_141 val_main_v546 val_main_v545 val_main_cst_142 val_main_v544 val_main_v543 rDist
  first | with_reducible rfl | rfl
/-- Step 3's stage `logit`, as a function of the arrays. -/
theorem logit3 (x0 : X0) (x1 : X1) : val_main_v550 (F := Ideal) x0 x1 = rLogit (val_main_v547 (F := Ideal) x0 x1) := by
  unfold val_main_v550 val_main_v548 val_main_v549 val_main_cst_143 rLogit
  first | with_reducible rfl | rfl
/-- Step 3's stage `exp`, as a function of the arrays. -/
theorem exp3 (x0 : X0) (x1 : X1) : val_main_v557 (F := Ideal) x0 x1 = rExp (constant (F := Ideal) S_ .f32 0xFF800000#32) (val_main_v550 (F := Ideal) x0 x1) := by
  unfold val_main_v557 val_main_v556 val_main_v555 val_main_v554 val_main_v553 val_main_v552 val_main_cst_145 val_main_v551 val_main_cst_144 rExp
  first | with_reducible rfl | rfl
/-- Step 3's stage `probs`, as a function of the arrays. -/
theorem probs3 (x0 : X0) (x1 : X1) : val_main_v561 (F := Ideal) x0 x1 = rProbs (val_main_v557 (F := Ideal) x0 x1) := by
  unfold val_main_v561 val_main_v560 val_main_v559 val_main_v558 val_main_cst_146 rProbs
  first | with_reducible rfl | rfl
/-- Step 3's stage `score`, as a function of the arrays. -/
theorem score3 (x0 : X0) (x1 : X1) : val_main_v565 (F := Ideal) x0 x1 = addf (F := Ideal) (s := S2304x8192) (φ := .f32) (val_main_v564 (F := Ideal)) (val_main_v550 (F := Ideal) x0 x1) := by
  unfold val_main_v565
  first | with_reducible rfl | rfl
/-- Step 3's stage `idx`, as a function of the arrays. -/
theorem idx3 (x0 : X0) (x1 : X1) : val_main_v566 (F := Ideal) x0 x1 = rIdx (val_main_v565 (F := Ideal) x0 x1) := by
  unfold val_main_v566 val_main_indices_148 rIdx
  first | with_reducible rfl | rfl
/-- Step 3's stage `code`, as a function of the arrays. -/
theorem code3 (x0 : X0) (x1 : X1) : val_main_v568 (F := Ideal) x0 x1 = rCode (val_main_v566 (F := Ideal) x0 x1) x1 := by
  unfold val_main_v568 val_main_v567 val_main_call3_v4 val_main_call3_v2 val_main_call3_v0 val_main_call3_v3 val_main_call3_v1 rCode
  first | with_reducible rfl | rfl
/-- Step 3's stage `back`, as a function of the arrays. -/
theorem back3 (x0 : X0) (x1 : X1) : val_main_v570 (F := Ideal) x0 x1 = rBack (val_main_v568 (F := Ideal) x0 x1) := by
  unfold val_main_v570 val_main_v569 rBack
  first | with_reducible rfl | rfl
/-- Step 3's stage `sum`, as a function of the arrays. -/
theorem sum3 (x0 : X0) (x1 : X1) : val_main_v571 (F := Ideal) x0 x1 = addf (F := Ideal) (s := S4x64x24x24) (φ := .f32) (val_main_v517 (F := Ideal) x0 x1) (val_main_v570 (F := Ideal) x0 x1) := by
  unfold val_main_v571
  first | with_reducible rfl | rfl
/-- The mean squared error of step 0, as a function of the arrays. -/
theorem mse0_0 (x0 : X0) (x1 : X1) : val_main_v416 (F := Ideal) x0 x1 = rMse (val_main_v408 (F := Ideal) x0 x1) x0 := by
  unfold val_main_v416 val_main_v415 val_main_v414 val_main_v413 val_main_v412 val_main_v370 val_main_cst_106 val_main_cst_107 rMse
  first | with_reducible rfl | rfl
/-- The mean squared error of step 0, as a function of the arrays. -/
theorem mse4_0 (x0 : X0) (x1 : X1) : val_main_v420 (F := Ideal) x0 x1 = rMse (val_main_v408 (F := Ideal) x0 x1) x0 := by
  unfold val_main_v420 val_main_v419 val_main_v418 val_main_v417 val_main_v412 val_main_v370 val_main_cst_108 val_main_cst_109 rMse
  first | with_reducible rfl | rfl
/-- The mean squared error of step 1, as a function of the arrays. -/
theorem mse0_1 (x0 : X0) (x1 : X1) : val_main_v470 (F := Ideal) x0 x1 = rMse (val_main_v462 (F := Ideal) x0 x1) (val_main_v410 (F := Ideal) x0 x1) := by
  unfold val_main_v470 val_main_v469 val_main_v468 val_main_v467 val_main_v466 val_main_v424 val_main_cst_121 val_main_cst_122 rMse
  first | with_reducible rfl | rfl
/-- The mean squared error of step 1, as a function of the arrays. -/
theorem mse4_1 (x0 : X0) (x1 : X1) : val_main_v474 (F := Ideal) x0 x1 = rMse (val_main_v462 (F := Ideal) x0 x1) (val_main_v410 (F := Ideal) x0 x1) := by
  unfold val_main_v474 val_main_v473 val_main_v472 val_main_v471 val_main_v466 val_main_v424 val_main_cst_123 val_main_cst_124 rMse
  first | with_reducible rfl | rfl
/-- The mean squared error of step 2, as a function of the arrays. -/
theorem mse0_2 (x0 : X0) (x1 : X1) : val_main_v524 (F := Ideal) x0 x1 = rMse (val_main_v516 (F := Ideal) x0 x1) (val_main_v464 (F := Ideal) x0 x1) := by
  unfold val_main_v524 val_main_v523 val_main_v522 val_main_v521 val_main_v520 val_main_v478 val_main_cst_135 val_main_cst_136 rMse
  first | with_reducible rfl | rfl
/-- The mean squared error of step 2, as a function of the arrays. -/
theorem mse4_2 (x0 : X0) (x1 : X1) : val_main_v528 (F := Ideal) x0 x1 = rMse (val_main_v516 (F := Ideal) x0 x1) (val_main_v464 (F := Ideal) x0 x1) := by
  unfold val_main_v528 val_main_v527 val_main_v526 val_main_v525 val_main_v520 val_main_v478 val_main_cst_137 val_main_cst_138 rMse
  first | with_reducible rfl | rfl
/-- The mean squared error of step 3, as a function of the arrays. -/
theorem mse0_3 (x0 : X0) (x1 : X1) : val_main_v578 (F := Ideal) x0 x1 = rMse (val_main_v570 (F := Ideal) x0 x1) (val_main_v518 (F := Ideal) x0 x1) := by
  unfold val_main_v578 val_main_v577 val_main_v576 val_main_v575 val_main_v574 val_main_v532 val_main_cst_149 val_main_cst_150 rMse
  first | with_reducible rfl | rfl
/-- The mean squared error of step 3, as a function of the arrays. -/
theorem mse4_3 (x0 : X0) (x1 : X1) : val_main_v582 (F := Ideal) x0 x1 = rMse (val_main_v570 (F := Ideal) x0 x1) (val_main_v518 (F := Ideal) x0 x1) := by
  unfold val_main_v582 val_main_v581 val_main_v580 val_main_v579 val_main_v574 val_main_v532 val_main_cst_151 val_main_cst_152 rMse
  first | with_reducible rfl | rfl

end Cert.ReferenceIdeal.Val

end
-- ==== Proof.RRows.lean ====
/- The reference's values are the mathematics of the residual steps, row by row. -/
module

public import proofs.«01_k».proof.Proof.RStage
public import Idealize.ShloMosaic.Lib.Pointwise

@[expose] public section

set_option maxRecDepth 16384

noncomputable section

namespace Cert.ReferenceIdeal.Val

open Idealize.ShloMosaic Idealize.ShloMosaic.TcCoe Idealize.SL.Sem Idealize.ShloMosaic.StableHlo
open Idealize.ShloMosaic.Pipeline
open Cert.ReferenceIdeal Cert.ReferenceIdeal.Gen Cert.ReferenceIdeal.Read Cert.Rvq

/-- The place of a row's entry in a residual. -/
abbrev pos (r : Fin 2304) (k : Fin 64) : S4x64x24x24.Idx := ix4 ⟨r.val / 576, by omega⟩ k ⟨r.val / 24 % 24, by omega⟩ ⟨r.val % 24, by omega⟩
/-- A row of a residual. -/
def rowR (f : X0) (r : Fin 2304) (k : Fin 64) : EReal := f (pos r k)
/-- The codewords. -/
def cb (x1 : X1) (c : Fin 8192) (k : Fin 64) : EReal := x1 (ix2 c k)
/-- The perturbations of a row. -/
def ltR (r : Fin 2304) (s : Nat) (c : Fin 8192) : EReal := pertAt s r.val c.val

/-- The image of the rows, read at the place of a row. -/
theorem rBack_pos (q : FVec Ideal S2304x64 .f32) (r : Fin 2304) (k : Fin 64) : rBack q (pos r k) = q (ix2 r k) := by
  rw [rBack_apply]
  congr 2
  exact Fin.ext (by show r.val / 576 * 576 + r.val / 24 % 24 * 24 + r.val % 24 = r.val; omega)
/-- A slice of the noise, by row and codeword. -/
theorem noise_row (i : Fin 4) (G : FVec Ideal S2304x8192 .f32) (hG : ∀ r c, G (ix2 r c) = val_main_v369 (F := Ideal) (ix3 i r c)) (r : Fin 2304) (c : Fin 8192) :
    G (ix2 r c) = -ltR r i.val c := by
  rw [hG, gumbel_apply]
  rfl
/-- The word of minus infinity denotes the least number. -/
theorem bot_word : ∀ i : S_.Idx, (constant (F := Ideal) S_ .f32 0xFF800000#32 : FVec Ideal S_ .f32) i = ⊥ := fun i => by
  show Ideal.ofBits .f32 4286578688#32 = ⊥
  simp [Ideal.ofBits, Ideal.ieee]

section
variable (f : X0) (x1 : X1) (G : FVec Ideal S2304x8192 .f32) (l : Fin 2304 → Fin 8192 → EReal) (r : Fin 2304)
/-- The distances of a step. -/
theorem stepDist (c : Fin 8192) : rDist (rFlat f) x1 (ix2 r c) = dist (cb x1) (rowR f r) c := by
  rw [rDist_apply]
  refine congrArg (fun g : Fin 64 → EReal => dist (cb x1) g c) (funext fun k => ?_)
  exact rFlat_apply f r k
/-- The soft targets of a step. -/
theorem stepProbs (c : Fin 8192) :
    rProbs (rExp (constant (F := Ideal) S_ .f32 0xFF800000#32) (rLogit (rDist (rFlat f) x1))) (ix2 r c) = soft (cb x1) (rowR f r) c := by
  rw [rProbs_apply]
  simp only [rExp_apply _ bot_word, rLogit_apply, stepDist, soft_eq]
  rfl
/-- The codeword number of a step. -/
theorem stepIdx (hG : ∀ c, G (ix2 r c) = -l r c) (hl : ∀ c, ∃ x : ℝ, l r c = (x : EReal)) :
    rIdx (addf (F := Ideal) (s := S2304x8192) (φ := .f32) G (rLogit (rDist (rFlat f) x1))) (ix1 r) = BitVec.ofNat 32 (best (score (cb x1) (l r) (rowR f r))).val := by
  rw [rIdx_apply]
  have e : (fun c => addf (F := Ideal) (s := S2304x8192) (φ := .f32) G (rLogit (rDist (rFlat f) x1)) (ix2 r c)) = score (cb x1) (l r) (rowR f r) := by
    funext c
    show G (ix2 r c) + rLogit (rDist (rFlat f) x1) (ix2 r c) = _
    rw [hG, rLogit_apply, stepDist, score_eq (hl c)]
    rfl
  rw [e]
/-- The codeword of a step. -/
theorem stepCode (hG : ∀ c, G (ix2 r c) = -l r c) (hl : ∀ c, ∃ x : ℝ, l r c = (x : EReal)) (k : Fin 64) :
    rBack (rCode (rIdx (addf (F := Ideal) (s := S2304x8192) (φ := .f32) G (rLogit (rDist (rFlat f) x1)))) x1) (pos r k)
      = cb x1 (best (score (cb x1) (l r) (rowR f r))) k := by
  rw [rBack_pos, rCode_apply _ _ _ _ _ (stepIdx f x1 G l r hG hl)]
  rfl
end

variable (x0 : X0) (x1 : X1) (r : Fin 2304)
/-- The perturbations are real numbers. -/
theorem ltR_real (s : Nat) (c : Fin 8192) : ∃ x : ℝ, ltR r s c = (x : EReal) := pert_real _

/-- The noise of step 0. -/
theorem G0 (r : Fin 2304) (c : Fin 8192) : (val_main_v402 (F := Ideal)) (ix2 r c) = -ltR r 0 c := by
  refine noise_row 0 _ (fun r c => ?_) r c
  simp only [val_main_v402, val_main_v401, pointwise]
  exact congrArg₂ (fun (a : Fin 2304) (b : Fin 8192) => (val_main_v369 (F := Ideal)) (ix3 0 a b)) (Fin.ext (Nat.zero_add _)) (Fin.ext (Nat.zero_add _))
/-- The residual before step 0. -/
theorem R0 : rowR x0 r = resid (cb x1) (ltR r) (rowR x0 r) 0 := rfl
/-- The codeword of step 0. -/
theorem C0 (k : Fin 64) : (val_main_v408 (F := Ideal) x0 x1) (pos r k) = cb x1 (pick (cb x1) (ltR r) (rowR x0 r) 0) k := by
  rw [back0, code0, idx0, score0, logit0, dist0, flat0 x0 x1, stepCode _ x1 _ (fun r => ltR r 0) r (G0 r) (ltR_real r 0)]
  rfl
/-- The codeword number of step 0. -/
theorem I0 : (val_main_v404 (F := Ideal) x0 x1) (ix1 r) = BitVec.ofNat 32 (pick (cb x1) (ltR r) (rowR x0 r) 0).val := by
  rw [idx0, score0, logit0, dist0, flat0 x0 x1, stepIdx _ x1 _ (fun r => ltR r 0) r (G0 r) (ltR_real r 0)]
  rfl
/-- The soft targets of step 0. -/
theorem P0 (c : Fin 8192) : (val_main_v399 (F := Ideal) x0 x1) (ix2 r c) = soft (cb x1) (resid (cb x1) (ltR r) (rowR x0 r) 0) c := by
  rw [probs0, exp0, logit0, dist0, flat0 x0 x1, stepProbs]
  rfl

/-- The noise of step 1. -/
theorem G1 (r : Fin 2304) (c : Fin 8192) : (val_main_v456 (F := Ideal)) (ix2 r c) = -ltR r 1 c := by
  refine noise_row 1 _ (fun r c => ?_) r c
  simp only [val_main_v456, val_main_v455, pointwise]
  exact congrArg₂ (fun (a : Fin 2304) (b : Fin 8192) => (val_main_v369 (F := Ideal)) (ix3 1 a b)) (Fin.ext (Nat.zero_add _)) (Fin.ext (Nat.zero_add _))
/-- The residual before step 1. -/
theorem R1 : rowR (val_main_v410 (F := Ideal) x0 x1) r = resid (cb x1) (ltR r) (rowR x0 r) 1 := by
  funext k
  rw [rowR, next0]
  show rowR x0 r k - (val_main_v408 (F := Ideal) x0 x1) (pos r k) = _
  rw [C0, R0 x0 x1 r]
  rfl
/-- The codeword of step 1. -/
theorem C1 (k : Fin 64) : (val_main_v462 (F := Ideal) x0 x1) (pos r k) = cb x1 (pick (cb x1) (ltR r) (rowR x0 r) 1) k := by
  rw [back1, code1, idx1, score1, logit1, dist1, flat1 x0 x1, stepCode _ x1 _ (fun r => ltR r 1) r (G1 r) (ltR_real r 1), R1 x0 x1 r]
  rfl
/-- The codeword number of step 1. -/
theorem I1 : (val_main_v458 (F := Ideal) x0 x1) (ix1 r) = BitVec.ofNat 32 (pick (cb x1) (ltR r) (rowR x0 r) 1).val := by
  rw [idx1, score1, logit1, dist1, flat1 x0 x1, stepIdx _ x1 _ (fun r => ltR r 1) r (G1 r) (ltR_real r 1), R1 x0 x1 r]
  rfl
/-- The soft targets of step 1. -/
theorem P1 (c : Fin 8192) : (val_main_v453 (F := Ideal) x0 x1) (ix2 r c) = soft (cb x1) (resid (cb x1) (ltR r) (rowR x0 r) 1) c := by
  rw [probs1, exp1, logit1, dist1, flat1 x0 x1, stepProbs, R1 x0 x1 r]

/-- The noise of step 2. -/
theorem G2 (r : Fin 2304) (c : Fin 8192) : (val_main_v510 (F := Ideal)) (ix2 r c) = -ltR r 2 c := by
  refine noise_row 2 _ (fun r c => ?_) r c
  simp only [val_main_v510, val_main_v509, pointwise]
  exact congrArg₂ (fun (a : Fin 2304) (b : Fin 8192) => (val_main_v369 (F := Ideal)) (ix3 2 a b)) (Fin.ext (Nat.zero_add _)) (Fin.ext (Nat.zero_add _))
/-- The residual before step 2. -/
theorem R2 : rowR (val_main_v464 (F := Ideal) x0 x1) r = resid (cb x1) (ltR r) (rowR x0 r) 2 := by
  funext k
  rw [rowR, next1]
  show rowR (val_main_v410 (F := Ideal) x0 x1) r k - (val_main_v462 (F := Ideal) x0 x1) (pos r k) = _
  rw [C1, R1 x0 x1 r]
  rfl
/-- The codeword of step 2. -/
theorem C2 (k : Fin 64) : (val_main_v516 (F := Ideal) x0 x1) (pos r k) = cb x1 (pick (cb x1) (ltR r) (rowR x0 r) 2) k := by
  rw [back2, code2, idx2, score2, logit2, dist2, flat2 x0 x1, stepCode _ x1 _ (fun r => ltR r 2) r (G2 r) (ltR_real r 2), R2 x0 x1 r]
  rfl
/-- The codeword number of step 2. -/
theorem I2 : (val_main_v512 (F := Ideal) x0 x1) (ix1 r) = BitVec.ofNat 32 (pick (cb x1) (ltR r) (rowR x0 r) 2).val := by
  rw [idx2, score2, logit2, dist2, flat2 x0 x1, stepIdx _ x1 _ (fun r => ltR r 2) r (G2 r) (ltR_real r 2), R2 x0 x1 r]
  rfl
/-- The soft targets of step 2. -/
theorem P2 (c : Fin 8192) : (val_main_v507 (F := Ideal) x0 x1) (ix2 r c) = soft (cb x1) (resid (cb x1) (ltR r) (rowR x0 r) 2) c := by
  rw [probs2, exp2, logit2, dist2, flat2 x0 x1, stepProbs, R2 x0 x1 r]

/-- The noise of step 3. -/
theorem G3 (r : Fin 2304) (c : Fin 8192) : (val_main_v564 (F := Ideal)) (ix2 r c) = -ltR r 3 c := by
  refine noise_row 3 _ (fun r c => ?_) r c
  simp only [val_main_v564, val_main_v563, pointwise]
  exact congrArg₂ (fun (a : Fin 2304) (b : Fin 8192) => (val_main_v369 (F := Ideal)) (ix3 3 a b)) (Fin.ext (Nat.zero_add _)) (Fin.ext (Nat.zero_add _))
/-- The residual before step 3. -/
theorem R3 : rowR (val_main_v518 (F := Ideal) x0 x1) r = resid (cb x1) (ltR r) (rowR x0 r) 3 := by
  funext k
  rw [rowR, next2]
  show rowR (val_main_v464 (F := Ideal) x0 x1) r k - (val_main_v516 (F := Ideal) x0 x1) (pos r k) = _
  rw [C2, R2 x0 x1 r]
  rfl
/-- The codeword of step 3. -/
theorem C3 (k : Fin 64) : (val_main_v570 (F := Ideal) x0 x1) (pos r k) = cb x1 (pick (cb x1) (ltR r) (rowR x0 r) 3) k := by
  rw [back3, code3, idx3, score3, logit3, dist3, flat3 x0 x1, stepCode _ x1 _ (fun r => ltR r 3) r (G3 r) (ltR_real r 3), R3 x0 x1 r]
  rfl
/-- The codeword number of step 3. -/
theorem I3 : (val_main_v566 (F := Ideal) x0 x1) (ix1 r) = BitVec.ofNat 32 (pick (cb x1) (ltR r) (rowR x0 r) 3).val := by
  rw [idx3, score3, logit3, dist3, flat3 x0 x1, stepIdx _ x1 _ (fun r => ltR r 3) r (G3 r) (ltR_real r 3), R3 x0 x1 r]
  rfl
/-- The soft targets of step 3. -/
theorem P3 (c : Fin 8192) : (val_main_v561 (F := Ideal) x0 x1) (ix2 r c) = soft (cb x1) (resid (cb x1) (ltR r) (rowR x0 r) 3) c := by
  rw [probs3, exp3, logit3, dist3, flat3 x0 x1, stepProbs, R3 x0 x1 r]

/-- The running sum after the four steps. -/
theorem Q (k : Fin 64) : (val_main_v571 (F := Ideal) x0 x1) (pos r k) = quant (cb x1) (ltR r) (rowR x0 r) 4 k := by
  have h0 : (val_main_v0 (F := Ideal)) (pos r k) = 0 := by
    simp only [val_main_v0, val_main_cst, pointwise]
  rw [sum3, sum2, sum1, sum0]
  show ((((val_main_v0 (F := Ideal)) (pos r k) + (val_main_v408 (F := Ideal) x0 x1) (pos r k)) + (val_main_v462 (F := Ideal) x0 x1) (pos r k)) + (val_main_v516 (F := Ideal) x0 x1) (pos r k)) + (val_main_v570 (F := Ideal) x0 x1) (pos r k) = _
  rw [h0, C0, C1, C2, C3]
  rfl

/-! ## The loss -/

/-- A sum over batch and place is a sum over rows. -/
theorem sum_rows (g : Fin 4 → Fin 24 → Fin 24 → EReal) :
    ∑ b, ∑ h, ∑ w, g b h w = ∑ r : Fin 2304, g ⟨r.val / 576, by omega⟩ ⟨r.val / 24 % 24, by omega⟩ ⟨r.val % 24, by omega⟩ := by
  let e : Fin 2304 ≃ Fin 4 × Fin 24 × Fin 24 :=
    { toFun := fun r => (⟨r.val / 576, by omega⟩, ⟨r.val / 24 % 24, by omega⟩, ⟨r.val % 24, by omega⟩)
      invFun := fun p => ⟨p.1.val * 576 + p.2.1.val * 24 + p.2.2.val, by have h1 := p.1.isLt; have h2 := p.2.1.isLt; have h3 := p.2.2.isLt; omega⟩
      left_inv := fun r => Fin.ext (by show r.val / 576 * 576 + r.val / 24 % 24 * 24 + r.val % 24 = r.val; omega)
      right_inv := fun p => by
        have h1 := p.1.isLt; have h2 := p.2.1.isLt; have h3 := p.2.2.isLt
        refine Prod.ext (Fin.ext ?_) (Prod.ext (Fin.ext ?_) (Fin.ext ?_))
        · show (p.1.val * 576 + p.2.1.val * 24 + p.2.2.val) / 576 = p.1.val; omega
        · show (p.1.val * 576 + p.2.1.val * 24 + p.2.2.val) / 24 % 24 = p.2.1.val; omega
        · show (p.1.val * 576 + p.2.1.val * 24 + p.2.2.val) % 24 = p.2.2.val; omega }
  rw [Fintype.sum_equiv e (fun r : Fin 2304 => g ⟨r.val / 576, by omega⟩ ⟨r.val / 24 % 24, by omega⟩ ⟨r.val % 24, by omega⟩) (fun p => g p.1 p.2.1 p.2.2) (fun _ => rfl)]
  simp only [Fintype.sum_prod_type]
/-- The mean squared error of a step. -/
theorem stepMse (q f : X0) (C R : Fin 2304 → Fin 64 → EReal) (hq : ∀ r k, q (pos r k) = C r k) (hf : ∀ r, rowR f r = R r) (i : S_.Idx) :
    rMse q f i = Ideal.div (∑ r, ∑ k, (C r k - R r k) * (C r k - R r k)) (Ideal.ofBits .f32 0x48100000#32) := by
  rw [rMse_apply]
  refine congrArg (fun x => Ideal.div x _) ?_
  have e : ∀ b : Fin 4, ∑ k : Fin 64, ∑ h : Fin 24, ∑ w : Fin 24, (q (ix4 b k h w) - f (ix4 b k h w)) * (q (ix4 b k h w) - f (ix4 b k h w))
      = ∑ h : Fin 24, ∑ w : Fin 24, ∑ k : Fin 64, (q (ix4 b k h w) - f (ix4 b k h w)) * (q (ix4 b k h w) - f (ix4 b k h w)) := fun b => by
    rw [Finset.sum_comm]
    refine Finset.sum_congr rfl fun h _ => ?_
    rw [Finset.sum_comm]
  simp only [e]
  rw [sum_rows fun b h w => ∑ k : Fin 64, (q (ix4 b k h w) - f (ix4 b k h w)) * (q (ix4 b k h w) - f (ix4 b k h w))]
  refine Finset.sum_congr rfl fun r _ => Finset.sum_congr rfl fun k _ => ?_
  have h2 : f (pos r k) = R r k := congrFun (hf r) k
  rw [← hq r k, ← h2]
/-- The summed squared error of a step. -/
def sq (s : Nat) : EReal := ∑ r : Fin 2304, err (cb x1) (ltR r) (rowR x0 r) s
/-- The first mean squared error of step 0. -/
theorem M0_0 (i : S_.Idx) : (val_main_v416 (F := Ideal) x0 x1) i = Ideal.div (sq x0 x1 0) (Ideal.ofBits .f32 0x48100000#32) := by
  rw [mse0_0, stepMse _ _ _ _ (fun r k => C0 x0 x1 r k) (fun r => R0 x0 x1 r)]
  rfl
/-- The second mean squared error of step 0. -/
theorem M4_0 (i : S_.Idx) : (val_main_v420 (F := Ideal) x0 x1) i = Ideal.div (sq x0 x1 0) (Ideal.ofBits .f32 0x48100000#32) := by
  rw [mse4_0, stepMse _ _ _ _ (fun r k => C0 x0 x1 r k) (fun r => R0 x0 x1 r)]
  rfl
/-- The first mean squared error of step 1. -/
theorem M0_1 (i : S_.Idx) : (val_main_v470 (F := Ideal) x0 x1) i = Ideal.div (sq x0 x1 1) (Ideal.ofBits .f32 0x48100000#32) := by
  rw [mse0_1, stepMse _ _ _ _ (fun r k => C1 x0 x1 r k) (fun r => R1 x0 x1 r)]
  rfl
/-- The second mean squared error of step 1. -/
theorem M4_1 (i : S_.Idx) : (val_main_v474 (F := Ideal) x0 x1) i = Ideal.div (sq x0 x1 1) (Ideal.ofBits .f32 0x48100000#32) := by
  rw [mse4_1, stepMse _ _ _ _ (fun r k => C1 x0 x1 r k) (fun r => R1 x0 x1 r)]
  rfl
/-- The first mean squared error of step 2. -/
theorem M0_2 (i : S_.Idx) : (val_main_v524 (F := Ideal) x0 x1) i = Ideal.div (sq x0 x1 2) (Ideal.ofBits .f32 0x48100000#32) := by
  rw [mse0_2, stepMse _ _ _ _ (fun r k => C2 x0 x1 r k) (fun r => R2 x0 x1 r)]
  rfl
/-- The second mean squared error of step 2. -/
theorem M4_2 (i : S_.Idx) : (val_main_v528 (F := Ideal) x0 x1) i = Ideal.div (sq x0 x1 2) (Ideal.ofBits .f32 0x48100000#32) := by
  rw [mse4_2, stepMse _ _ _ _ (fun r k => C2 x0 x1 r k) (fun r => R2 x0 x1 r)]
  rfl
/-- The first mean squared error of step 3. -/
theorem M0_3 (i : S_.Idx) : (val_main_v578 (F := Ideal) x0 x1) i = Ideal.div (sq x0 x1 3) (Ideal.ofBits .f32 0x48100000#32) := by
  rw [mse0_3, stepMse _ _ _ _ (fun r k => C3 x0 x1 r k) (fun r => R3 x0 x1 r)]
  rfl
/-- The second mean squared error of step 3. -/
theorem M4_3 (i : S_.Idx) : (val_main_v582 (F := Ideal) x0 x1) i = Ideal.div (sq x0 x1 3) (Ideal.ofBits .f32 0x48100000#32) := by
  rw [mse4_3, stepMse _ _ _ _ (fun r k => C3 x0 x1 r k) (fun r => R3 x0 x1 r)]
  rfl
/-- The loss. -/
theorem L (i : S_.Idx) : (val_main_v585 (F := Ideal) x0 x1) i = ((((0 + Ideal.div (sq x0 x1 0) (Ideal.ofBits .f32 0x48100000#32)) + Ideal.ofBits .f32 0x3E800000#32 * Ideal.div (sq x0 x1 0) (Ideal.ofBits .f32 0x48100000#32) + Ideal.div (sq x0 x1 1) (Ideal.ofBits .f32 0x48100000#32)) + Ideal.ofBits .f32 0x3E800000#32 * Ideal.div (sq x0 x1 1) (Ideal.ofBits .f32 0x48100000#32) + Ideal.div (sq x0 x1 2) (Ideal.ofBits .f32 0x48100000#32)) + Ideal.ofBits .f32 0x3E800000#32 * Ideal.div (sq x0 x1 2) (Ideal.ofBits .f32 0x48100000#32) + Ideal.div (sq x0 x1 3) (Ideal.ofBits .f32 0x48100000#32)) + Ideal.ofBits .f32 0x3E800000#32 * Ideal.div (sq x0 x1 3) (Ideal.ofBits .f32 0x48100000#32) := by
  simp only [val_main_v585, val_main_v583, val_main_v584, val_main_v531, val_main_v529, val_main_v530, val_main_v477, val_main_v475, val_main_v476, val_main_v423, val_main_v421, val_main_v422,
    val_main_cst_110, val_main_cst_111, val_main_cst_125, val_main_cst_139, val_main_cst_153, pointwise, M0_0, M0_1, M0_2, M0_3, M4_0, M4_1, M4_2, M4_3]

end Cert.ReferenceIdeal.Val

end
-- ==== Proof.KRows.lean ====
/- What the grid steps leave, row by row: the residual quantisation of the rows of the tile. -/
module

public import proofs.«01_k».proof.Proof.KBlk
public import proofs.«01_k».proof.Proof.RRows
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rvq

open Cert.ReferenceIdeal.Val (pos rowR cb ltR)

variable (m : (ℓ : Loc nD τ sig) → Buf (Elt Ideal) ℓ) (c : Dev nD)

/-- The launched input and codebook. -/
abbrev X0 : Cert.ReferenceIdeal.Val.X0 := m ((c : Thread nD τ).loc main_arg0)
/-- The launched codebook. -/
abbrev X1 : Cert.ReferenceIdeal.Val.X1 := m ((c : Thread nD τ).loc main_arg1)

/-- Row `r` of the tile of point `t`, counted over the whole input. -/
def rowOf (t : Fin cfg0.N) (r : Fin 128) : Fin 2304 := ⟨128 * (t.val / 4) + r.val, by have := t.isLt; have hN : cfg0.N = 72 := N_0; omega⟩

/-- The rows the region finds are the rows of the input. -/
theorem rows_apply (r : Fin 2304) (k : Fin 64) : V m c main_v1 (ix2 r k) = rowR (X0 m c) r k := by
  rw [V_rows]
  simp only [pointwise]
  rfl
/-- The codebook block at every point is the codebook. -/
theorem cbk_eq (t : Fin cfg0.N) : cbk (cwAt m c t) = cb (X1 m c) := by
  funext j k
  exact cwAt_apply m c t j k
/-- The perturbations a point draws are the step's. -/
theorem lt_eq (t : Fin cfg0.N) (r : Fin 128) (j : Fin 8192) :
    pert (word (kw1 (F := Ideal) (grid0.coords t) (keysAt m c t)) (kw2 (F := Ideal) (grid0.coords t) (keysAt m c t))
      (BitVec.ofNat 32 ((128 * (grid0.coords t 0).val + r.val) * 8192 + j.val))) = ltR (rowOf t r) (t.val % 4) j := by
  rw [kw1_eq, kw2_eq, coord0]
  unfold ltR pertAt rowOf
  with_reducible rfl

section
variable (t : Fin cfg0.N) (fr : Vec Ideal S128x64 .f32)
/-- The soft targets that a point computes of its residuals, by row. -/
theorem probsOf_apply (r : Fin 128) (j : Fin 8192) : probsOf m c t fr (ix2 r j) = soft (cb (X1 m c)) (rowF fr r) j := by
  unfold probsOf
  rw [sProbs_apply fr _ _ (cnAt_apply m c t), cbk_eq]
/-- The codeword numbers that a point computes of its residuals, by row. -/
theorem idxOf_apply (r : Fin 128) (u : Fin 1) :
    idxOf m c t fr (ix2 r u) = BitVec.ofNat 32 (best (score (cb (X1 m c)) (ltR (rowOf t r) (t.val % 4)) (rowF fr r))).val := by
  unfold idxOf
  rw [sIdx_apply _ _ _ fr _ _ (cnAt_apply m c t) (fun r => ltR (rowOf t r) (t.val % 4)) (lt_eq m c t), cbk_eq]
/-- The residuals that a point leaves, by row. -/
theorem frOf_apply (r : Fin 128) (k : Fin 64) :
    frOf m c t fr (ix2 r k) = rowF fr r k - cb (X1 m c) (best (score (cb (X1 m c)) (ltR (rowOf t r) (t.val % 4)) (rowF fr r))) k := by
  unfold frOf
  rw [sFr_apply _ _ _ fr _ _ (cnAt_apply m c t) (fun r => ltR (rowOf t r) (t.val % 4)) (lt_eq m c t), cbk_eq]
/-- The running sum that a point leaves, by row. -/
theorem qOf_apply (q : Vec Ideal S128x64 .f32) (r : Fin 128) (k : Fin 64) :
    qOf m c t fr q (ix2 r k) = q (ix2 r k) + cb (X1 m c) (best (score (cb (X1 m c)) (ltR (rowOf t r) (t.val % 4)) (rowF fr r))) k := by
  unfold qOf
  rw [sQ_apply _ _ _ fr _ _ (cnAt_apply m c t) (fun r => ltR (rowOf t r) (t.val % 4)) (lt_eq m c t), cbk_eq]
/-- The squared error of a point. -/
theorem lossOf_apply (j : S1x1x1.Idx) :
    lossOf m c t fr j = ∑ r : Fin 128, ∑ k : Fin 64,
      (cb (X1 m c) (best (score (cb (X1 m c)) (ltR (rowOf t r) (t.val % 4)) (rowF fr r))) k - rowF fr r k) * (cb (X1 m c) (best (score (cb (X1 m c)) (ltR (rowOf t r) (t.val % 4)) (rowF fr r))) k - rowF fr r k) := by
  unfold lossOf
  rw [sLoss_apply _ _ _ fr _ _ (cnAt_apply m c t) (fun r => ltR (rowOf t r) (t.val % 4)) (lt_eq m c t), cbk_eq]
/-- A later step adds its squared error to the tile's. -/
theorem lossAdd_apply (l : Vec Ideal S1x1x1 .f32) (j : S1x1x1.Idx) : lossAdd m c t fr l j = l j + lossOf m c t fr j := by
  unfold lossAdd lossOf lossNext
  generalize sLoss (F := Ideal) _ _ _ _ _ _ = x
  idx_vars j
  simp only [k0_pay2, pointwise]
end

/-- The residual and the sum of a row after `s` steps. -/
abbrev resR (r : Fin 2304) (s : Nat) : Fin 64 → EReal := resid (cb (X1 m c)) (ltR r) (rowR (X0 m c) r) s
/-- The sum of a row's codewords after `s` steps. -/
abbrev quaR (r : Fin 2304) (s : Nat) : Fin 64 → EReal := quant (cb (X1 m c)) (ltR r) (rowR (X0 m c) r) s
/-- The codeword that step `s` picks for a row. -/
abbrev picR (r : Fin 2304) (s : Nat) : Fin 8192 := pick (cb (X1 m c)) (ltR r) (rowR (X0 m c) r) s
/-- The squared error of step `s` on a row. -/
abbrev errR (r : Fin 2304) (s : Nat) : EReal := err (cb (X1 m c)) (ltR r) (rowR (X0 m c) r) s

/-- A point starts from the residuals and sums of the steps before. -/
theorem pre_rows (n : ℕ) : ∀ h : n < cfg0.N, ∀ r : Fin 128,
    rowF (pre m c n h).1 r = resR m c (rowOf ⟨n, h⟩ r) (n % 4) ∧ ∀ k, (pre m c n h).2 (ix2 r k) = quaR m c (rowOf ⟨n, h⟩ r) (n % 4) k := by
  have first : ∀ n, ∀ h : n < cfg0.N, n % 4 = 0 → ∀ r : Fin 128,
      rowF (pre m c n h).1 r = resR m c (rowOf ⟨n, h⟩ r) (n % 4) ∧ ∀ k, (pre m c n h).2 (ix2 r k) = quaR m c (rowOf ⟨n, h⟩ r) (n % 4) k := by
    intro n h h0 r
    rw [pre_first m c n h h0, h0]
    refine ⟨funext fun k => ?_, fun k => ?_⟩
    · refine Eq.trans ?_ (rows_apply m c (rowOf ⟨n, h⟩ r) k)
      refine Eq.trans ?_ (xAt_apply m c ⟨n, h⟩ r k)
      generalize xAt m c ⟨n, h⟩ = x
      show k0_pay3 x (ix2 r k) = _
      simp only [k0_pay3, pointwise]
    · show k0_pay4 (F := Ideal) (ix2 r k) = 0
      simp only [k0_pay4, pointwise]
  induction n with
  | zero => exact fun h => first 0 h rfl
  | succ n ih =>
    intro h r
    by_cases h0 : (n + 1) % 4 = 0
    · exact first (n + 1) h h0 r
    · obtain ⟨i1, i2⟩ := ih (by omega) r
      have hr : rowOf ⟨n + 1, h⟩ r = rowOf ⟨n, by omega⟩ r := Fin.ext (by show 128 * ((n + 1) / 4) + r.val = 128 * (n / 4) + r.val; omega)
      have hs : (n + 1) % 4 = n % 4 + 1 := by omega
      rw [pre_next m c n h h0, hr, hs]
      refine ⟨funext fun k => ?_, fun k => ?_⟩
      · show frOf m c _ _ (ix2 r k) = _
        rw [frOf_apply, i1]
        rfl
      · show qOf m c _ _ _ (ix2 r k) = _
        rw [qOf_apply, i1, i2]
        rfl

/-- The running sum after a point. -/
theorem post_q (t : Fin cfg0.N) (r : Fin 128) (k : Fin 64) : (post m c t.val t.isLt).2 (ix2 r k) = quaR m c (rowOf t r) (t.val % 4 + 1) k := by
  obtain ⟨i1, i2⟩ := pre_rows m c t.val t.isLt r
  show qOf m c _ _ _ (ix2 r k) = _
  rw [qOf_apply, i1, i2]
  rfl
/-- The rows of a tile are those of each of its points. -/
theorem rowOf_ptOf (s : ℕ) (hs : s < 4) (t : Fin cfg0.N) (r : Fin 128) : rowOf (ptOf s hs t) r = rowOf t r :=
  Fin.ext (by show 128 * ((4 * (t.val / 4) + s) / 4) + r.val = 128 * (t.val / 4) + r.val; omega)
/-- The point of step `s` of a tile is at step `s`. -/
theorem ptOf_mod (s : ℕ) (hs : s < 4) (t : Fin cfg0.N) : (ptOf s hs t).val % 4 = s := by show (4 * (t.val / 4) + s) % 4 = s; omega
/-- The soft targets of a step of a tile. -/
theorem probsTile_apply (s : ℕ) (hs : s < 4) (t : Fin cfg0.N) (r : Fin 128) (j : Fin 8192) :
    probsTile m c s hs t (ix2 r j) = soft (cb (X1 m c)) (resR m c (rowOf t r) s) j := by
  obtain ⟨i1, -⟩ := pre_rows m c (ptOf s hs t).val (ptOf s hs t).isLt r
  unfold probsTile
  rw [probsOf_apply, i1, ptOf_mod, show (⟨(ptOf s hs t).val, (ptOf s hs t).isLt⟩ : Fin cfg0.N) = ptOf s hs t from rfl, rowOf_ptOf]
/-- The codeword numbers of a step of a tile. -/
theorem idxTile_apply (s : ℕ) (hs : s < 4) (t : Fin cfg0.N) (r : Fin 128) (u : Fin 1) :
    idxTile m c s hs t (ix2 r u) = BitVec.ofNat 32 (picR m c (rowOf t r) s).val := by
  obtain ⟨i1, -⟩ := pre_rows m c (ptOf s hs t).val (ptOf s hs t).isLt r
  unfold idxTile
  rw [idxOf_apply, i1, ptOf_mod, show (⟨(ptOf s hs t).val, (ptOf s hs t).isLt⟩ : Fin cfg0.N) = ptOf s hs t from rfl, rowOf_ptOf]
  rfl
/-- The loss of one step of a tile. -/
theorem lossOf_pre (t : Fin cfg0.N) (j : S1x1x1.Idx) : lossOf m c t (pre m c t.val t.isLt).1 j = ∑ r : Fin 128, errR m c (rowOf t r) (t.val % 4) := by
  rw [lossOf_apply]
  refine Finset.sum_congr rfl fun r _ => ?_
  rw [(pre_rows m c t.val t.isLt r).1]
  rfl
/-- A tile's loss so far is the sum over the steps done. -/
theorem lossAt_apply (n : ℕ) : ∀ h : n < cfg0.N, ∀ j : S1x1x1.Idx,
    lossAt m c n h j = ∑ s ∈ Finset.range (n % 4 + 1), ∑ r : Fin 128, errR m c (rowOf ⟨n, h⟩ r) s := by
  have first : ∀ n, ∀ h : n < cfg0.N, n % 4 = 0 → ∀ j : S1x1x1.Idx,
      lossAt m c n h j = ∑ s ∈ Finset.range (n % 4 + 1), ∑ r : Fin 128, errR m c (rowOf ⟨n, h⟩ r) s := by
    intro n h h0 j
    have e := lossOf_pre m c ⟨n, h⟩ j
    rw [lossAt_first m c n h h0, e]
    show ∑ r : Fin 128, errR m c (rowOf ⟨n, h⟩ r) (n % 4) = _
    rw [h0, zero_add, Finset.sum_range_one]
  induction n with
  | zero => exact fun h => first 0 h rfl
  | succ n ih =>
    intro h j
    by_cases h0 : (n + 1) % 4 = 0
    · exact first (n + 1) h h0 j
    · have e := lossOf_pre m c ⟨n + 1, h⟩ j
      have hr : ∀ r, rowOf ⟨n + 1, h⟩ r = rowOf ⟨n, by omega⟩ r := fun r => Fin.ext (by show 128 * ((n + 1) / 4) + r.val = 128 * (n / 4) + r.val; omega)
      have hs : (n + 1) % 4 = n % 4 + 1 := by omega
      rw [lossAt_pos m c (n + 1) h h0, lossAdd_apply, e]
      show lossAt m c n _ j + ∑ r : Fin 128, errR m c (rowOf ⟨n + 1, h⟩ r) ((n + 1) % 4) = _
      rw [ih (by omega) j, hs, Finset.sum_range_succ _ (n % 4 + 1)]
      simp only [hr]

end Cert.KernelIdeal.Val

end
-- ==== Proof.Launch.lean ====
/- The body's obligation at every point, the region's run, and the frame. -/
module

public import proofs.«01_k».proof.Proof.State
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a live point the buffer is left at `after`; at an idle one that writes it back too; at another idle one as it was found. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]
/-- An idle buffer that is copied out holds what the proof data names. -/
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h, hf]
/-- An idle buffer that is not copied out keeps what it held. -/
theorem leaves_idle' (c : Dev nD) (w : Fin cfg0.W) (t : Fin cfg0.N) (h : cfg0.idle w (grid0.coords t) = true) (hf : ¬ (cfg0.win w).flush t = true) :
    (dats m 0 c).leavesExact w t = iprop(∃ d, owns (c : Thread nD τ) ((cfg0.win w).stage (cfg0.slots t w)) fullShare ((dats m 0 c).before w t d)) :=
  (dats m 0 c).leavesExact_idle w t h (Bool.eq_false_iff.mpr hf)

/-- The invariant before a tile's first point gives the scratches at anything. -/
theorem Phi_first (c : Dev nD) (t : Fin cfg0.N) :
    (dats m 0 c).Φ t.castSucc ⊢ iprop(((∃ d, owns (c : Thread nD τ) scFr fullShare d) ∗ (∃ d, owns (c : Thread nD τ) scQ fullShare d)) ∗ (∃ r, prngReg c r)) := by
  rw [Phi_castSucc]
  by_cases hz : t.val = 0
  · rw [show PhiS m c t.val (Nat.le_of_lt t.isLt) = Pipeline.ΦA spec0 c from by
      obtain ⟨n, hn⟩ := t; cases hz; rfl, ΦA_scratch]
  · rw [PhiS_pos m c _ _ hz]
    iintro ⟨⟨H0, H1⟩, Hg⟩
    isplitl [H0 H1]
    · isplitl [H0]
      · iexists _; iexact H0
      iexists _; iexact H1
    iexact Hg

/-- Before a later point the scratches hold what the step starts from. -/
theorem Phi_next (c : Dev nD) (t : Fin cfg0.N) (ht : ¬ t.val % 4 = 0) :
    (dats m 0 c).Φ t.castSucc = iprop((owns (c : Thread nD τ) scFr fullShare (pre m c t.val t.isLt).1 ∗ owns (c : Thread nD τ) scQ fullShare (pre m c t.val t.isLt).2) ∗ (∃ r, prngReg c r)) := by
  rw [Phi_castSucc, PhiS_pos m c _ _ (fun h => ht (by rw [h])), pre_pos m c t.val t.isLt ht]

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (mst0 t) fullShare ((dats m 0 c).before 0 t d))
    ∗ (∃ d, owns (c : Thread nD τ) (mst1 t) fullShare ((dats m 0 c).before 1 t d))
    ∗ (∃ d, owns (c : Thread nD τ) (mst2 t) fullShare ((dats m 0 c).before 2 t d))
    ∗ (∃ d, owns (c : Thread nD τ) (mst3 t) fullShare ((dats m 0 c).before 3 t d))
    ∗ (∃ d, owns (c : Thread nD τ) (mst4 t) fullShare ((dats m 0 c).before 4 t d))
    ∗ (∃ d, owns (c : Thread nD τ) (mst5 t) fullShare ((dats m 0 c).before 5 t d))
    ∗ (∃ d, owns (c : Thread nD τ) (mst6 t) fullShare ((dats m 0 c).before 6 t d))
    ∗ (∃ d, owns (c : Thread nD τ) (mst7 t) fullShare ((dats m 0 c).before 7 t d))
    ∗ (∃ d, owns (c : Thread nD τ) (mst8 t) fullShare ((dats m 0 c).before 8 t d))
    ∗ (∃ d, owns (c : Thread nD τ) (mst9 t) fullShare ((dats m 0 c).before 9 t d))
    ∗ (∃ d, owns (c : Thread nD τ) (mst10 t) fullShare ((dats m 0 c).before 10 t d))
    ∗ (∃ d, owns (c : Thread nD τ) (mst11 t) fullShare ((dats m 0 c).before 11 t d))
    ∗ (∃ d, owns (c : Thread nD τ) (mst12 t) fullShare ((dats m 0 c).before 12 t d))
    ∗ (∃ d, owns (c : Thread nD τ) (mst13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4000000 in
/-- The body's triple at a point of step 0. -/
theorem soundA (c : Dev nD) (t : Fin cfg0.N) (ht : t.val % 4 = 0) :
    bodyPre m c t ⊢ wp frame (wpE (defs₀ (F := F)) Variants.none c none) Set.univ (bodyAt0 t) (fun _ => bodyPost m c t) := by
  have hp : pre m c t.val t.isLt = (k0_pay3 (xAt m c t), k0_pay4) := pre_first m c t.val t.isLt ht
  have e0 : (dats m 0 c).leavesExact 0 t = owns (c : Thread nD τ) (mst0 t) fullShare (iblk m c 0 t) := (leaves_live m c 0 t rfl).trans (congrArg (owns (c : Thread nD τ) (mst0 t) fullShare) (after_0 m c t))
  have e1 : (dats m 0 c).leavesExact 1 t = owns (c : Thread nD τ) (mst1 t) fullShare (iblk m c 1 t) := (leaves_live m c 1 t rfl).trans (congrArg (owns (c : Thread nD τ) (mst1 t) fullShare) (after_1 m c t))
  have e2 : (dats m 0 c).leavesExact 2 t = owns (c : Thread nD τ) (mst2 t) fullShare (iblk m c 2 t) := (leaves_live m c 2 t rfl).trans (congrArg (owns (c : Thread nD τ) (mst2 t) fullShare) (after_2 m c t))
  have e3 : (dats m 0 c).leavesExact 3 t = owns (c : Thread nD τ) (mst3 t) fullShare (iblk m c 3 t) := (leaves_live m c 3 t rfl).trans (congrArg (owns (c : Thread nD τ) (mst3 t) fullShare) (after_3 m c t))
  have e4 : (dats m 0 c).leavesExact 4 t = iprop(∃ d, owns (c : Thread nD τ) (mst4 t) fullShare ((dats m 0 c).before 4 t d)) := leaves_idle' m c 4 t (idle4_of_not t (by omega)) (fun h => by have := (flush0_4 t).mp h; omega)
  have e5 : (dats m 0 c).leavesExact 5 t = owns (c : Thread nD τ) (mst5 t) fullShare (sProbs (k0_pay3 (xAt m c t)) (cwAt m c t) (cnAt m c t)) := (leaves_live m c 5 t (live5_of t ht)).trans (congrArg (owns (c : Thread nD τ) (mst5 t) fullShare) ((after_5 m c t).trans ((probsTile_self m c 0 (by decide) t ht).trans (by rw [hp]; rfl))))
  have e6 : (dats m 0 c).leavesExact 6 t = iprop(∃ d, owns (c : Thread nD τ) (mst6 t) fullShare ((dats m 0 c).before 6 t d)) := leaves_idle' m c 6 t (idle6_of_not t (by omega)) (fun h => by have := (flush0_6 t).mp h; omega)
  have e7 : (dats m 0 c).leavesExact 7 t = iprop(∃ d, owns (c : Thread nD τ) (mst7 t) fullShare ((dats m 0 c).before 7 t d)) := leaves_idle' m c 7 t (idle7_of_not t (by omega)) (fun h => by have := (flush0_7 t).mp h; omega)
  have e8 : (dats m 0 c).leavesExact 8 t = iprop(∃ d, owns (c : Thread nD τ) (mst8 t) fullShare ((dats m 0 c).before 8 t d)) := leaves_idle' m c 8 t (idle8_of_not t (by omega)) (fun h => by have := (flush0_8 t).mp h; omega)
  have e9 : (dats m 0 c).leavesExact 9 t = owns (c : Thread nD τ) (mst9 t) fullShare (sIdx (grid0.coords t) (kw1 (grid0.coords t) (keysAt m c t)) (kw2 (grid0.coords t) (keysAt m c t)) (k0_pay3 (xAt m c t)) (cwAt m c t) (cnAt m c t)) := (leaves_live m c 9 t (live9_of t ht)).trans (congrArg (owns (c : Thread nD τ) (mst9 t) fullShare) ((after_9 m c t).trans ((idxTile_self m c 0 (by decide) t ht).trans (by rw [hp]; rfl))))
  have e10 : (dats m 0 c).leavesExact 10 t = iprop(∃ d, owns (c : Thread nD τ) (mst10 t) fullShare ((dats m 0 c).before 10 t d)) := leaves_idle' m c 10 t (idle10_of_not t (by omega)) (fun h => by have := (flush0_10 t).mp h; omega)
  have e11 : (dats m 0 c).leavesExact 11 t = iprop(∃ d, owns (c : Thread nD τ) (mst11 t) fullShare ((dats m 0 c).before 11 t d)) := leaves_idle' m c 11 t (idle11_of_not t (by omega)) (fun h => by have := (flush0_11 t).mp h; omega)
  have e12 : (dats m 0 c).leavesExact 12 t = iprop(∃ d, owns (c : Thread nD τ) (mst12 t) fullShare ((dats m 0 c).before 12 t d)) := leaves_idle' m c 12 t (idle12_of_not t (by omega)) (fun h => by have := (flush0_12 t).mp h; omega)
  have e13 : (dats m 0 c).leavesExact 13 t = owns (c : Thread nD τ) (mst13 t) fullShare (sLoss (grid0.coords t) (kw1 (grid0.coords t) (keysAt m c t)) (kw2 (grid0.coords t) (keysAt m c t)) (k0_pay3 (xAt m c t)) (cwAt m c t) (cnAt m c t)) := (leaves_live m c 13 t (live13 t)).trans (congrArg (owns (c : Thread nD τ) (mst13 t) fullShare) ((after_13 m c t).trans ((lossAt_first m c t.val t.isLt ht).trans (by rw [hp]; rfl))))
  have eS : (dats m 0 c).Φ t.succ = iprop((owns (c : Thread nD τ) scFr fullShare (sFr (grid0.coords t) (kw1 (grid0.coords t) (keysAt m c t)) (kw2 (grid0.coords t) (keysAt m c t)) (k0_pay3 (xAt m c t)) (cwAt m c t) (cnAt m c t)) ∗ owns (c : Thread nD τ) scQ fullShare (sQ (grid0.coords t) (kw1 (grid0.coords t) (keysAt m c t)) (kw2 (grid0.coords t) (keysAt m c t)) (k0_pay3 (xAt m c t)) (cwAt m c t) (cnAt m c t) k0_pay4)) ∗ (∃ r, prngReg c r)) := (Phi_succ m c t).trans (by unfold post; rw [hp]; rfl)
  unfold bodyPre bodyPost bodyAt0
  rw [e0, e1, e2, e3, e4, e5, e6, e7, e8, e9, e10, e11, e12, e13, eS, show (dats m 0 c).owesAt () t.succ = (dats m 0 c).owesAt () t.castSucc from rfl]
  simp only [before_0, before_1, before_2, before_3]
  refine (BIClass.sep_mono (Phi_first m c t) (BI.Entails.refl _)).trans ?_
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runA c (grid0.coords t) _ _ _ _ _ _ _ _ _ _ _ _ _ _ _ _ _ _ _ _ _ _ _ _ _ _ _ _ _ _ _ _ ((cnd0_iff t).mpr (by omega)) ((cnd1_iff t).mpr (by omega)) (fun h => by have := (cnd2_iff t).mp h; omega) (fun h => by have := (cnd3_iff t).mp h; omega) (fun h => by have := (cnd4_iff t).mp h; omega) ((cnd5_iff t).mpr (by omega)) (fun h => by have := (cnd6_iff t).mp h; omega) (fun h => by have := (cnd7_iff t).mp h; omega) (keysAt m c t) (xAt m c t) (cwAt m c t) (cnAt m c t) ((dats m 0 c).before 4 t d4) ((dats m 0 c).before 5 t d5) ((dats m 0 c).before 6 t d6) ((dats m 0 c).before 7 t d7) ((dats m 0 c).before 8 t d8) ((dats m 0 c).before 9 t d9) ((dats m 0 c).before 10 t d10) ((dats m 0 c).before 11 t d11) ((dats m 0 c).before 12 t d12) ((dats m 0 c).before 13 t d13) s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexists d4; iexact H4
  isplitl [H5]; · iexact H5
  isplitl [H6]; · iexists d6; iexact H6
  isplitl [H7]; · iexists d7; iexact H7
  isplitl [H8]; · iexists d8; iexact H8
  isplitl [H9]; · iexact H9
  isplitl [H10]; · iexists d10; iexact H10
  isplitl [H11]; · iexists d11; iexact H11
  isplitl [H12]; · iexists d12; iexact H12
  iexact H13

set_option maxHeartbeats 4000000 in
/-- The body's triple at a point of step 1. -/
theorem soundB (c : Dev nD) (t : Fin cfg0.N) (ht : t.val % 4 = 1) :
    bodyPre m c t ⊢ wp frame (wpE (defs₀ (F := F)) Variants.none c none) Set.univ (bodyAt0 t) (fun _ => bodyPost m c t) := by
  have hne : ¬ t.val % 4 = 0 := by omega
  have e0 : (dats m 0 c).leavesExact 0 t = owns (c : Thread nD τ) (mst0 t) fullShare (iblk m c 0 t) := (leaves_live m c 0 t rfl).trans (congrArg (owns (c : Thread nD τ) (mst0 t) fullShare) (after_0 m c t))
  have e1 : (dats m 0 c).leavesExact 1 t = owns (c : Thread nD τ) (mst1 t) fullShare (iblk m c 1 t) := (leaves_live m c 1 t rfl).trans (congrArg (owns (c : Thread nD τ) (mst1 t) fullShare) (after_1 m c t))
  have e2 : (dats m 0 c).leavesExact 2 t = owns (c : Thread nD τ) (mst2 t) fullShare (iblk m c 2 t) := (leaves_live m c 2 t rfl).trans (congrArg (owns (c : Thread nD τ) (mst2 t) fullShare) (after_2 m c t))
  have e3 : (dats m 0 c).leavesExact 3 t = owns (c : Thread nD τ) (mst3 t) fullShare (iblk m c 3 t) := (leaves_live m c 3 t rfl).trans (congrArg (owns (c : Thread nD τ) (mst3 t) fullShare) (after_3 m c t))
  have e4 : (dats m 0 c).leavesExact 4 t = iprop(∃ d, owns (c : Thread nD τ) (mst4 t) fullShare ((dats m 0 c).before 4 t d)) := leaves_idle' m c 4 t (idle4_of_not t (by omega)) (fun h => by have := (flush0_4 t).mp h; omega)
  have e5 : (dats m 0 c).leavesExact 5 t = iprop(∃ d, owns (c : Thread nD τ) (mst5 t) fullShare ((dats m 0 c).before 5 t d)) := leaves_idle' m c 5 t (idle5_of_not t (by omega)) (fun h => by have := (flush0_5 t).mp h; omega)
  have e6 : (dats m 0 c).leavesExact 6 t = owns (c : Thread nD τ) (mst6 t) fullShare (sProbs (pre m c t.val t.isLt).1 (cwAt m c t) (cnAt m c t)) := (leaves_live m c 6 t (live6_of t ht)).trans (congrArg (owns (c : Thread nD τ) (mst6 t) fullShare) ((after_6 m c t).trans (probsTile_self m c 1 (by decide) t ht)))
  have e7 : (dats m 0 c).leavesExact 7 t = iprop(∃ d, owns (c : Thread nD τ) (mst7 t) fullShare ((dats m 0 c).before 7 t d)) := leaves_idle' m c 7 t (idle7_of_not t (by omega)) (fun h => by have := (flush0_7 t).mp h; omega)
  have e8 : (dats m 0 c).leavesExact 8 t = iprop(∃ d, owns (c : Thread nD τ) (mst8 t) fullShare ((dats m 0 c).before 8 t d)) := leaves_idle' m c 8 t (idle8_of_not t (by omega)) (fun h => by have := (flush0_8 t).mp h; omega)
  have e9 : (dats m 0 c).leavesExact 9 t = iprop(∃ d, owns (c : Thread nD τ) (mst9 t) fullShare ((dats m 0 c).before 9 t d)) := leaves_idle' m c 9 t (idle9_of_not t (by omega)) (fun h => by have := (flush0_9 t).mp h; omega)
  have e10 : (dats m 0 c).leavesExact 10 t = owns (c : Thread nD τ) (mst10 t) fullShare (sIdx (grid0.coords t) (kw1 (grid0.coords t) (keysAt m c t)) (kw2 (grid0.coords t) (keysAt m c t)) (pre m c t.val t.isLt).1 (cwAt m c t) (cnAt m c t)) := (leaves_live m c 10 t (live10_of t ht)).trans (congrArg (owns (c : Thread nD τ) (mst10 t) fullShare) ((after_10 m c t).trans (idxTile_self m c 1 (by decide) t ht)))
  have e11 : (dats m 0 c).leavesExact 11 t = iprop(∃ d, owns (c : Thread nD τ) (mst11 t) fullShare ((dats m 0 c).before 11 t d)) := leaves_idle' m c 11 t (idle11_of_not t (by omega)) (fun h => by have := (flush0_11 t).mp h; omega)
  have e12 : (dats m 0 c).leavesExact 12 t = iprop(∃ d, owns (c : Thread nD τ) (mst12 t) fullShare ((dats m 0 c).before 12 t d)) := leaves_idle' m c 12 t (idle12_of_not t (by omega)) (fun h => by have := (flush0_12 t).mp h; omega)
  have e13 : (dats m 0 c).leavesExact 13 t = owns (c : Thread nD τ) (mst13 t) fullShare (lossNext (grid0.coords t) (kw1 (grid0.coords t) (keysAt m c t)) (kw2 (grid0.coords t) (keysAt m c t)) (pre m c t.val t.isLt).1 (cwAt m c t) (cnAt m c t) (lossAt m c (t.val - 1) (by omega))) := (leaves_live m c 13 t (live13 t)).trans (congrArg (owns (c : Thread nD τ) (mst13 t) fullShare) ((after_13 m c t).trans ((lossAt_pos m c t.val t.isLt hne).trans rfl)))
  have eS : (dats m 0 c).Φ t.succ = iprop((owns (c : Thread nD τ) scFr fullShare (sFr (grid0.coords t) (kw1 (grid0.coords t) (keysAt m c t)) (kw2 (grid0.coords t) (keysAt m c t)) (pre m c t.val t.isLt).1 (cwAt m c t) (cnAt m c t)) ∗ owns (c : Thread nD τ) scQ fullShare (sQ (grid0.coords t) (kw1 (grid0.coords t) (keysAt m c t)) (kw2 (grid0.coords t) (keysAt m c t)) (pre m c t.val t.isLt).1 (cwAt m c t) (cnAt m c t) (pre m c t.val t.isLt).2)) ∗ (∃ r, prngReg c r)) := (Phi_succ m c t).trans (rfl)
  unfold bodyPre bodyPost bodyAt0
  rw [e0, e1, e2, e3, e4, e5, e6, e7, e8, e9, e10, e11, e12, e13, eS, show (dats m 0 c).owesAt () t.succ = (dats m 0 c).owesAt () t.castSucc from rfl]
  simp only [before_0, before_1, before_2, before_3, before_13_next m c t hne]
  rw [Phi_next m c t hne]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runB c (grid0.coords t) _ _ _ _ _ _ _ _ _ _ _ _ _ _ _ _ _ _ _ _ _ _ _ _ _ _ _ _ _ _ _ _ (fun h => by have := (cnd0_iff t).mp h; omega) (fun h => by have := (cnd1_iff t).mp h; omega) ((cnd2_iff t).mpr (by omega)) (fun h => by have := (cnd3_iff t).mp h; omega) (fun h => by have := (cnd4_iff t).mp h; omega) (fun h => by have := (cnd5_iff t).mp h; omega) ((cnd6_iff t).mpr (by omega)) (fun h => by have := (cnd7_iff t).mp h; omega) (keysAt m c t) (xAt m c t) (cwAt m c t) (cnAt m c t) ((dats m 0 c).before 4 t d4) ((dats m 0 c).before 5 t d5) ((dats m 0 c).before 6 t d6) ((dats m 0 c).before 7 t d7) ((dats m 0 c).before 8 t d8) ((dats m 0 c).before 9 t d9) ((dats m 0 c).before 10 t d10) ((dats m 0 c).before 11 t d11) ((dats m 0 c).before 12 t d12) (lossAt m c (t.val - 1) (by omega)) (pre m c t.val t.isLt).1 (pre m c t.val t.isLt).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  isplitl [H6]; · iexact H6
  isplitl [H7]; · iexists d7; iexact H7
  isplitl [H8]; · iexists d8; iexact H8
  isplitl [H9]; · iexists d9; iexact H9
  isplitl [H10]; · iexact H10
  isplitl [H11]; · iexists d11; iexact H11
  isplitl [H12]; · iexists d12; iexact H12
  iexact H13

set_option maxHeartbeats 4000000 in
/-- The body's triple at a point of step 2. -/
theorem soundC (c : Dev nD) (t : Fin cfg0.N) (ht : t.val % 4 = 2) :
    bodyPre m c t ⊢ wp frame (wpE (defs₀ (F := F)) Variants.none c none) Set.univ (bodyAt0 t) (fun _ => bodyPost m c t) := by
  have hne : ¬ t.val % 4 = 0 := by omega
  have e0 : (dats m 0 c).leavesExact 0 t = owns (c : Thread nD τ) (mst0 t) fullShare (iblk m c 0 t) := (leaves_live m c 0 t rfl).trans (congrArg (owns (c : Thread nD τ) (mst0 t) fullShare) (after_0 m c t))
  have e1 : (dats m 0 c).leavesExact 1 t = owns (c : Thread nD τ) (mst1 t) fullShare (iblk m c 1 t) := (leaves_live m c 1 t rfl).trans (congrArg (owns (c : Thread nD τ) (mst1 t) fullShare) (after_1 m c t))
  have e2 : (dats m 0 c).leavesExact 2 t = owns (c : Thread nD τ) (mst2 t) fullShare (iblk m c 2 t) := (leaves_live m c 2 t rfl).trans (congrArg (owns (c : Thread nD τ) (mst2 t) fullShare) (after_2 m c t))
  have e3 : (dats m 0 c).leavesExact 3 t = owns (c : Thread nD τ) (mst3 t) fullShare (iblk m c 3 t) := (leaves_live m c 3 t rfl).trans (congrArg (owns (c : Thread nD τ) (mst3 t) fullShare) (after_3 m c t))
  have e4 : (dats m 0 c).leavesExact 4 t = iprop(∃ d, owns (c : Thread nD τ) (mst4 t) fullShare ((dats m 0 c).before 4 t d)) := leaves_idle' m c 4 t (idle4_of_not t (by omega)) (fun h => by have := (flush0_4 t).mp h; omega)
  have e5 : (dats m 0 c).leavesExact 5 t = iprop(∃ d, owns (c : Thread nD τ) (mst5 t) fullShare ((dats m 0 c).before 5 t d)) := leaves_idle' m c 5 t (idle5_of_not t (by omega)) (fun h => by have := (flush0_5 t).mp h; omega)
  have e6 : (dats m 0 c).leavesExact 6 t = iprop(∃ d, owns (c : Thread nD τ) (mst6 t) fullShare ((dats m 0 c).before 6 t d)) := leaves_idle' m c 6 t (idle6_of_not t (by omega)) (fun h => by have := (flush0_6 t).mp h; omega)
  have e7 : (dats m 0 c).leavesExact 7 t = owns (c : Thread nD τ) (mst7 t) fullShare (sProbs (pre m c t.val t.isLt).1 (cwAt m c t) (cnAt m c t)) := (leaves_live m c 7 t (live7_of t ht)).trans (congrArg (owns (c : Thread nD τ) (mst7 t) fullShare) ((after_7 m c t).trans (probsTile_self m c 2 (by decide) t ht)))
  have e8 : (dats m 0 c).leavesExact 8 t = iprop(∃ d, owns (c : Thread nD τ) (mst8 t) fullShare ((dats m 0 c).before 8 t d)) := leaves_idle' m c 8 t (idle8_of_not t (by omega)) (fun h => by have := (flush0_8 t).mp h; omega)
  have e9 : (dats m 0 c).leavesExact 9 t = iprop(∃ d, owns (c : Thread nD τ) (mst9 t) fullShare ((dats m 0 c).before 9 t d)) := leaves_idle' m c 9 t (idle9_of_not t (by omega)) (fun h => by have := (flush0_9 t).mp h; omega)
  have e10 : (dats m 0 c).leavesExact 10 t = iprop(∃ d, owns (c : Thread nD τ) (mst10 t) fullShare ((dats m 0 c).before 10 t d)) := leaves_idle' m c 10 t (idle10_of_not t (by omega)) (fun h => by have := (flush0_10 t).mp h; omega)
  have e11 : (dats m 0 c).leavesExact 11 t = owns (c : Thread nD τ) (mst11 t) fullShare (sIdx (grid0.coords t) (kw1 (grid0.coords t) (keysAt m c t)) (kw2 (grid0.coords t) (keysAt m c t)) (pre m c t.val t.isLt).1 (cwAt m c t) (cnAt m c t)) := (leaves_live m c 11 t (live11_of t ht)).trans (congrArg (owns (c : Thread nD τ) (mst11 t) fullShare) ((after_11 m c t).trans (idxTile_self m c 2 (by decide) t ht)))
  have e12 : (dats m 0 c).leavesExact 12 t = iprop(∃ d, owns (c : Thread nD τ) (mst12 t) fullShare ((dats m 0 c).before 12 t d)) := leaves_idle' m c 12 t (idle12_of_not t (by omega)) (fun h => by have := (flush0_12 t).mp h; omega)
  have e13 : (dats m 0 c).leavesExact 13 t = owns (c : Thread nD τ) (mst13 t) fullShare (lossNext (grid0.coords t) (kw1 (grid0.coords t) (keysAt m c t)) (kw2 (grid0.coords t) (keysAt m c t)) (pre m c t.val t.isLt).1 (cwAt m c t) (cnAt m c t) (lossAt m c (t.val - 1) (by omega))) := (leaves_live m c 13 t (live13 t)).trans (congrArg (owns (c : Thread nD τ) (mst13 t) fullShare) ((after_13 m c t).trans ((lossAt_pos m c t.val t.isLt hne).trans rfl)))
  have eS : (dats m 0 c).Φ t.succ = iprop((owns (c : Thread nD τ) scFr fullShare (sFr (grid0.coords t) (kw1 (grid0.coords t) (keysAt m c t)) (kw2 (grid0.coords t) (keysAt m c t)) (pre m c t.val t.isLt).1 (cwAt m c t) (cnAt m c t)) ∗ owns (c : Thread nD τ) scQ fullShare (sQ (grid0.coords t) (kw1 (grid0.coords t) (keysAt m c t)) (kw2 (grid0.coords t) (keysAt m c t)) (pre m c t.val t.isLt).1 (cwAt m c t) (cnAt m c t) (pre m c t.val t.isLt).2)) ∗ (∃ r, prngReg c r)) := (Phi_succ m c t).trans (rfl)
  unfold bodyPre bodyPost bodyAt0
  rw [e0, e1, e2, e3, e4, e5, e6, e7, e8, e9, e10, e11, e12, e13, eS, show (dats m 0 c).owesAt () t.succ = (dats m 0 c).owesAt () t.castSucc from rfl]
  simp only [before_0, before_1, before_2, before_3, before_13_next m c t hne]
  rw [Phi_next m c t hne]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runC c (grid0.coords t) _ _ _ _ _ _ _ _ _ _ _ _ _ _ _ _ _ _ _ _ _ _ _ _ _ _ _ _ _ _ _ _ (fun h => by have := (cnd0_iff t).mp h; omega) (fun h => by have := (cnd1_iff t).mp h; omega) (fun h => by have := (cnd2_iff t).mp h; omega) ((cnd3_iff t).mpr (by omega)) (fun h => by have := (cnd4_iff t).mp h; omega) (fun h => by have := (cnd5_iff t).mp h; omega) ((cnd6_iff t).mpr (by omega)) (fun h => by have := (cnd7_iff t).mp h; omega) (keysAt m c t) (xAt m c t) (cwAt m c t) (cnAt m c t) ((dats m 0 c).before 4 t d4) ((dats m 0 c).before 5 t d5) ((dats m 0 c).before 6 t d6) ((dats m 0 c).before 7 t d7) ((dats m 0 c).before 8 t d8) ((dats m 0 c).before 9 t d9) ((dats m 0 c).before 10 t d10) ((dats m 0 c).before 11 t d11) ((dats m 0 c).before 12 t d12) (lossAt m c (t.val - 1) (by omega)) (pre m c t.val t.isLt).1 (pre m c t.val t.isLt).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  isplitl [H6]; · iexists d6; iexact H6
  isplitl [H7]; · iexact H7
  isplitl [H8]; · iexists d8; iexact H8
  isplitl [H9]; · iexists d9; iexact H9
  isplitl [H10]; · iexists d10; iexact H10
  isplitl [H11]; · iexact H11
  isplitl [H12]; · iexists d12; iexact H12
  iexact H13

set_option maxHeartbeats 4000000 in
/-- The body's triple at a point of step 3. -/
theorem soundD (c : Dev nD) (t : Fin cfg0.N) (ht : t.val % 4 = 3) :
    bodyPre m c t ⊢ wp frame (wpE (defs₀ (F := F)) Variants.none c none) Set.univ (bodyAt0 t) (fun _ => bodyPost m c t) := by
  have hne : ¬ t.val % 4 = 0 := by omega
  have e0 : (dats m 0 c).leavesExact 0 t = owns (c : Thread nD τ) (mst0 t) fullShare (iblk m c 0 t) := (leaves_live m c 0 t rfl).trans (congrArg (owns (c : Thread nD τ) (mst0 t) fullShare) (after_0 m c t))
  have e1 : (dats m 0 c).leavesExact 1 t = owns (c : Thread nD τ) (mst1 t) fullShare (iblk m c 1 t) := (leaves_live m c 1 t rfl).trans (congrArg (owns (c : Thread nD τ) (mst1 t) fullShare) (after_1 m c t))
  have e2 : (dats m 0 c).leavesExact 2 t = owns (c : Thread nD τ) (mst2 t) fullShare (iblk m c 2 t) := (leaves_live m c 2 t rfl).trans (congrArg (owns (c : Thread nD τ) (mst2 t) fullShare) (after_2 m c t))
  have e3 : (dats m 0 c).leavesExact 3 t = owns (c : Thread nD τ) (mst3 t) fullShare (iblk m c 3 t) := (leaves_live m c 3 t rfl).trans (congrArg (owns (c : Thread nD τ) (mst3 t) fullShare) (after_3 m c t))
  have e4 : (dats m 0 c).leavesExact 4 t = owns (c : Thread nD τ) (mst4 t) fullShare (sQ (grid0.coords t) (kw1 (grid0.coords t) (keysAt m c t)) (kw2 (grid0.coords t) (keysAt m c t)) (pre m c t.val t.isLt).1 (cwAt m c t) (cnAt m c t) (pre m c t.val t.isLt).2) := (leaves_live m c 4 t (live4_of t ht)).trans (congrArg (owns (c : Thread nD τ) (mst4 t) fullShare) ((after_4 m c t).trans rfl))
  have e5 : (dats m 0 c).leavesExact 5 t = owns (c : Thread nD τ) (mst5 t) fullShare ((dats m 0 c).after 5 t) := leaves_flush m c 5 t (idle5_of_not t (by omega)) ((flush0_5 t).mpr ht)
  have e6 : (dats m 0 c).leavesExact 6 t = owns (c : Thread nD τ) (mst6 t) fullShare ((dats m 0 c).after 6 t) := leaves_flush m c 6 t (idle6_of_not t (by omega)) ((flush0_6 t).mpr ht)
  have e7 : (dats m 0 c).leavesExact 7 t = owns (c : Thread nD τ) (mst7 t) fullShare ((dats m 0 c).after 7 t) := leaves_flush m c 7 t (idle7_of_not t (by omega)) ((flush0_7 t).mpr ht)
  have e8 : (dats m 0 c).leavesExact 8 t = owns (c : Thread nD τ) (mst8 t) fullShare (sProbs (pre m c t.val t.isLt).1 (cwAt m c t) (cnAt m c t)) := (leaves_live m c 8 t (live8_of t ht)).trans (congrArg (owns (c : Thread nD τ) (mst8 t) fullShare) ((after_8 m c t).trans (probsTile_self m c 3 (by decide) t ht)))
  have e9 : (dats m 0 c).leavesExact 9 t = owns (c : Thread nD τ) (mst9 t) fullShare ((dats m 0 c).after 9 t) := leaves_flush m c 9 t (idle9_of_not t (by omega)) ((flush0_9 t).mpr ht)
  have e10 : (dats m 0 c).leavesExact 10 t = owns (c : Thread nD τ) (mst10 t) fullShare ((dats m 0 c).after 10 t) := leaves_flush m c 10 t (idle10_of_not t (by omega)) ((flush0_10 t).mpr ht)
  have e11 : (dats m 0 c).leavesExact 11 t = owns (c : Thread nD τ) (mst11 t) fullShare ((dats m 0 c).after 11 t) := leaves_flush m c 11 t (idle11_of_not t (by omega)) ((flush0_11 t).mpr ht)
  have e12 : (dats m 0 c).leavesExact 12 t = owns (c : Thread nD τ) (mst12 t) fullShare (sIdx (grid0.coords t) (kw1 (grid0.coords t) (keysAt m c t)) (kw2 (grid0.coords t) (keysAt m c t)) (pre m c t.val t.isLt).1 (cwAt m c t) (cnAt m c t)) := (leaves_live m c 12 t (live12_of t ht)).trans (congrArg (owns (c : Thread nD τ) (mst12 t) fullShare) ((after_12 m c t).trans (idxTile_self m c 3 (by decide) t ht)))
  have e13 : (dats m 0 c).leavesExact 13 t = owns (c : Thread nD τ) (mst13 t) fullShare (lossNext (grid0.coords t) (kw1 (grid0.coords t) (keysAt m c t)) (kw2 (grid0.coords t) (keysAt m c t)) (pre m c t.val t.isLt).1 (cwAt m c t) (cnAt m c t) (lossAt m c (t.val - 1) (by omega))) := (leaves_live m c 13 t (live13 t)).trans (congrArg (owns (c : Thread nD τ) (mst13 t) fullShare) ((after_13 m c t).trans ((lossAt_pos m c t.val t.isLt hne).trans rfl)))
  have eS : (dats m 0 c).Φ t.succ = iprop((owns (c : Thread nD τ) scFr fullShare (sFr (grid0.coords t) (kw1 (grid0.coords t) (keysAt m c t)) (kw2 (grid0.coords t) (keysAt m c t)) (pre m c t.val t.isLt).1 (cwAt m c t) (cnAt m c t)) ∗ owns (c : Thread nD τ) scQ fullShare (sQ (grid0.coords t) (kw1 (grid0.coords t) (keysAt m c t)) (kw2 (grid0.coords t) (keysAt m c t)) (pre m c t.val t.isLt).1 (cwAt m c t) (cnAt m c t) (pre m c t.val t.isLt).2)) ∗ (∃ r, prngReg c r)) := (Phi_succ m c t).trans (rfl)
  unfold bodyPre bodyPost bodyAt0
  rw [e0, e1, e2, e3, e4, e5, e6, e7, e8, e9, e10, e11, e12, e13, eS, show (dats m 0 c).owesAt () t.succ = (dats m 0 c).owesAt () t.castSucc from rfl]
  simp only [before_0, before_1, before_2, before_3, before_13_next m c t hne, before_5_last m c t ht, before_6_last m c t ht, before_7_last m c t ht, before_9_last m c t ht, before_10_last m c t ht, before_11_last m c t ht]
  rw [Phi_next m c t hne]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runD c (grid0.coords t) _ _ _ _ _ _ _ _ _ _ _ _ _ _ _ _ _ _ _ _ _ _ _ _ _ _ _ _ _ _ _ _ (fun h => by have := (cnd0_iff t).mp h; omega) (fun h => by have := (cnd1_iff t).mp h; omega) (fun h => by have := (cnd2_iff t).mp h; omega) (fun h => by have := (cnd3_iff t).mp h; omega) ((cnd4_iff t).mpr (by omega)) (fun h => by have := (cnd5_iff t).mp h; omega) ((cnd6_iff t).mpr (by omega)) ((cnd7_iff t).mpr (by omega)) (keysAt m c t) (xAt m c t) (cwAt m c t) (cnAt m c t) ((dats m 0 c).before 4 t d4) ((dats m 0 c).after 5 t) ((dats m 0 c).after 6 t) ((dats m 0 c).after 7 t) ((dats m 0 c).before 8 t d8) ((dats m 0 c).after 9 t) ((dats m 0 c).after 10 t) ((dats m 0 c).after 11 t) ((dats m 0 c).before 12 t d12) (lossAt m c (t.val - 1) (by omega)) (pre m c t.val t.isLt).1 (pre m c t.val t.isLt).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body's triple at every point. -/
theorem sound_body (c : Dev nD) (t : Fin cfg0.N) :
    bodyPre m c t ⊢ wp frame (wpE (defs₀ (F := F)) Variants.none c none) Set.univ (bodyAt0 t) (fun _ => bodyPost m c t) := by
  rcases (show t.val % 4 = 0 ∨ t.val % 4 = 1 ∨ t.val % 4 = 2 ∨ t.val % 4 = 3 by omega) with h | h | h | h
  · exact soundA m c t h
  · exact soundB m c t h
  · exact soundC m c t h
  · exact soundD m c t h

/-- The body as the table names it, at a point. -/
theorem body_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands the region is the invariant before the first point. -/
theorem hin (c : Dev nD) : Pipeline.ΦA spec0 c ⊢ (dats m 0 c).Φ 0 := Entails.refl _

/-- After the last point the invariant gives the scratches back. -/
theorem hout (c : Dev nD) : (dats m 0 c).Φ (Fin.last cfg0.N) ⊢ Pipeline.ΦA spec0 c := by
  have hN : cfg0.N = 72 := N_0
  rw [show (dats m 0 c).Φ (Fin.last cfg0.N) = PhiS m c cfg0.N (Nat.le_refl _) from rfl, PhiS_pos m c _ _ (by omega), ΦA_scratch]
  iintro ⟨⟨H0, H1⟩, Hg⟩
  isplitl [H0 H1]
  · isplitl [H0]
    · iexists _; iexact H0
    iexists _; iexact H1
  iexact Hg

set_option backward.isDefEq.respectTransparency.types false in
set_option maxHeartbeats 800000 in
/-- The run: every array of the region ends at its assembled contents, every other buffer at what the host operations after it leave, and
    every counter at zero. -/
theorem run_main : θ_run defs (onTc (τ := τ) (main (F := F))) (s₀ m ρ)
    (fun r => (Pipeline.FramePost cfgs (dats m) (0 : Fin 1) (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program ends with its arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Val

end
-- ==== Proof.KArr.lean ====
/- The region's result arrays: where their blocks lie. -/
module

public import proofs.«01_k».proof.Proof.KRows
public import proofs.«01_k».proof.Proof.Launch
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rvq

open Cert.ReferenceIdeal.Val (pos rowR cb ltR)

variable (m : (ℓ : Loc nD τ sig) → Buf (Elt Ideal) ℓ) (c : Dev nD)

/-! ### The region's result arrays, each at its final contents -/

/-- The block that window 4 holds at a point, by the tile. -/
theorem index4 : ∀ t : Fin cfg0.N, win0_4.index t = ![t.val / 4, 0] := (by decide +kernel : ∀ t : Fin grid0.N, _)
/-- The block that window 5 holds at a point, by the tile. -/
theorem index5 : ∀ t : Fin cfg0.N, win0_5.index t = ![t.val / 4, 0] := (by decide +kernel : ∀ t : Fin grid0.N, _)
/-- The block that window 6 holds at a point, by the tile. -/
theorem index6 : ∀ t : Fin cfg0.N, win0_6.index t = ![t.val / 4, 0] := (by decide +kernel : ∀ t : Fin grid0.N, _)
/-- The block that window 7 holds at a point, by the tile. -/
theorem index7 : ∀ t : Fin cfg0.N, win0_7.index t = ![t.val / 4, 0] := (by decide +kernel : ∀ t : Fin grid0.N, _)
/-- The block that window 8 holds at a point, by the tile. -/
theorem index8 : ∀ t : Fin cfg0.N, win0_8.index t = ![t.val / 4, 0] := (by decide +kernel : ∀ t : Fin grid0.N, _)
/-- The block that window 9 holds at a point, by the tile. -/
theorem index9 : ∀ t : Fin cfg0.N, win0_9.index t = ![t.val / 4, 0] := (by decide +kernel : ∀ t : Fin grid0.N, _)
/-- The block that window 10 holds at a point, by the tile. -/
theorem index10 : ∀ t : Fin cfg0.N, win0_10.index t = ![t.val / 4, 0] := (by decide +kernel : ∀ t : Fin grid0.N, _)
/-- The block that window 11 holds at a point, by the tile. -/
theorem index11 : ∀ t : Fin cfg0.N, win0_11.index t = ![t.val / 4, 0] := (by decide +kernel : ∀ t : Fin grid0.N, _)
/-- The block that window 12 holds at a point, by the tile. -/
theorem index12 : ∀ t : Fin cfg0.N, win0_12.index t = ![t.val / 4, 0] := (by decide +kernel : ∀ t : Fin grid0.N, _)
/-- The block that window 13 holds at a point, by the tile. -/
theorem index13 : ∀ t : Fin cfg0.N, win0_13.index t = ![t.val / 4, 0, 0] := (by decide +kernel : ∀ t : Fin grid0.N, _)

/-- The summed codewords. -/
abbrev arrQ : S2304x64.Idx → EReal := fun i => quaR m c (i 0) 4 (i 1)
/-- The soft targets of a step. -/
abbrev arrP (s : ℕ) : S2304x8192.Idx → EReal := fun i => soft (cb (X1 m c)) (resR m c (i 0) s) (i 1)
/-- The codeword numbers of a step. -/
abbrev arrI (s : ℕ) : S2304x1.Idx → BitVec 32 := fun i => BitVec.ofNat 32 (picR m c (i 0) s).val
/-- The tiles' losses. -/
def tileLoss (q : Fin 18) : EReal := ∑ s ∈ Finset.range 4, ∑ r : Fin 128, errR m c ⟨128 * q.val + r.val, by omega⟩ s
/-- The array of the tiles' losses. -/
abbrev arrL : S18x1x1.Idx → EReal := fun i => tileLoss m c (i 0)
/-- A point's tile. -/
def tileOf (t : Fin cfg0.N) : Fin 18 := ⟨t.val / 4, by have h := lt_of_lt_of_eq t.isLt N_0; omega⟩

/-- Where the block of a point lies. -/
theorem place_4 (t : Fin cfg0.N) (y : S128x64.Idx) :
    (show S2304x64.Idx from ((cfg0.win 4).blk t).view.emb y) 0 = rowOf t (y 0) ∧ (show S2304x64.Idx from ((cfg0.win 4).blk t).view.emb y) 1 = y 1 := by
  refine ⟨Fin.ext ?_, Fin.ext ?_⟩
  · show (((cfg0.win 4).blk t).view.emb y 0 : ℕ) = 128 * (t.val / 4) + (y 0).val
    blk_simp [index4]
    omega
  · show (((cfg0.win 4).blk t).view.emb y 1 : ℕ) = (y 1).val
    blk_simp [index4]
/-- Where the block of a point lies. -/
theorem place_5 (t : Fin cfg0.N) (y : S128x8192.Idx) :
    (show S2304x8192.Idx from ((cfg0.win 5).blk t).view.emb y) 0 = rowOf t (y 0) ∧ (show S2304x8192.Idx from ((cfg0.win 5).blk t).view.emb y) 1 = y 1 := by
  refine ⟨Fin.ext ?_, Fin.ext ?_⟩
  · show (((cfg0.win 5).blk t).view.emb y 0 : ℕ) = 128 * (t.val / 4) + (y 0).val
    blk_simp [index5]
    omega
  · show (((cfg0.win 5).blk t).view.emb y 1 : ℕ) = (y 1).val
    blk_simp [index5]
/-- Where the block of a point lies. -/
theorem place_6 (t : Fin cfg0.N) (y : S128x8192.Idx) :
    (show S2304x8192.Idx from ((cfg0.win 6).blk t).view.emb y) 0 = rowOf t (y 0) ∧ (show S2304x8192.Idx from ((cfg0.win 6).blk t).view.emb y) 1 = y 1 := by
  refine ⟨Fin.ext ?_, Fin.ext ?_⟩
  · show (((cfg0.win 6).blk t).view.emb y 0 : ℕ) = 128 * (t.val / 4) + (y 0).val
    blk_simp [index6]
    omega
  · show (((cfg0.win 6).blk t).view.emb y 1 : ℕ) = (y 1).val
    blk_simp [index6]
/-- Where the block of a point lies. -/
theorem place_7 (t : Fin cfg0.N) (y : S128x8192.Idx) :
    (show S2304x8192.Idx from ((cfg0.win 7).blk t).view.emb y) 0 = rowOf t (y 0) ∧ (show S2304x8192.Idx from ((cfg0.win 7).blk t).view.emb y) 1 = y 1 := by
  refine ⟨Fin.ext ?_, Fin.ext ?_⟩
  · show (((cfg0.win 7).blk t).view.emb y 0 : ℕ) = 128 * (t.val / 4) + (y 0).val
    blk_simp [index7]
    omega
  · show (((cfg0.win 7).blk t).view.emb y 1 : ℕ) = (y 1).val
    blk_simp [index7]
/-- Where the block of a point lies. -/
theorem place_8 (t : Fin cfg0.N) (y : S128x8192.Idx) :
    (show S2304x8192.Idx from ((cfg0.win 8).blk t).view.emb y) 0 = rowOf t (y 0) ∧ (show S2304x8192.Idx from ((cfg0.win 8).blk t).view.emb y) 1 = y 1 := by
  refine ⟨Fin.ext ?_, Fin.ext ?_⟩
  · show (((cfg0.win 8).blk t).view.emb y 0 : ℕ) = 128 * (t.val / 4) + (y 0).val
    blk_simp [index8]
    omega
  · show (((cfg0.win 8).blk t).view.emb y 1 : ℕ) = (y 1).val
    blk_simp [index8]
/-- Where the block of a point lies. -/
theorem place_9 (t : Fin cfg0.N) (y : S128x1.Idx) :
    (show S2304x1.Idx from ((cfg0.win 9).blk t).view.emb y) 0 = rowOf t (y 0) ∧ (show S2304x1.Idx from ((cfg0.win 9).blk t).view.emb y) 1 = y 1 := by
  refine ⟨Fin.ext ?_, Fin.ext ?_⟩
  · show (((cfg0.win 9).blk t).view.emb y 0 : ℕ) = 128 * (t.val / 4) + (y 0).val
    blk_simp [index9]
    omega
  · show (((cfg0.win 9).blk t).view.emb y 1 : ℕ) = (y 1).val
    blk_simp [index9]
/-- Where the block of a point lies. -/
theorem place_10 (t : Fin cfg0.N) (y : S128x1.Idx) :
    (show S2304x1.Idx from ((cfg0.win 10).blk t).view.emb y) 0 = rowOf t (y 0) ∧ (show S2304x1.Idx from ((cfg0.win 10).blk t).view.emb y) 1 = y 1 := by
  refine ⟨Fin.ext ?_, Fin.ext ?_⟩
  · show (((cfg0.win 10).blk t).view.emb y 0 : ℕ) = 128 * (t.val / 4) + (y 0).val
    blk_simp [index10]
    omega
  · show (((cfg0.win 10).blk t).view.emb y 1 : ℕ) = (y 1).val
    blk_simp [index10]
/-- Where the block of a point lies. -/
theorem place_11 (t : Fin cfg0.N) (y : S128x1.Idx) :
    (show S2304x1.Idx from ((cfg0.win 11).blk t).view.emb y) 0 = rowOf t (y 0) ∧ (show S2304x1.Idx from ((cfg0.win 11).blk t).view.emb y) 1 = y 1 := by
  refine ⟨Fin.ext ?_, Fin.ext ?_⟩
  · show (((cfg0.win 11).blk t).view.emb y 0 : ℕ) = 128 * (t.val / 4) + (y 0).val
    blk_simp [index11]
    omega
  · show (((cfg0.win 11).blk t).view.emb y 1 : ℕ) = (y 1).val
    blk_simp [index11]
/-- Where the block of a point lies. -/
theorem place_12 (t : Fin cfg0.N) (y : S128x1.Idx) :
    (show S2304x1.Idx from ((cfg0.win 12).blk t).view.emb y) 0 = rowOf t (y 0) ∧ (show S2304x1.Idx from ((cfg0.win 12).blk t).view.emb y) 1 = y 1 := by
  refine ⟨Fin.ext ?_, Fin.ext ?_⟩
  · show (((cfg0.win 12).blk t).view.emb y 0 : ℕ) = 128 * (t.val / 4) + (y 0).val
    blk_simp [index12]
    omega
  · show (((cfg0.win 12).blk t).view.emb y 1 : ℕ) = (y 1).val
    blk_simp [index12]

/-- Where the block of a point lies. -/
theorem place_13 (t : Fin cfg0.N) (y : S1x1x1.Idx) : (show S18x1x1.Idx from ((cfg0.win 13).blk t).view.emb y) 0 = tileOf t := by
  refine Fin.ext ?_
  show (((cfg0.win 13).blk t).view.emb y 0 : ℕ) = t.val / 4
  blk_simp [index13]
/-- A tile's loss after its last step. -/
theorem lossAt_tile (t : Fin cfg0.N) (h3 : t.val % 4 = 3) (y : S1x1x1.Idx) : lossAt m c t.val t.isLt y = tileLoss m c (tileOf t) := by
  rw [lossAt_apply, h3]
  rfl
/-- The codeword numbers of a step of a tile. -/
theorem idxTile_row (s : ℕ) (hs : s < 4) (t : Fin cfg0.N) (y : S128x1.Idx) : idxTile m c s hs t y = BitVec.ofNat 32 (picR m c (rowOf t (y 0)) s).val := by
  have e : y = ix2 (⟨(y 0).val, (y 0).isLt⟩ : Fin 128) (⟨(y 1).val, (y 1).isLt⟩ : Fin 1) := eq_ix2 y
  exact (congrArg (idxTile m c s hs t) e).trans (idxTile_apply m c s hs t _ _)

end Cert.KernelIdeal.Val

end
-- ==== Proof.KArrQ.lean ====
/- The region's result arrays: the summed codewords and the losses. -/
module

public import proofs.«01_k».proof.Proof.KArr
public import proofs.«01_k».proof.Proof.Launch
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rvq

open Cert.ReferenceIdeal.Val (pos rowR cb ltR)

variable (m : (ℓ : Loc nD τ sig) → Buf (Elt Ideal) ℓ) (c : Dev nD)
/-- Window 4's array ends with the rows' summed codewords. -/
theorem final_4 : (dats m 0 c).arrAt 4 cfg0.N = arrQ m c := by
  refine (dats m 0 c).arrAt_eq_of_covers 4 _ (by decide +kernel) fun t hf y => ?_
  have h3 : t.val % 4 = 3 := (flush0_4 t).mp hf
  blk_simp
  rw [after_4]
  idx_vars y
  rw [post_q, h3]
  exact congrArg₂ (fun r k => quaR m c r 4 k) (place_4 t (ix2 y0 y1)).1.symm (place_4 t (ix2 y0 y1)).2.symm

/-- Window 13's array ends with the tiles' losses. -/
theorem final_13 : (dats m 0 c).arrAt 13 cfg0.N = arrL m c := by
  refine (dats m 0 c).arrAt_eq_of_covers 13 _ (by decide +kernel) fun t hf y => ?_
  have h3 : t.val % 4 = 3 := (flush0_13 t).mp hf
  blk_simp
  rw [after_13]
  exact (lossAt_tile m c t h3 y).trans (congrArg (tileLoss m c) (place_13 t y).symm)

end Cert.KernelIdeal.Val

end
-- ==== Proof.KArrP.lean ====
/- The region's result arrays: the soft targets. -/
module

public import proofs.«01_k».proof.Proof.KArr
public import proofs.«01_k».proof.Proof.Launch
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rvq

open Cert.ReferenceIdeal.Val (pos rowR cb ltR)

variable (m : (ℓ : Loc nD τ sig) → Buf (Elt Ideal) ℓ) (c : Dev nD)
/-- Window 5's array ends with the soft targets of step 0. -/
theorem final_5 : (dats m 0 c).arrAt 5 cfg0.N = arrP m c 0 := by
  refine (dats m 0 c).arrAt_eq_of_covers 5 _ (by decide +kernel) fun t hf y => ?_
  blk_simp
  rw [after_5]
  idx_vars y
  rw [probsTile_apply]
  exact congrArg₂ (fun r j => soft (cb (X1 m c)) (resR m c r 0) j) (place_5 t (ix2 y0 y1)).1.symm (place_5 t (ix2 y0 y1)).2.symm

/-- Window 6's array ends with the soft targets of step 1. -/
theorem final_6 : (dats m 0 c).arrAt 6 cfg0.N = arrP m c 1 := by
  refine (dats m 0 c).arrAt_eq_of_covers 6 _ (by decide +kernel) fun t hf y => ?_
  blk_simp
  rw [after_6]
  idx_vars y
  rw [probsTile_apply]
  exact congrArg₂ (fun r j => soft (cb (X1 m c)) (resR m c r 1) j) (place_6 t (ix2 y0 y1)).1.symm (place_6 t (ix2 y0 y1)).2.symm

/-- Window 7's array ends with the soft targets of step 2. -/
theorem final_7 : (dats m 0 c).arrAt 7 cfg0.N = arrP m c 2 := by
  refine (dats m 0 c).arrAt_eq_of_covers 7 _ (by decide +kernel) fun t hf y => ?_
  blk_simp
  rw [after_7]
  idx_vars y
  rw [probsTile_apply]
  exact congrArg₂ (fun r j => soft (cb (X1 m c)) (resR m c r 2) j) (place_7 t (ix2 y0 y1)).1.symm (place_7 t (ix2 y0 y1)).2.symm

/-- Window 8's array ends with the soft targets of step 3. -/
theorem final_8 : (dats m 0 c).arrAt 8 cfg0.N = arrP m c 3 := by
  refine (dats m 0 c).arrAt_eq_of_covers 8 _ (by decide +kernel) fun t hf y => ?_
  blk_simp
  rw [after_8]
  idx_vars y
  rw [probsTile_apply]
  exact congrArg₂ (fun r j => soft (cb (X1 m c)) (resR m c r 3) j) (place_8 t (ix2 y0 y1)).1.symm (place_8 t (ix2 y0 y1)).2.symm

end Cert.KernelIdeal.Val

end
-- ==== Proof.KArrI.lean ====
/- The region's result arrays: the codeword numbers of the first two steps. -/
module

public import proofs.«01_k».proof.Proof.KArr
public import proofs.«01_k».proof.Proof.Launch
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rvq

open Cert.ReferenceIdeal.Val (pos rowR cb ltR)

variable (m : (ℓ : Loc nD τ sig) → Buf (Elt Ideal) ℓ) (c : Dev nD)

/-- Window 9's array ends with the codeword numbers of step 0. -/
theorem final_9 : (dats m 0 c).arrAt 9 cfg0.N = arrI m c 0 := by
  refine (dats m 0 c).arrAt_eq_of_covers 9 _ (by decide +kernel) fun t hf y => ?_
  refine (congrFun (after_9 m c t) y).trans ?_
  exact (idxTile_row m c 0 (by decide) t y).trans (congrArg (fun r => BitVec.ofNat 32 (picR m c r 0).val) (place_9 t y).1.symm)

/-- Window 10's array ends with the codeword numbers of step 1. -/
theorem final_10 : (dats m 0 c).arrAt 10 cfg0.N = arrI m c 1 := by
  refine (dats m 0 c).arrAt_eq_of_covers 10 _ (by decide +kernel) fun t hf y => ?_
  refine (congrFun (after_10 m c t) y).trans ?_
  exact (idxTile_row m c 1 (by decide) t y).trans (congrArg (fun r => BitVec.ofNat 32 (picR m c r 1).val) (place_10 t y).1.symm)

end Cert.KernelIdeal.Val

end
-- ==== Proof.KArrJ.lean ====
/- The region's result arrays: the codeword numbers of the last two steps. -/
module

public import proofs.«01_k».proof.Proof.KArr
public import proofs.«01_k».proof.Proof.Launch
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rvq

open Cert.ReferenceIdeal.Val (pos rowR cb ltR)

variable (m : (ℓ : Loc nD τ sig) → Buf (Elt Ideal) ℓ) (c : Dev nD)
/-- Window 11's array ends with the codeword numbers of step 2. -/
theorem final_11 : (dats m 0 c).arrAt 11 cfg0.N = arrI m c 2 := by
  refine (dats m 0 c).arrAt_eq_of_covers 11 _ (by decide +kernel) fun t hf y => ?_
  refine (congrFun (after_11 m c t) y).trans ?_
  exact (idxTile_row m c 2 (by decide) t y).trans (congrArg (fun r => BitVec.ofNat 32 (picR m c r 2).val) (place_11 t y).1.symm)

/-- Window 12's array ends with the codeword numbers of step 3. -/
theorem final_12 : (dats m 0 c).arrAt 12 cfg0.N = arrI m c 3 := by
  refine (dats m 0 c).arrAt_eq_of_covers 12 _ (by decide +kernel) fun t hf y => ?_
  refine (congrFun (after_12 m c t) y).trans ?_
  exact (idxTile_row m c 3 (by decide) t y).trans (congrArg (fun r => BitVec.ofNat 32 (picR m c r 3).val) (place_12 t y).1.symm)

end Cert.KernelIdeal.Val

end
-- ==== Proof.KTail.lean ====
/- What the lines after the region make of its result arrays. -/
module

public import proofs.«01_k».proof.Proof.KArr
public import proofs.«01_k».proof.Proof.Launch
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rvq

open Cert.ReferenceIdeal.Val (pos rowR cb ltR)

variable (m : (ℓ : Loc nD τ sig) → Buf (Elt Ideal) ℓ) (c : Dev nD)
/-- The array of a window, as the lines after the region find it. -/
theorem arr_found (w : Fin 14) : Pipeline.withArrays spec0 c (V0 m c) (fun w => (dats m 0 c).arrAt w cfg0.N) (Proc.devRef .tc (Pipeline.arrRef spec0 w)) = (dats m 0 c).arrAt w cfg0.N :=
  Pipeline.withArrays_arr spec0 winFacts0.arr_inj c _ _ w

/-! ### The results -/

section
variable (V : Valuation τ sig (Elt Ideal))
/-- What the lines after the region make of the region's array in main_v7. -/
theorem tail_main_v7 : StableHlo.after hostOps1 V (Proc.devRef .tc main_v7) = transpose S4x64x24x24 [0, 3, 1, 2] (shapeCast S4x24x24x64 (V (Proc.devRef .tc main_v5_0) : FVec Ideal S2304x64 .f32) shapeCasts_S2304x64_S4x24x24x64) transposes_S4x24x24x64_S4x64x24x24_0_3_1_2 := by
  after_results
  rfl
/-- What the lines after the region make of the region's array in main_v10. -/
theorem tail_main_v10 : StableHlo.after hostOps1 V (Proc.devRef .tc main_v10) = Host.divf (mulf (F := Ideal) (s := S_) (φ := .f32) (constant (F := Ideal) S_ .f32 0x3FA00000#32) (Host.reduceAdd (V (Proc.devRef .tc main_v5_9) : FVec Ideal S18x1x1 .f32) (constant (F := Ideal) S_ .f32 0x00000000#32) reducesTo_S18x1x1_S_d0_1_2 h_S_)) (constant (F := Ideal) S_ .f32 0x48100000#32) := by
  after_results
/-- What the lines after the region make of the region's array in main_v11. -/
theorem tail_main_v11 : StableHlo.after hostOps1 V (Proc.devRef .tc main_v11) = shapeCast S4x24x24 (V (Proc.devRef .tc main_v5_5) : IVec S2304x1 32) shapeCasts_S2304x1_S4x24x24 := by
  after_results
  rfl
/-- What the lines after the region make of the region's array in main_v12. -/
theorem tail_main_v12 : StableHlo.after hostOps1 V (Proc.devRef .tc main_v12) = shapeCast S4x24x24 (V (Proc.devRef .tc main_v5_6) : IVec S2304x1 32) shapeCasts_S2304x1_S4x24x24 := by
  after_results
  rfl
/-- What the lines after the region make of the region's array in main_v13. -/
theorem tail_main_v13 : StableHlo.after hostOps1 V (Proc.devRef .tc main_v13) = shapeCast S4x24x24 (V (Proc.devRef .tc main_v5_7) : IVec S2304x1 32) shapeCasts_S2304x1_S4x24x24 := by
  after_results
  rfl
/-- What the lines after the region make of the region's array in main_v14. -/
theorem tail_main_v14 : StableHlo.after hostOps1 V (Proc.devRef .tc main_v14) = shapeCast S4x24x24 (V (Proc.devRef .tc main_v5_8) : IVec S2304x1 32) shapeCasts_S2304x1_S4x24x24 := by
  after_results
  rfl
/-- What the lines after the region make of the region's array in main_v15. -/
theorem tail_main_v15 : StableHlo.after hostOps1 V (Proc.devRef .tc main_v15) = shapeCast S4x24x24x8192 (V (Proc.devRef .tc main_v5_1) : FVec Ideal S2304x8192 .f32) shapeCasts_S2304x8192_S4x24x24x8192 := by
  after_results
  rfl
/-- What the lines after the region make of the region's array in main_v16. -/
theorem tail_main_v16 : StableHlo.after hostOps1 V (Proc.devRef .tc main_v16) = shapeCast S4x24x24x8192 (V (Proc.devRef .tc main_v5_2) : FVec Ideal S2304x8192 .f32) shapeCasts_S2304x8192_S4x24x24x8192 := by
  after_results
  rfl
/-- What the lines after the region make of the region's array in main_v17. -/
theorem tail_main_v17 : StableHlo.after hostOps1 V (Proc.devRef .tc main_v17) = shapeCast S4x24x24x8192 (V (Proc.devRef .tc main_v5_3) : FVec Ideal S2304x8192 .f32) shapeCasts_S2304x8192_S4x24x24x8192 := by
  after_results
  rfl
/-- What the lines after the region make of the region's array in main_v18. -/
theorem tail_main_v18 : StableHlo.after hostOps1 V (Proc.devRef .tc main_v18) = shapeCast S4x24x24x8192 (V (Proc.devRef .tc main_v5_4) : FVec Ideal S2304x8192 .f32) shapeCasts_S2304x8192_S4x24x24x8192 := by
  after_results
  rfl
end

end Cert.KernelIdeal.Val

end
-- ==== Proof.Loss.lean ====
/- The loss: the scaled sum of the tiles' squared errors is the sum of the steps' two mean squared errors. -/
module

public import proofs.«01_k».proof.Proof.Spec

@[expose] public section

noncomputable section

namespace Cert.Rvq

open Idealize.ShloMosaic

/-- A square is not negative. -/
theorem sq_nonneg' (x : EReal) : 0 ≤ x * x := by
  induction x with
  | bot => simp
  | coe x => exact_mod_cast mul_self_nonneg x
  | top => simp
/-- A row's squared error is not negative. -/
theorem err_nonneg (C : Fin 8192 → Fin 64 → EReal) (lt : Nat → Fin 8192 → EReal) (f : Fin 64 → EReal) (s : Nat) : 0 ≤ err C lt f s :=
  Finset.sum_nonneg fun k _ => sq_nonneg' _

/-- The literal 1.25. -/
theorem ofBits_five_quarters : Ideal.ofBits .f32 0x3FA00000#32 = ((5 / 4 : ℝ) : EReal) := by
  have : Ideal.ofBits .f32 0x3FA00000#32 = ((1 * ((2 ^ 23 + 2097152 : Nat) : ℝ) * (2 : ℝ) ^ ((127 : Int) - 127 - 23) : ℝ) : EReal) := by
    simp [Ideal.ofBits, Ideal.ieee]
  rw [this]
  congr 1
  norm_num [zpow_neg]
/-- The literal 0.25. -/
theorem ofBits_quarter : Ideal.ofBits .f32 0x3E800000#32 = ((1 / 4 : ℝ) : EReal) := by
  have : Ideal.ofBits .f32 0x3E800000#32 = ((1 * ((2 ^ 23 + 0 : Nat) : ℝ) * (2 : ℝ) ^ ((125 : Int) - 127 - 23) : ℝ) : EReal) := by
    simp [Ideal.ofBits, Ideal.ieee]
  rw [this]
  congr 1
  norm_num [zpow_neg]
/-- The literal 147456. -/
theorem ofBits_count : Ideal.ofBits .f32 0x48100000#32 = ((147456 : ℝ) : EReal) := by
  have : Ideal.ofBits .f32 0x48100000#32 = ((1 * ((2 ^ 23 + 1048576 : Nat) : ℝ) * (2 : ℝ) ^ ((144 : Int) - 127 - 23) : ℝ) : EReal) := by
    simp [Ideal.ofBits, Ideal.ieee]
  rw [this]
  congr 1
  norm_num [zpow_neg]

/-- Division by a nonzero real is multiplication by its inverse. -/
theorem div_real (x : EReal) (n : ℝ) (hn : n ≠ 0) : Ideal.div x (n : EReal) = x * ((n⁻¹ : ℝ) : EReal) := by
  unfold Ideal.div
  rw [if_neg (by exact_mod_cast hn), EReal.coe_inv]

/-- Five quarters of a sum over `n`, summand by summand. -/
theorem loss_eq (T0 T1 T2 T3 : EReal) (h0 : 0 ≤ T0) (h1 : 0 ≤ T1) (h2 : 0 ≤ T2) (h3 : 0 ≤ T3) (n : ℝ) (hn : 0 < n) :
    Ideal.div (((5 / 4 : ℝ) : EReal) * (T0 + T1 + T2 + T3)) (n : EReal)
      = ((((0 + Ideal.div T0 (n : EReal)) + ((1 / 4 : ℝ) : EReal) * Ideal.div T0 (n : EReal) + Ideal.div T1 (n : EReal)) + ((1 / 4 : ℝ) : EReal) * Ideal.div T1 (n : EReal)
          + Ideal.div T2 (n : EReal)) + ((1 / 4 : ℝ) : EReal) * Ideal.div T2 (n : EReal) + Ideal.div T3 (n : EReal)) + ((1 / 4 : ℝ) : EReal) * Ideal.div T3 (n : EReal) := by
  simp only [div_real _ n hn.ne']
  have lift : ∀ x : EReal, 0 ≤ x → ∃ y : ENNReal, x = (y : EReal) := fun x hx => ⟨x.toENNReal, (EReal.coe_toENNReal hx).symm⟩
  have liftR : ∀ r : ℝ, 0 ≤ r → ((r : ℝ) : EReal) = ((ENNReal.ofReal r : ENNReal) : EReal) := fun r hr => by
    rw [EReal.coe_ennreal_ofReal, max_eq_left hr]
  obtain ⟨t0, rfl⟩ := lift T0 h0
  obtain ⟨t1, rfl⟩ := lift T1 h1
  obtain ⟨t2, rfl⟩ := lift T2 h2
  obtain ⟨t3, rfl⟩ := lift T3 h3
  rw [liftR (5 / 4) (by norm_num), liftR (1 / 4) (by norm_num), liftR n⁻¹ (inv_nonneg.mpr hn.le)]
  have e : ENNReal.ofReal (5 / 4) = 1 + ENNReal.ofReal (1 / 4) := by
    rw [show (5 / 4 : ℝ) = 1 + 1 / 4 by norm_num, ENNReal.ofReal_add (by norm_num) (by norm_num), ENNReal.ofReal_one]
  rw [e]
  generalize ENNReal.ofReal (1 / 4) = q
  generalize ENNReal.ofReal n⁻¹ = i
  norm_cast
  ring

/-- A sum over the rows, tile by tile. -/
theorem sum_tiles (g : Fin 2304 → EReal) : ∑ q : Fin 18, ∑ r : Fin 128, g ⟨128 * q.val + r.val, by omega⟩ = ∑ r, g r := by
  let e : Fin 2304 ≃ Fin 18 × Fin 128 :=
    { toFun := fun r => (⟨r.val / 128, by omega⟩, ⟨r.val % 128, by omega⟩)
      invFun := fun p => ⟨128 * p.1.val + p.2.val, by have h1 := p.1.isLt; have h2 := p.2.isLt; omega⟩
      left_inv := fun r => Fin.ext (by show 128 * (r.val / 128) + r.val % 128 = r.val; omega)
      right_inv := fun p => by
        have h1 := p.1.isLt; have h2 := p.2.isLt
        refine Prod.ext (Fin.ext ?_) (Fin.ext ?_)
        · show (128 * p.1.val + p.2.val) / 128 = p.1.val; omega
        · show (128 * p.1.val + p.2.val) % 128 = p.2.val; omega }
  rw [← Fintype.sum_prod_type' fun (q : Fin 18) (r : Fin 128) => g ⟨128 * q.val + r.val, by omega⟩]
  exact Fintype.sum_equiv e.symm _ _ fun p => rfl

end Cert.Rvq

end
-- ==== Proof.KRes.lean ====
/- The lines after the region make the reference's results of the region's arrays. -/
module

public import proofs.«01_k».proof.Proof.KArr
public import proofs.«01_k».proof.Proof.Loss
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rvq

open Cert.ReferenceIdeal.Val (pos rowR cb ltR)
open Cert.ReferenceIdeal.Read

variable (m : (ℓ : Loc nD τ sig) → Buf (Elt Ideal) ℓ) (c : Dev nD)

/-! ### The lines after the region make the reference's results -/

/-- The place of a row's entry, from its four coordinates. -/
theorem pos_of (j0 : Fin 4) (j1 : Fin 64) (j2 j3 : Fin 24) :
    pos ⟨j0.val * 576 + j2.val * 24 + j3.val, by omega⟩ j1 = (ix4 j0 j1 j2 j3 : Cert.ReferenceIdeal.S4x64x24x24.Idx) := by
  have e0 : (⟨(j0.val * 576 + j2.val * 24 + j3.val) / 576, by omega⟩ : Fin 4) = j0 := Fin.ext (by dsimp only; omega)
  have e2 : (⟨(j0.val * 576 + j2.val * 24 + j3.val) / 24 % 24, by omega⟩ : Fin 24) = j2 := Fin.ext (by dsimp only; omega)
  have e3 : (⟨(j0.val * 576 + j2.val * 24 + j3.val) % 24, by omega⟩ : Fin 24) = j3 := Fin.ext (by dsimp only; omega)
  show (ix4 (⟨(j0.val * 576 + j2.val * 24 + j3.val) / 576, by omega⟩ : Fin 4) j1 (⟨(j0.val * 576 + j2.val * 24 + j3.val) / 24 % 24, by omega⟩ : Fin 24)
    (⟨(j0.val * 576 + j2.val * 24 + j3.val) % 24, by omega⟩ : Fin 24) : Cert.ReferenceIdeal.S4x64x24x24.Idx) = _
  rw [e0, e2, e3]
/-- The quantised vectors. -/
theorem res_main_v7 : transpose S4x64x24x24 [0, 3, 1, 2] (shapeCast S4x24x24x64 (arrQ m c : FVec Ideal S2304x64 .f32) shapeCasts_S2304x64_S4x24x24x64) transposes_S4x24x24x64_S4x64x24x24_0_3_1_2
    = val_main_v571 (F := Ideal) (X0 m c) (X1 m c) := by
  funext j
  idx_vars j
  generalize hA : (arrQ m c : FVec Ideal S2304x64 .f32) = A
  simp only [pointwise]
  subst hA
  refine Eq.trans (Cert.ReferenceIdeal.Val.Q (X0 m c) (X1 m c) _ _).symm ?_
  refine congrArg (val_main_v571 (F := Ideal) (X0 m c) (X1 m c)) ?_
  exact pos_of j0 j1 j2 j3

/-- The soft targets of a step. -/
theorem res_main_v15 : shapeCast S4x24x24x8192 (arrP m c 0 : FVec Ideal S2304x8192 .f32) shapeCasts_S2304x8192_S4x24x24x8192 = val_main_v400 (F := Ideal) (X0 m c) (X1 m c) := by
  have e : (arrP m c 0 : FVec Ideal S2304x8192 .f32) = val_main_v399 (F := Ideal) (X0 m c) (X1 m c) := by
    funext j
    idx_vars j
    exact (Cert.ReferenceIdeal.Val.P0 (X0 m c) (X1 m c) j0 j1).symm
  rw [e]
  unfold val_main_v400
  with_reducible rfl

/-- The soft targets of a step. -/
theorem res_main_v16 : shapeCast S4x24x24x8192 (arrP m c 1 : FVec Ideal S2304x8192 .f32) shapeCasts_S2304x8192_S4x24x24x8192 = val_main_v454 (F := Ideal) (X0 m c) (X1 m c) := by
  have e : (arrP m c 1 : FVec Ideal S2304x8192 .f32) = val_main_v453 (F := Ideal) (X0 m c) (X1 m c) := by
    funext j
    idx_vars j
    exact (Cert.ReferenceIdeal.Val.P1 (X0 m c) (X1 m c) j0 j1).symm
  rw [e]
  unfold val_main_v454
  with_reducible rfl

/-- The soft targets of a step. -/
theorem res_main_v17 : shapeCast S4x24x24x8192 (arrP m c 2 : FVec Ideal S2304x8192 .f32) shapeCasts_S2304x8192_S4x24x24x8192 = val_main_v508 (F := Ideal) (X0 m c) (X1 m c) := by
  have e : (arrP m c 2 : FVec Ideal S2304x8192 .f32) = val_main_v507 (F := Ideal) (X0 m c) (X1 m c) := by
    funext j
    idx_vars j
    exact (Cert.ReferenceIdeal.Val.P2 (X0 m c) (X1 m c) j0 j1).symm
  rw [e]
  unfold val_main_v508
  with_reducible rfl

/-- The soft targets of a step. -/
theorem res_main_v18 : shapeCast S4x24x24x8192 (arrP m c 3 : FVec Ideal S2304x8192 .f32) shapeCasts_S2304x8192_S4x24x24x8192 = val_main_v562 (F := Ideal) (X0 m c) (X1 m c) := by
  have e : (arrP m c 3 : FVec Ideal S2304x8192 .f32) = val_main_v561 (F := Ideal) (X0 m c) (X1 m c) := by
    funext j
    idx_vars j
    exact (Cert.ReferenceIdeal.Val.P3 (X0 m c) (X1 m c) j0 j1).symm
  rw [e]
  unfold val_main_v562
  with_reducible rfl

/-- The codeword numbers of a step. -/
theorem res_main_v11 : shapeCast S4x24x24 (arrI m c 0 : IVec S2304x1 32) shapeCasts_S2304x1_S4x24x24 = val_main_v411 (F := Ideal) (X0 m c) (X1 m c) := by
  funext j
  idx_vars j
  unfold val_main_v411
  have e := Cert.ReferenceIdeal.Val.I0 (X0 m c) (X1 m c)
  generalize val_main_v404 (F := Ideal) (X0 m c) (X1 m c) = B at e ⊢
  generalize hA : (arrI m c 0 : IVec S2304x1 32) = A
  simp only [pointwise]
  subst hA
  rw [e]
  rfl

/-- The codeword numbers of a step. -/
theorem res_main_v12 : shapeCast S4x24x24 (arrI m c 1 : IVec S2304x1 32) shapeCasts_S2304x1_S4x24x24 = val_main_v465 (F := Ideal) (X0 m c) (X1 m c) := by
  funext j
  idx_vars j
  unfold val_main_v465
  have e := Cert.ReferenceIdeal.Val.I1 (X0 m c) (X1 m c)
  generalize val_main_v458 (F := Ideal) (X0 m c) (X1 m c) = B at e ⊢
  generalize hA : (arrI m c 1 : IVec S2304x1 32) = A
  simp only [pointwise]
  subst hA
  rw [e]
  rfl

/-- The codeword numbers of a step. -/
theorem res_main_v13 : shapeCast S4x24x24 (arrI m c 2 : IVec S2304x1 32) shapeCasts_S2304x1_S4x24x24 = val_main_v519 (F := Ideal) (X0 m c) (X1 m c) := by
  funext j
  idx_vars j
  unfold val_main_v519
  have e := Cert.ReferenceIdeal.Val.I2 (X0 m c) (X1 m c)
  generalize val_main_v512 (F := Ideal) (X0 m c) (X1 m c) = B at e ⊢
  generalize hA : (arrI m c 2 : IVec S2304x1 32) = A
  simp only [pointwise]
  subst hA
  rw [e]
  rfl

/-- The codeword numbers of a step. -/
theorem res_main_v14 : shapeCast S4x24x24 (arrI m c 3 : IVec S2304x1 32) shapeCasts_S2304x1_S4x24x24 = val_main_v573 (F := Ideal) (X0 m c) (X1 m c) := by
  funext j
  idx_vars j
  unfold val_main_v573
  have e := Cert.ReferenceIdeal.Val.I3 (X0 m c) (X1 m c)
  generalize val_main_v566 (F := Ideal) (X0 m c) (X1 m c) = B at e ⊢
  generalize hA : (arrI m c 3 : IVec S2304x1 32) = A
  simp only [pointwise]
  subst hA
  rw [e]
  rfl

/-- The tiles' losses sum to the steps' squared errors. -/
theorem sum_tileLoss : ∑ q : Fin 18, tileLoss m c q = Cert.ReferenceIdeal.Val.sq (X0 m c) (X1 m c) 0 + Cert.ReferenceIdeal.Val.sq (X0 m c) (X1 m c) 1
    + Cert.ReferenceIdeal.Val.sq (X0 m c) (X1 m c) 2 + Cert.ReferenceIdeal.Val.sq (X0 m c) (X1 m c) 3 := by
  have e : ∀ s, ∑ q : Fin 18, ∑ r : Fin 128, errR m c ⟨128 * q.val + r.val, by omega⟩ s = Cert.ReferenceIdeal.Val.sq (X0 m c) (X1 m c) s :=
    fun s => sum_tiles fun r => errR m c r s
  unfold tileLoss
  rw [Finset.sum_comm]
  simp only [e, Finset.sum_range_succ, Finset.sum_range_zero, zero_add]
/-- The loss. -/
theorem res_main_v10 : Host.divf (mulf (F := Ideal) (s := S_) (φ := .f32) (constant (F := Ideal) S_ .f32 0x3FA00000#32) (Host.reduceAdd (arrL m c : FVec Ideal S18x1x1 .f32) (constant (F := Ideal) S_ .f32 0x00000000#32) reducesTo_S18x1x1_S_d0_1_2 h_S_)) (constant (F := Ideal) S_ .f32 0x48100000#32)
    = val_main_v585 (F := Ideal) (X0 m c) (X1 m c) := by
  funext j
  rw [Cert.ReferenceIdeal.Val.L (X0 m c) (X1 m c) j]
  have hs : ∀ s, 0 ≤ Cert.ReferenceIdeal.Val.sq (X0 m c) (X1 m c) s := fun s => Finset.sum_nonneg fun r _ => err_nonneg _ _ _ _
  have e := sum_tileLoss m c
  rw [ofBits_quarter, ofBits_count, ← loss_eq _ _ _ _ (hs 0) (hs 1) (hs 2) (hs 3) 147456 (by norm_num), ← e, ← ofBits_five_quarters, ← ofBits_count]
  generalize hA : (arrL m c : FVec Ideal S18x1x1 .f32) = A
  simp only [pointwise]
  rw [zero_add]
  subst hA
  simp only [Fin.sum_univ_one]
  rfl

end Cert.KernelIdeal.Val

end
-- ==== Proof.KEnd.lean ====
/- The kernel's run ends with the reference's results. -/
module

public import proofs.«01_k».proof.Proof.KArrQ
public import proofs.«01_k».proof.Proof.KArrP
public import proofs.«01_k».proof.Proof.KArrI
public import proofs.«01_k».proof.Proof.KArrJ
public import proofs.«01_k».proof.Proof.KTail
public import proofs.«01_k».proof.Proof.KRes
public import Idealize.ShloMosaic.Lib.Claim
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Rvq

open Cert.ReferenceIdeal.Val (pos rowR cb ltR)
open Cert.ReferenceIdeal.Read

variable (m : (ℓ : Loc nD τ sig) → Buf (Elt Ideal) ℓ) (ρ : Dev nD → PrngReg) (c : Dev nD)

/-! ### The results after the run -/

/-- What the run leaves in main_v7 is the reference's result. -/
theorem end_main_v7 : Pipeline.afterTail₀ cfgs (dats m) 0 (V0 m) [hostOps1] c main_v7 = val_main_v571 (F := Ideal) (X0 m c) (X1 m c) := by
  unfold Pipeline.afterTail₀
  refine (tail_main_v7 _).trans ?_
  exact (congrArg (fun x : FVec Ideal S2304x64 .f32 => transpose S4x64x24x24 [0, 3, 1, 2] (shapeCast S4x24x24x64 x shapeCasts_S2304x64_S4x24x24x64) transposes_S4x24x24x64_S4x64x24x24_0_3_1_2) ((arr_found m c 4).trans (final_4 m c))).trans (res_main_v7 m c)

/-- What the run leaves in main_v10 is the reference's result. -/
theorem end_main_v10 : Pipeline.afterTail₀ cfgs (dats m) 0 (V0 m) [hostOps1] c main_v10 = val_main_v585 (F := Ideal) (X0 m c) (X1 m c) := by
  unfold Pipeline.afterTail₀
  refine (tail_main_v10 _).trans ?_
  exact (congrArg (fun x : FVec Ideal S18x1x1 .f32 => Host.divf (mulf (F := Ideal) (s := S_) (φ := .f32) (constant (F := Ideal) S_ .f32 0x3FA00000#32) (Host.reduceAdd x (constant (F := Ideal) S_ .f32 0x00000000#32) reducesTo_S18x1x1_S_d0_1_2 h_S_)) (constant (F := Ideal) S_ .f32 0x48100000#32)) ((arr_found m c 13).trans (final_13 m c))).trans (res_main_v10 m c)

/-- What the run leaves in main_v11 is the reference's result. -/
theorem end_main_v11 : Pipeline.afterTail₀ cfgs (dats m) 0 (V0 m) [hostOps1] c main_v11 = val_main_v411 (F := Ideal) (X0 m c) (X1 m c) := by
  unfold Pipeline.afterTail₀
  refine (tail_main_v11 _).trans ?_
  exact (congrArg (fun x : IVec S2304x1 32 => shapeCast S4x24x24 x shapeCasts_S2304x1_S4x24x24) ((arr_found m c 9).trans (final_9 m c))).trans (res_main_v11 m c)

/-- What the run leaves in main_v12 is the reference's result. -/
theorem end_main_v12 : Pipeline.afterTail₀ cfgs (dats m) 0 (V0 m) [hostOps1] c main_v12 = val_main_v465 (F := Ideal) (X0 m c) (X1 m c) := by
  unfold Pipeline.afterTail₀
  refine (tail_main_v12 _).trans ?_
  exact (congrArg (fun x : IVec S2304x1 32 => shapeCast S4x24x24 x shapeCasts_S2304x1_S4x24x24) ((arr_found m c 10).trans (final_10 m c))).trans (res_main_v12 m c)

/-- What the run leaves in main_v13 is the reference's result. -/
theorem end_main_v13 : Pipeline.afterTail₀ cfgs (dats m) 0 (V0 m) [hostOps1] c main_v13 = val_main_v519 (F := Ideal) (X0 m c) (X1 m c) := by
  unfold Pipeline.afterTail₀
  refine (tail_main_v13 _).trans ?_
  exact (congrArg (fun x : IVec S2304x1 32 => shapeCast S4x24x24 x shapeCasts_S2304x1_S4x24x24) ((arr_found m c 11).trans (final_11 m c))).trans (res_main_v13 m c)

/-- What the run leaves in main_v14 is the reference's result. -/
theorem end_main_v14 : Pipeline.afterTail₀ cfgs (dats m) 0 (V0 m) [hostOps1] c main_v14 = val_main_v573 (F := Ideal) (X0 m c) (X1 m c) := by
  unfold Pipeline.afterTail₀
  refine (tail_main_v14 _).trans ?_
  exact (congrArg (fun x : IVec S2304x1 32 => shapeCast S4x24x24 x shapeCasts_S2304x1_S4x24x24) ((arr_found m c 12).trans (final_12 m c))).trans (res_main_v14 m c)

/-- What the run leaves in main_v15 is the reference's result. -/
theorem end_main_v15 : Pipeline.afterTail₀ cfgs (dats m) 0 (V0 m) [hostOps1] c main_v15 = val_main_v400 (F := Ideal) (X0 m c) (X1 m c) := by
  unfold Pipeline.afterTail₀
  refine (tail_main_v15 _).trans ?_
  exact (congrArg (fun x : FVec Ideal S2304x8192 .f32 => shapeCast S4x24x24x8192 x shapeCasts_S2304x8192_S4x24x24x8192) ((arr_found m c 5).trans (final_5 m c))).trans (res_main_v15 m c)

/-- What the run leaves in main_v16 is the reference's result. -/
theorem end_main_v16 : Pipeline.afterTail₀ cfgs (dats m) 0 (V0 m) [hostOps1] c main_v16 = val_main_v454 (F := Ideal) (X0 m c) (X1 m c) := by
  unfold Pipeline.afterTail₀
  refine (tail_main_v16 _).trans ?_
  exact (congrArg (fun x : FVec Ideal S2304x8192 .f32 => shapeCast S4x24x24x8192 x shapeCasts_S2304x8192_S4x24x24x8192) ((arr_found m c 6).trans (final_6 m c))).trans (res_main_v16 m c)

/-- What the run leaves in main_v17 is the reference's result. -/
theorem end_main_v17 : Pipeline.afterTail₀ cfgs (dats m) 0 (V0 m) [hostOps1] c main_v17 = val_main_v508 (F := Ideal) (X0 m c) (X1 m c) := by
  unfold Pipeline.afterTail₀
  refine (tail_main_v17 _).trans ?_
  exact (congrArg (fun x : FVec Ideal S2304x8192 .f32 => shapeCast S4x24x24x8192 x shapeCasts_S2304x8192_S4x24x24x8192) ((arr_found m c 7).trans (final_7 m c))).trans (res_main_v17 m c)

/-- What the run leaves in main_v18 is the reference's result. -/
theorem end_main_v18 : Pipeline.afterTail₀ cfgs (dats m) 0 (V0 m) [hostOps1] c main_v18 = val_main_v562 (F := Ideal) (X0 m c) (X1 m c) := by
  unfold Pipeline.afterTail₀
  refine (tail_main_v18 _).trans ?_
  exact (congrArg (fun x : FVec Ideal S2304x8192 .f32 => shapeCast S4x24x24x8192 x shapeCasts_S2304x8192_S4x24x24x8192) ((arr_found m c 8).trans (final_8 m c))).trans (res_main_v18 m c)

/-- The kernel's run ends with the reference's results and its arguments unchanged. -/
theorem kernel_run : θ_run defs (onTc (τ := τ) (main (F := Ideal))) ⟨m, fun _ => 0, ρ⟩ (fun r => ∀ c : Dev nD,
      r.2.mem ((c.tc : Thread nD τ).loc main_v7) = val_main_v571 (F := Ideal) (X0 m c) (X1 m c)
      ∧ r.2.mem ((c.tc : Thread nD τ).loc main_v10) = val_main_v585 (F := Ideal) (X0 m c) (X1 m c)
      ∧ r.2.mem ((c.tc : Thread nD τ).loc main_v11) = val_main_v411 (F := Ideal) (X0 m c) (X1 m c)
      ∧ r.2.mem ((c.tc : Thread nD τ).loc main_v12) = val_main_v465 (F := Ideal) (X0 m c) (X1 m c)
      ∧ r.2.mem ((c.tc : Thread nD τ).loc main_v13) = val_main_v519 (F := Ideal) (X0 m c) (X1 m c)
      ∧ r.2.mem ((c.tc : Thread nD τ).loc main_v14) = val_main_v573 (F := Ideal) (X0 m c) (X1 m c)
      ∧ r.2.mem ((c.tc : Thread nD τ).loc main_v15) = val_main_v400 (F := Ideal) (X0 m c) (X1 m c)
      ∧ r.2.mem ((c.tc : Thread nD τ).loc main_v16) = val_main_v454 (F := Ideal) (X0 m c) (X1 m c)
      ∧ r.2.mem ((c.tc : Thread nD τ).loc main_v17) = val_main_v508 (F := Ideal) (X0 m c) (X1 m c)
      ∧ r.2.mem ((c.tc : Thread nD τ).loc main_v18) = val_main_v562 (F := Ideal) (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1.1.rest_eq c main_v7 (by decide)).trans (end_main_v7 m c),
      (h.1.1.rest_eq c main_v10 (by decide)).trans (end_main_v10 m c),
      (h.1.1.rest_eq c main_v11 (by decide)).trans (end_main_v11 m c),
      (h.1.1.rest_eq c main_v12 (by decide)).trans (end_main_v12 m c),
      (h.1.1.rest_eq c main_v13 (by decide)).trans (end_main_v13 m c),
      (h.1.1.rest_eq c main_v14 (by decide)).trans (end_main_v14 m c),
      (h.1.1.rest_eq c main_v15 (by decide)).trans (end_main_v15 m c),
      (h.1.1.rest_eq c main_v16 (by decide)).trans (end_main_v16 m c),
      (h.1.1.rest_eq c main_v17 (by decide)).trans (end_main_v17 m c),
      (h.1.1.rest_eq c main_v18 (by decide)).trans (end_main_v18 m c),
      (h.2.1 c).1, (h.2.1 c).2⟩) (θ_run_and (run_main m ρ) (frame_main m ρ))

end Cert.KernelIdeal.Val

end
-- ==== Proof.REnd.lean ====
/- The reference's run: its results, its arguments and its counters. -/
module

public import proofs.«01_k».proof.Proof.Gen.ReferenceIdeal.Run
public import proofs.«01_k».proof.Proof.Gen.ReferenceIdeal.Read
public import Idealize.ShloMosaic.Lib.Claim
public import Idealize.ShloMosaic.Lib.Quiescent

@[expose] public section

set_option maxRecDepth 16384

noncomputable section

namespace Cert.ReferenceIdeal.Val

open Idealize.ShloMosaic Idealize.ShloMosaic.TcCoe Idealize.SL.Sem Idealize.ShloMosaic.StableHlo
open Cert.ReferenceIdeal Cert.ReferenceIdeal.Gen Cert.ReferenceIdeal.Read

variable (m : (ℓ : Loc nD τ sig) → Buf (Elt Ideal) ℓ) (ρ : Dev nD → PrngReg)

/-- The reference ends with its arguments unchanged and every counter at zero. -/
theorem frame_ref : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2.2.2.2.2.2.2.2, sem_eq_zero_of_no_sems (by decide) r.2⟩) (Cert.ReferenceIdeal.Value.run m ρ)

/-- The reference's run, its results as the stages of its arguments. -/
theorem ref_run : θ_run defs (onTc (τ := τ) (main (F := Ideal))) ⟨m, fun _ => 0, ρ⟩ (fun r => ∀ c : Dev nD,
      r.2.mem ((c.tc : Thread nD τ).loc main_v571) = val_main_v571 (F := Ideal) (m ((c.tc : Thread nD τ).loc main_arg0)) (m ((c.tc : Thread nD τ).loc main_arg1))
      ∧ r.2.mem ((c.tc : Thread nD τ).loc main_v585) = val_main_v585 (F := Ideal) (m ((c.tc : Thread nD τ).loc main_arg0)) (m ((c.tc : Thread nD τ).loc main_arg1))
      ∧ r.2.mem ((c.tc : Thread nD τ).loc main_v411) = val_main_v411 (F := Ideal) (m ((c.tc : Thread nD τ).loc main_arg0)) (m ((c.tc : Thread nD τ).loc main_arg1))
      ∧ r.2.mem ((c.tc : Thread nD τ).loc main_v465) = val_main_v465 (F := Ideal) (m ((c.tc : Thread nD τ).loc main_arg0)) (m ((c.tc : Thread nD τ).loc main_arg1))
      ∧ r.2.mem ((c.tc : Thread nD τ).loc main_v519) = val_main_v519 (F := Ideal) (m ((c.tc : Thread nD τ).loc main_arg0)) (m ((c.tc : Thread nD τ).loc main_arg1))
      ∧ r.2.mem ((c.tc : Thread nD τ).loc main_v573) = val_main_v573 (F := Ideal) (m ((c.tc : Thread nD τ).loc main_arg0)) (m ((c.tc : Thread nD τ).loc main_arg1))
      ∧ r.2.mem ((c.tc : Thread nD τ).loc main_v400) = val_main_v400 (F := Ideal) (m ((c.tc : Thread nD τ).loc main_arg0)) (m ((c.tc : Thread nD τ).loc main_arg1))
      ∧ r.2.mem ((c.tc : Thread nD τ).loc main_v454) = val_main_v454 (F := Ideal) (m ((c.tc : Thread nD τ).loc main_arg0)) (m ((c.tc : Thread nD τ).loc main_arg1))
      ∧ r.2.mem ((c.tc : Thread nD τ).loc main_v508) = val_main_v508 (F := Ideal) (m ((c.tc : Thread nD τ).loc main_arg0)) (m ((c.tc : Thread nD τ).loc main_arg1))
      ∧ r.2.mem ((c.tc : Thread nD τ).loc main_v562) = val_main_v562 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨h0, h1, h2, h3, h4, h5, h6, h7, h8, h9, ha, hb⟩ := h c
    exact ⟨h0.trans (val_main_v571_eq (launchContents m c)),
      h1.trans (val_main_v585_eq (launchContents m c)),
      h2.trans (val_main_v411_eq (launchContents m c)),
      h3.trans (val_main_v465_eq (launchContents m c)),
      h4.trans (val_main_v519_eq (launchContents m c)),
      h5.trans (val_main_v573_eq (launchContents m c)),
      h6.trans (val_main_v400_eq (launchContents m c)),
      h7.trans (val_main_v454_eq (launchContents m c)),
      h8.trans (val_main_v508_eq (launchContents m c)),
      h9.trans (val_main_v562_eq (launchContents m c)), ha, hb⟩) (Cert.ReferenceIdeal.Value.run m ρ)

end Cert.ReferenceIdeal.Val

end
-- ==== Proof.lean ====
/- The proof of the claims about the kernel, its idealisation and the reference: the frames and the equality of all ten results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.K.Launch
public import proofs.«01_k».proof.Proof.KEnd
public import proofs.«01_k».proof.Proof.REnd
public import Idealize.ShloMosaic.Adequacy
public import Idealize.ShloMosaic.Init

@[expose] public section

noncomputable section

namespace Cert.Proof

open Idealize.ShloMosaic Idealize.SL.Sem

/-- Both programs end with the reference's results of the launched arguments. -/
theorem algebraic : Cert.algebraic_KernelIdeal_ReferenceIdeal := by
  intro m g m' g' _ hagree
  refine ⟨fun c => Cert.ReferenceIdeal.Read.val_main_v571 (F := Ideal) (Cert.KernelIdeal.Val.X0 m c) (Cert.KernelIdeal.Val.X1 m c),
    fun c => Cert.ReferenceIdeal.Read.val_main_v585 (F := Ideal) (Cert.KernelIdeal.Val.X0 m c) (Cert.KernelIdeal.Val.X1 m c),
    fun c => Cert.ReferenceIdeal.Read.val_main_v411 (F := Ideal) (Cert.KernelIdeal.Val.X0 m c) (Cert.KernelIdeal.Val.X1 m c),
    fun c => Cert.ReferenceIdeal.Read.val_main_v465 (F := Ideal) (Cert.KernelIdeal.Val.X0 m c) (Cert.KernelIdeal.Val.X1 m c),
    fun c => Cert.ReferenceIdeal.Read.val_main_v519 (F := Ideal) (Cert.KernelIdeal.Val.X0 m c) (Cert.KernelIdeal.Val.X1 m c),
    fun c => Cert.ReferenceIdeal.Read.val_main_v573 (F := Ideal) (Cert.KernelIdeal.Val.X0 m c) (Cert.KernelIdeal.Val.X1 m c),
    fun c => Cert.ReferenceIdeal.Read.val_main_v400 (F := Ideal) (Cert.KernelIdeal.Val.X0 m c) (Cert.KernelIdeal.Val.X1 m c),
    fun c => Cert.ReferenceIdeal.Read.val_main_v454 (F := Ideal) (Cert.KernelIdeal.Val.X0 m c) (Cert.KernelIdeal.Val.X1 m c),
    fun c => Cert.ReferenceIdeal.Read.val_main_v508 (F := Ideal) (Cert.KernelIdeal.Val.X0 m c) (Cert.KernelIdeal.Val.X1 m c),
    fun c => Cert.ReferenceIdeal.Read.val_main_v562 (F := Ideal) (Cert.KernelIdeal.Val.X0 m c) (Cert.KernelIdeal.Val.X1 m c),
    Cert.KernelIdeal.Val.kernel_run m g, ?_⟩
  refine (θ_run Cert.ReferenceIdeal.defs _ _).mono (fun r h c => ?_) (Cert.ReferenceIdeal.Val.ref_run m' g')
  have h' := h c
  rw [(hagree c).1, (hagree c).2] at h' ⊢
  exact h'

/-- The claim. -/
theorem claim : Cert.Claim :=
  ⟨Cert.Kernel.Gen.facts, Cert.KernelIdeal.Gen.facts, Cert.ReferenceIdeal.Gen.facts, fun m ρ _ => Cert.Kernel.Val.frame_main m ρ,
    fun m ρ _ => Cert.KernelIdeal.Val.frame_main m ρ, fun m ρ _ => Cert.ReferenceIdeal.Val.frame_ref m ρ, trivial, algebraic⟩

end Cert.Proof

end
